-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_samples [hPre_finite_samples : Cert.Pre_finite_samples.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_samples.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_samples [hPre_finite_samples : Cert.Pre_finite_samples.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_samples.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_samples [hKernel4Ideal : Cert.Kernel4Ideal.Facts] [hPre_finite_samples : Cert.Pre_finite_samples.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_samples m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_samples [hReference4Ideal : Cert.Reference4Ideal.Facts] [hPre_finite_samples : Cert.Pre_finite_samples.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_samples m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v27)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v29)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v27) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v29) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v30) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v60) = v5 c
          ∧ r.2.mem ((c.tc : Thread Cert.Reference3Ideal.nD Cert.Reference3Ideal.τ).loc Cert.Reference3Ideal.main_v48) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_samples [hKernel4Ideal : Cert.Kernel4Ideal.Facts] [hReference4Ideal : Cert.Reference4Ideal.Facts] [hPre_finite_samples : Cert.Pre_finite_samples.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_samples m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v26)) (v1 : (c : Dev Cert.Kernel4Ideal.nD) → Buf (Elt Ideal) ((c.tc : Thread Cert.Kernel4Ideal.nD Cert.Kernel4Ideal.τ).loc Cert.Kernel4Ideal.main_v29)) (v2 : (c : Dev Cert.Kernel4Ideal.nD) → Buf (Elt Ideal) ((c.tc : Thread Cert.Kernel4Ideal.nD Cert.Kernel4Ideal.τ).loc Cert.Kernel4Ideal.main_v30)) (v3 : (c : Dev Cert.Kernel4Ideal.nD) → Buf (Elt Ideal) ((c.tc : Thread Cert.Kernel4Ideal.nD Cert.Kernel4Ideal.τ).loc Cert.Kernel4Ideal.main_v31)) (v4 : (c : Dev Cert.Kernel4Ideal.nD) → Buf (Elt Ideal) ((c.tc : Thread Cert.Kernel4Ideal.nD Cert.Kernel4Ideal.τ).loc Cert.Kernel4Ideal.main_v32)) (v5 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_v29) = v1 c
          ∧ r.2.mem ((c.tc : Thread Cert.Kernel4Ideal.nD Cert.Kernel4Ideal.τ).loc Cert.Kernel4Ideal.main_v30) = v2 c
          ∧ r.2.mem ((c.tc : Thread Cert.Kernel4Ideal.nD Cert.Kernel4Ideal.τ).loc Cert.Kernel4Ideal.main_v31) = v3 c
          ∧ r.2.mem ((c.tc : Thread Cert.Kernel4Ideal.nD Cert.Kernel4Ideal.τ).loc Cert.Kernel4Ideal.main_v32) = v4 c
          ∧ r.2.mem ((c.tc : Thread Cert.Kernel4Ideal.nD Cert.Kernel4Ideal.τ).loc Cert.Kernel4Ideal.main_v28) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_v43) = v2 c
          ∧ r.2.mem ((c.tc : Thread Cert.Reference4Ideal.nD Cert.Reference4Ideal.τ).loc Cert.Reference4Ideal.main_v56) = v3 c
          ∧ r.2.mem ((c.tc : Thread Cert.Reference4Ideal.nD Cert.Reference4Ideal.τ).loc Cert.Reference4Ideal.main_v48) = v4 c
          ∧ r.2.mem ((c.tc : Thread Cert.Reference4Ideal.nD Cert.Reference4Ideal.τ).loc Cert.Reference4Ideal.main_v57) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v110) = v0 c
          ∧ r.2.mem ((c.tc : Thread Cert.Reference5Ideal.nD Cert.Reference5Ideal.τ).loc Cert.Reference5Ideal.main_v111) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_rows : Cert.Pre_finite_rows.Facts) (hPre_finite_samples : Cert.Pre_finite_samples.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel4 (hKernel4 := hKernel4)
    ∧ quiescent_Kernel4Ideal (hKernel4Ideal := hKernel4Ideal)
    ∧ quiescent_Kernel4Ideal_pre_finite_samples (hKernel4Ideal := hKernel4Ideal) (hPre_finite_samples := hPre_finite_samples)
    ∧ quiescent_Reference4Ideal (hReference4Ideal := hReference4Ideal)
    ∧ quiescent_Reference4Ideal_pre_finite_samples (hReference4Ideal := hReference4Ideal) (hPre_finite_samples := hPre_finite_samples)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel4_Kernel4Ideal
    ∧ algebraic_Kernel4Ideal_Reference4Ideal_pre_finite_samples (hKernel4Ideal := hKernel4Ideal) (hReference4Ideal := hReference4Ideal) (hPre_finite_samples := hPre_finite_samples)
    ∧ preserves_Kernel5_Kernel5Ideal
    ∧ algebraic_Kernel5Ideal_Reference5Ideal (hKernel5Ideal := hKernel5Ideal) (hReference5Ideal := hReference5Ideal)
-- ==== Pre_finite.lean ====
abbrev S4x4096x8x64 : Shape := ⟨4, ![4, 4096, 8, 64]⟩
abbrev S4x4096x8 : Shape := ⟨3, ![4, 4096, 8]⟩
abbrev S_ : Shape := ⟨0, ![]⟩
abbrev S4x4096x8x1 : Shape := ⟨4, ![4, 4096, 8, 1]⟩

class Facts : Prop where
  bcast_S_S4x4096x8x64 : S_.BroadcastsInDim S4x4096x8x64 (![] : Fin 0 → Fin S4x4096x8x64.rank)
  bcast_S4x4096x8_S4x4096x8x1_0_1_2 : S4x4096x8.BroadcastsInDim S4x4096x8x1 (![0, 1, 2] : Fin 3 → Fin S4x4096x8x1.rank)
  bcast_S_S4x4096x8x1 : S_.BroadcastsInDim S4x4096x8x1 (![] : Fin 0 → Fin S4x4096x8x1.rank)
  bcast_S4x4096x8x1_S4x4096x8x64_0_1_2_3 : S4x4096x8x1.BroadcastsInDim S4x4096x8x64 (![0, 1, 2, 3] : Fin 4 → Fin S4x4096x8x64.rank)

variable [Facts]

def fn {F : FTy → Type} [FloatOps F] (main_arg0 : FVec F S4x4096x8x64 .f32) (main_arg1 : FVec F S4x4096x8x64 .f32) (main_arg2 : FVec F S4x4096x8x64 .f32) (main_arg3 : FVec F S4x4096x8 .f32) : IVec S4x4096x8x64 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x8x64 .f32 := Host.absf main_arg1
  let main_cst_0 : FVec F S_ .f32 := constant S_ .f32 0x7F800000#32
  let main_v4 : FVec F S4x4096x8x64 .f32 := broadcastInDim S4x4096x8x64 ![] bcast_S_S4x4096x8x64 main_cst_0
  let main_v5 : IVec S4x4096x8x64 1 := cmpf .olt main_v3 main_v4
  let main_v6 : IVec S4x4096x8x64 1 := andi main_v2 main_v5
  let main_v7 : FVec F S4x4096x8 .f32 := Host.absf main_arg3
  let main_v8 : FVec F S4x4096x8x1 .f32 := broadcastInDim S4x4096x8x1 ![0, 1, 2] bcast_S4x4096x8_S4x4096x8x1_0_1_2 main_v7
  let main_cst_1 : FVec F S_ .f32 := constant S_ .f32 0x7F800000#32
  let main_v9 : FVec F S4x4096x8x1 .f32 := broadcastInDim S4x4096x8x1 ![] bcast_S_S4x4096x8x1 main_cst_1
  let main_v10 : IVec S4x4096x8x1 1 := cmpf .olt main_v8 main_v9
  let main_v11 : IVec S4x4096x8x64 1 := broadcastInDim S4x4096x8x64 ![0, 1, 2, 3] bcast_S4x4096x8x1_S4x4096x8x64_0_1_2_3 main_v10
  let main_v12 : IVec S4x4096x8x64 1 := andi main_v6 main_v11
  main_v12
-- ==== Pre_finite_rows.lean ====
abbrev S4x4096x1024 : Shape := ⟨3, ![4, 4096, 1024]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4104 : S_.BroadcastsInDim S1024x4104 (![] : Fin 0 → Fin S1024x4104.rank)
  reducesTo_S1024x4104_S_d0_1 : S1024x4104.ReducesTo [0, 1] S_

variable [Facts]

def fn {F : FTy → Type} [FloatOps F] (main_arg0 : FVec F S4x4096x1024 .f32) (main_arg1 : FVec F S1024 .f32) (main_arg2 : FVec F S1024x4104 .f32) (main_arg3 : FVec F S8 .f32) (main_arg4 : FVec F S64 .f32) (main_arg5 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4104 .f32 := Host.absf main_arg2
  let main_cst_2 : FVec F S_ .f32 := constant S_ .f32 0x7F800000#32
  let main_v10 : FVec F S1024x4104 .f32 := broadcastInDim S1024x4104 ![] bcast_S_S1024x4104 main_cst_2
  let main_v11 : IVec S1024x4104 1 := cmpf .olt main_v9 main_v10
  let main_c_3 : IVec S_ 1 := constantI S_ 1 1#1
  let main_v12 : IVec S_ 1 := (fun x v => Host.reduce IntOp.andi x v reducesTo_S1024x4104_S_d0_1 h_S_) main_v11 main_c_3
  let main_v13 : IVec S_ 1 := andi main_v8 main_v12
  main_v13
-- ==== Pre_finite_samples.lean ====
abbrev S128x8x1024 : Shape := ⟨3, ![128, 8, 1024]⟩
abbrev S128x15x512 : Shape := ⟨3, ![128, 15, 512]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S_ : Shape := ⟨0, ![]⟩

class Facts : Prop where
  bcast_S_S128x8x1024 : S_.BroadcastsInDim S128x8x1024 (![] : Fin 0 → Fin S128x8x1024.rank)
  reducesTo_S128x8x1024_S_d0_1_2 : S128x8x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4104 : S_.BroadcastsInDim S1024x4104 (![] : Fin 0 → Fin S1024x4104.rank)
  reducesTo_S1024x4104_S_d0_1 : S1024x4104.ReducesTo [0, 1] S_

variable [Facts]

def fn {F : FTy → Type} [FloatOps F] (main_arg0 : FVec F S128x8x1024 .f32) (main_arg1 : FVec F S128x15x512 .f32) (main_arg2 : FVec F S1024 .f32) (main_arg3 : FVec F S1024x4104 .f32) (main_arg4 : FVec F S8 .f32) (main_arg5 : FVec F S64 .f32) (main_arg6 : FVec F S64 .f32) : IVec S_ 1 :=
  let main_v0 : FVec F S128x8x1024 .f32 := Host.absf main_arg0
  let main_cst : FVec F S_ .f32 := constant S_ .f32 0x7F800000#32
  let main_v1 : FVec F S128x8x1024 .f32 := broadcastInDim S128x8x1024 ![] bcast_S_S128x8x1024 main_cst
  let main_v2 : IVec S128x8x1024 1 := cmpf .olt main_v0 main_v1
  let main_c : IVec S_ 1 := constantI S_ 1 1#1
  let main_v3 : IVec S_ 1 := (fun x v => Host.reduce IntOp.andi x v reducesTo_S128x8x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4104 .f32 := Host.absf main_arg3
  let main_cst_2 : FVec F S_ .f32 := constant S_ .f32 0x7F800000#32
  let main_v10 : FVec F S1024x4104 .f32 := broadcastInDim S1024x4104 ![] bcast_S_S1024x4104 main_cst_2
  let main_v11 : IVec S1024x4104 1 := cmpf .olt main_v9 main_v10
  let main_c_3 : IVec S_ 1 := constantI S_ 1 1#1
  let main_v12 : IVec S_ 1 := (fun x v => Host.reduce IntOp.andi x v reducesTo_S1024x4104_S_d0_1 h_S_) main_v11 main_c_3
  let main_v13 : IVec S_ 1 := andi main_v8 main_v12
  main_v13
-- ==== Kernel.lean ====
abbrev S4x4096x8x64 : Shape := ⟨4, ![4, 4096, 8, 64]⟩
abbrev S4x4096x8 : Shape := ⟨3, ![4, 4096, 8]⟩
abbrev S4x4096x512 : Shape := ⟨3, ![4, 4096, 512]⟩
abbrev S_ : Shape := ⟨0, ![]⟩
abbrev S4x512x4096 : Shape := ⟨3, ![4, 512, 4096]⟩
abbrev S4x8x4096x128 : Shape := ⟨4, ![4, 8, 4096, 128]⟩
abbrev S1x512x512 : Shape := ⟨3, ![1, 512, 512]⟩
abbrev S1x512x8 : Shape := ⟨3, ![1, 512, 8]⟩
abbrev S1x8x512x128 : Shape := ⟨4, ![1, 8, 512, 128]⟩
abbrev S512x128 : Shape := ⟨2, ![512, 128]⟩
abbrev S1x512x1 : Shape := ⟨3, ![1, 512, 1]⟩
abbrev S512x1 : Shape := ⟨2, ![512, 1]⟩
abbrev S1x512x128 : Shape := ⟨3, ![1, 512, 128]⟩
abbrev S1x1x512x128 : Shape := ⟨4, ![1, 1, 512, 128]⟩
abbrev S4x4x128x4096 : Shape := ⟨4, ![4, 4, 128, 4096]⟩
abbrev S1x1x1024x128 : Shape := ⟨4, ![1, 1, 1024, 128]⟩
abbrev S1x1x4096x128 : Shape := ⟨4, ![1, 1, 4096, 128]⟩
abbrev S1x1x128x4096 : Shape := ⟨4, ![1, 1, 128, 4096]⟩
abbrev S1x1024x128 : Shape := ⟨3, ![1, 1024, 128]⟩
abbrev S2x1x1024 : Shape := ⟨3, ![2, 1, 1024]⟩
abbrev S2x128x1024 : Shape := ⟨3, ![2, 128, 1024]⟩
abbrev S1024x128 : Shape := ⟨2, ![1024, 128]⟩
abbrev S1x1x128x1024 : Shape := ⟨4, ![1, 1, 128, 1024]⟩
abbrev S128x1024 : Shape := ⟨2, ![128, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S1x64x1024 : Shape := ⟨3, ![1, 64, 1024]⟩
abbrev S64x1024 : Shape := ⟨2, ![64, 1024]⟩

abbrev nBuf : Space → Nat
  | .hbm => 18
  | .vmem => 25
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S4x4096x512, .f32⟩
  | .hbm, ⟨5, _⟩ => ⟨S_, .f32⟩
  | .hbm, ⟨6, _⟩ => ⟨S4x4096x512, .f32⟩
  | .hbm, ⟨7, _⟩ => ⟨S4x4096x512, .f32⟩
  | .hbm, ⟨8, _⟩ => ⟨S4x4096x512, .bf16⟩
  | .hbm, ⟨9, _⟩ => ⟨S4x4096x512, .f32⟩
  | .hbm, ⟨10, _⟩ => ⟨S4x4096x512, .bf16⟩
  | .hbm, ⟨11, _⟩ => ⟨S4x4096x512, .f32⟩
  | .hbm, ⟨12, _⟩ => ⟨S4x512x4096, .f32⟩
  | .hbm, ⟨13, _⟩ => ⟨S4x512x4096, .bf16⟩
  | .hbm, ⟨14, _⟩ => ⟨S4x8x4096x128, .bf16⟩
  | .hbm, ⟨15, _⟩ => ⟨S4x8x4096x128, .bf16⟩
  | .hbm, ⟨16, _⟩ => ⟨S4x4x128x4096, .bf16⟩
  | .hbm, ⟨17, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x8, .f32⟩
  | .local _ .vmem, ⟨5, _⟩ => ⟨S1x512x8, .f32⟩
  | .local _ .vmem, ⟨6, _⟩ => ⟨S1x8x512x128, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .bf16⟩
  | .local _ .vmem, ⟨13, _⟩ => ⟨S1x1x1024x128, .bf16⟩
  | .local _ .vmem, ⟨14, _⟩ => ⟨S1x1x4096x128, .bf16⟩
  | .local _ .vmem, ⟨15, _⟩ => ⟨S1x1x4096x128, .bf16⟩
  | .local _ .vmem, ⟨16, _⟩ => ⟨S1x1x4096x128, .bf16⟩
  | .local _ .vmem, ⟨17, _⟩ => ⟨S1x1x4096x128, .bf16⟩
  | .local _ .vmem, ⟨18, _⟩ => ⟨S1x1x128x4096, .bf16⟩
  | .local _ .vmem, ⟨19, _⟩ => ⟨S1x1x128x4096, .bf16⟩
  | .local _ .vmem, ⟨20, _⟩ => ⟨S1x1024x128, .bf16⟩
  | .local _ .vmem, ⟨21, _⟩ => ⟨S1x1024x128, .bf16⟩
  | .local _ .vmem, ⟨22, _⟩ => ⟨S2x1x1024, .f32⟩
  | .local _ .vmem, ⟨23, _⟩ => ⟨S2x1x1024, .f32⟩
  | .local _ .vmem, ⟨24, _⟩ => ⟨S2x128x1024, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 4], ![false, false, false]⟩

@[reducible] def k1_t1_loop (i : grid1.Coords) : Scf.Loop 32 :=
  let c0_i32_18 : BitVec 32 := 0#32
  let arg2 : BitVec 32 := BitVec.ofNat 32 (i 2).val
  let v16 : BitVec 32 := Scalar.subi arg2 c0_i32_18
  let c1_i32 : BitVec 32 := 1#32
  let v18 : BitVec 32 := Scalar.divsi v16 c1_i32
  let v19 : BitVec 32 := Scalar.muli v18 c1_i32
  let v20 : BitVec 32 := Scalar.addi c0_i32_18 v19
  let c1_i32_19 : BitVec 32 := 1#32
  ⟨c0_i32_18, v20, c1_i32_19⟩
def k1_mult1 (i : grid1.Coords) (k1_t1 : Fin (k1_t1_loop i).trips) : BitVec 32 :=
  let c0_i32_18 : BitVec 32 := 0#32
  let c1_i32_19 : BitVec 32 := 1#32
  let arg12 : BitVec 32 := Scf.iv c0_i32_18 c1_i32_19 k1_t1
  let c1024_i32_89 : BitVec 32 := 1024#32
  let v126 : BitVec 32 := Scalar.muli arg12 c1024_i32_89
  v126
def k1_off1 (i : grid1.Coords) (k1_t1 : Fin (k1_t1_loop i).trips) : Fin 4 → Nat :=
  let c0_90 : Index := 0#32
  let c0_91 : Index := 0#32
  let c0_92 : Index := 0#32
  let c0_i32_18 : BitVec 32 := 0#32
  let c1_i32_19 : BitVec 32 := 1#32
  let arg12 : BitVec 32 := Scf.iv c0_i32_18 c1_i32_19 k1_t1
  let c1024_i32_89 : BitVec 32 := 1024#32
  let v126 : BitVec 32 := Scalar.muli arg12 c1024_i32_89
  let v127 : BitVec 32 := v126
  let v128 : Index := Scalar.indexCast v127
  ![0, 0, 0, v128.toNat]
def k1_off2 (i : grid1.Coords) (k1_t1 : Fin (k1_t1_loop i).trips) : Fin 4 → Nat :=
  let c0_93 : Index := 0#32
  let c0_94 : Index := 0#32
  let c0_i32_18 : BitVec 32 := 0#32
  let c1_i32_19 : BitVec 32 := 1#32
  let arg12 : BitVec 32 := Scf.iv c0_i32_18 c1_i32_19 k1_t1
  let c1024_i32_89 : BitVec 32 := 1024#32
  let v126 : BitVec 32 := Scalar.muli arg12 c1024_i32_89
  let v127 : BitVec 32 := v126
  let v131 : Index := Scalar.indexCast v127
  let c0_95 : Index := 0#32
  ![0, 0, v131.toNat, 0]
@[reducible] def k1_t2_loop (i : grid1.Coords) : Scf.Loop 32 :=
  let c0_i32_18 : BitVec 32 := 0#32
  let arg2 : BitVec 32 := BitVec.ofNat 32 (i 2).val
  let v16 : BitVec 32 := Scalar.subi arg2 c0_i32_18
  let c1_i32 : BitVec 32 := 1#32
  let v18 : BitVec 32 := Scalar.divsi v16 c1_i32
  let v19 : BitVec 32 := Scalar.muli v18 c1_i32
  let v20 : BitVec 32 := Scalar.addi c0_i32_18 v19
  let v17 : BitVec 32 := Scalar.addi c0_i32_18 v16
  let c1_i32_20 : BitVec 32 := 1#32
  ⟨v20, v17, c1_i32_20⟩
def k1_mult2 (i : grid1.Coords) (k1_t2 : Fin (k1_t2_loop i).trips) : BitVec 32 :=
  let c0_i32_18 : BitVec 32 := 0#32
  let arg2 : BitVec 32 := BitVec.ofNat 32 (i 2).val
  let v16 : BitVec 32 := Scalar.subi arg2 c0_i32_18
  let c1_i32 : BitVec 32 := 1#32
  let v18 : BitVec 32 := Scalar.divsi v16 c1_i32
  let v19 : BitVec 32 := Scalar.muli v18 c1_i32
  let v20 : BitVec 32 := Scalar.addi c0_i32_18 v19
  let c1_i32_20 : BitVec 32 := 1#32
  let arg12 : BitVec 32 := Scf.iv v20 c1_i32_20 k1_t2
  let c1024_i32_89 : BitVec 32 := 1024#32
  let v126 : BitVec 32 := Scalar.muli arg12 c1024_i32_89
  v126
def k1_off3 (i : grid1.Coords) (k1_t2 : Fin (k1_t2_loop i).trips) : Fin 4 → Nat :=
  let c0_90 : Index := 0#32
  let c0_91 : Index := 0#32
  let c0_92 : Index := 0#32
  let c0_i32_18 : BitVec 32 := 0#32
  let arg2 : BitVec 32 := BitVec.ofNat 32 (i 2).val
  let v16 : BitVec 32 := Scalar.subi arg2 c0_i32_18
  let c1_i32 : BitVec 32 := 1#32
  let v18 : BitVec 32 := Scalar.divsi v16 c1_i32
  let v19 : BitVec 32 := Scalar.muli v18 c1_i32
  let v20 : BitVec 32 := Scalar.addi c0_i32_18 v19
  let c1_i32_20 : BitVec 32 := 1#32
  let arg12 : BitVec 32 := Scf.iv v20 c1_i32_20 k1_t2
  let c1024_i32_89 : BitVec 32 := 1024#32
  let v126 : BitVec 32 := Scalar.muli arg12 c1024_i32_89
  let v127 : BitVec 32 := v126
  let v128 : Index := Scalar.indexCast v127
  ![0, 0, 0, v128.toNat]
def k1_off4 (i : grid1.Coords) (k1_t2 : Fin (k1_t2_loop i).trips) : Fin 4 → Nat :=
  let c0_93 : Index := 0#32
  let c0_94 : Index := 0#32
  let c0_i32_18 : BitVec 32 := 0#32
  let arg2 : BitVec 32 := BitVec.ofNat 32 (i 2).val
  let v16 : BitVec 32 := Scalar.subi arg2 c0_i32_18
  let c1_i32 : BitVec 32 := 1#32
  let v18 : BitVec 32 := Scalar.divsi v16 c1_i32
  let v19 : BitVec 32 := Scalar.muli v18 c1_i32
  let v20 : BitVec 32 := Scalar.addi c0_i32_18 v19
  let c1_i32_20 : BitVec 32 := 1#32
  let arg12 : BitVec 32 := Scf.iv v20 c1_i32_20 k1_t2
  let c1024_i32_89 : BitVec 32 := 1024#32
  let v126 : BitVec 32 := Scalar.muli arg12 c1024_i32_89
  let v127 : BitVec 32 := v126
  let v131 : Index := Scalar.indexCast v127
  let c0_95 : Index := 0#32
  ![0, 0, v131.toNat, 0]
def k1_mult3 (i : grid1.Coords) : BitVec 32 :=
  let arg2 : BitVec 32 := BitVec.ofNat 32 (i 2).val
  let c1024_i32 : BitVec 32 := 1024#32
  let v21 : BitVec 32 := Scalar.muli arg2 c1024_i32
  v21
def k1_off5 (i : grid1.Coords) : Fin 4 → Nat :=
  let c0_21 : Index := 0#32
  let c0_22 : Index := 0#32
  let c0_23 : Index := 0#32
  let arg2 : BitVec 32 := BitVec.ofNat 32 (i 2).val
  let c1024_i32 : BitVec 32 := 1024#32
  let v21 : BitVec 32 := Scalar.muli arg2 c1024_i32
  let v22 : BitVec 32 := v21
  let v23 : Index := Scalar.indexCast v22
  ![0, 0, 0, v23.toNat]
def k1_off6 (i : grid1.Coords) : Fin 4 → Nat :=
  let c0_24 : Index := 0#32
  let c0_25 : Index := 0#32
  let arg2 : BitVec 32 := BitVec.ofNat 32 (i 2).val
  let c1024_i32 : BitVec 32 := 1024#32
  let v21 : BitVec 32 := Scalar.muli arg2 c1024_i32
  let v22 : BitVec 32 := v21
  let v26 : Index := Scalar.indexCast v22
  let c0_26 : Index := 0#32
  ![0, 0, v26.toNat, 0]
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  ![arg0.toNat, v1.toNat, arg2.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, v1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x128x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== ReferenceIdeal.lean ====
abbrev S4x4096x8x64 : Shape := ⟨4, ![4, 4096, 8, 64]⟩
abbrev S4x4096x8 : Shape := ⟨3, ![4, 4096, 8]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S4x4096x512 : Shape := ⟨3, ![4, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S4x8x4096, .f32⟩
  | .hbm, ⟨9, _⟩ => ⟨S4x8x4096x1, .f32⟩
  | .hbm, ⟨10, _⟩ => ⟨S4x8x4096, .f32⟩
  | .hbm, ⟨11, _⟩ => ⟨S4x8x1x4096, .f32⟩
  | .hbm, ⟨12, _⟩ => ⟨S4x8x4096x4096, .f32⟩
  | .hbm, ⟨13, _⟩ => ⟨S4x8x4096x4096, .f32⟩
  | .hbm, ⟨14, _⟩ => ⟨S4x8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4x8x4096x4096, .f32⟩
  | .hbm, ⟨22, _⟩ => ⟨S_, .f32⟩
  | .hbm, ⟨23, _⟩ => ⟨S_, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S_, .f32⟩
  | .hbm, ⟨30, _⟩ => ⟨S4x8x4096, .f32⟩
  | .hbm, ⟨31, _⟩ => ⟨S4x8x4096, .f32⟩
  | .hbm, ⟨32, _⟩ => ⟨S4x8x4096x1, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S4x8x4096x1, .f32⟩
  | .hbm, ⟨39, _⟩ => ⟨S4x8x4096x4096, .f32⟩
  | .hbm, ⟨40, _⟩ => ⟨S4x8x4096x4096, .f32⟩
  | .hbm, ⟨41, _⟩ => ⟨S4x8x64x4096, .f32⟩
  | .hbm, ⟨42, _⟩ => ⟨S4x4096x8x64, .f32⟩
  | .hbm, ⟨43, _⟩ => ⟨S4x4096x8x64, .bf16⟩
  | .hbm, ⟨44, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1024 : Shape := ⟨1, ![1024]⟩
abbrev S1024x4104 : Shape := ⟨2, ![1024, 4104]⟩
abbrev S512x1024 : Shape := ⟨2, ![512, 1024]⟩
abbrev S1024x1024 : Shape := ⟨2, ![1024, 1024]⟩
abbrev S1024x2048 : Shape := ⟨2, ![1024, 2048]⟩
abbrev S16384x1024 : Shape := ⟨2, ![16384, 1024]⟩
abbrev S16384x512 : Shape := ⟨2, ![16384, 512]⟩
abbrev S1x1024 : Shape := ⟨2, ![1, 1024]⟩
abbrev S1024x16384 : Shape := ⟨2, ![1024, 16384]⟩
abbrev S16384x2048 : Shape := ⟨2, ![16384, 2048]⟩
abbrev S512x512 : Shape := ⟨2, ![512, 512]⟩
abbrev S1024x512 : Shape := ⟨2, ![1024, 512]⟩
abbrev S512x2048 : Shape := ⟨2, ![512, 2048]⟩
abbrev S512 : Shape := ⟨1, ![512]⟩
abbrev S512x1 : Shape := ⟨2, ![512, 1]⟩

abbrev nBuf : Space → Nat
  | .hbm => 26
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024, .f32⟩
  | .hbm, ⟨4, _⟩ => ⟨S1024x4104, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S1024x2048, .f32⟩
  | .hbm, ⟨11, _⟩ => ⟨S1024x2048, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1024x2048, .bf16⟩
  | .hbm, ⟨16, _⟩ => ⟨S16384x1024, .f32⟩
  | .hbm, ⟨17, _⟩ => ⟨S16384x512, .f32⟩
  | .hbm, ⟨18, _⟩ => ⟨S16384x512, .bf16⟩
  | .hbm, ⟨19, _⟩ => ⟨S16384x512, .f32⟩
  | .hbm, ⟨20, _⟩ => ⟨S16384x512, .bf16⟩
  | .hbm, ⟨21, _⟩ => ⟨S1x1024, .f32⟩
  | .hbm, ⟨22, _⟩ => ⟨S1x1024, .f32⟩
  | .hbm, ⟨23, _⟩ => ⟨S16384x1024, .f32⟩
  | .hbm, ⟨24, _⟩ => ⟨S1024x16384, .bf16⟩
  | .hbm, ⟨25, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S1024x512, .bf16⟩
  | .local _ .vmem, ⟨16, _⟩ => ⟨S1024x512, .bf16⟩
  | .local _ .vmem, ⟨17, _⟩ => ⟨S512x2048, .bf16⟩
  | .local _ .vmem, ⟨18, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x4096x1024 : Shape := ⟨3, ![4, 4096, 1024]⟩
abbrev S4x4096x512 : Shape := ⟨3, ![4, 4096, 512]⟩
abbrev S1024 : Shape := ⟨1, ![1024]⟩
abbrev S1024x4104 : Shape := ⟨2, ![1024, 4104]⟩
abbrev S512x1024 : Shape := ⟨2, ![512, 1024]⟩
abbrev S1024x1024 : Shape := ⟨2, ![1024, 1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4104 : Shape := ⟨3, ![4, 4096, 4104]⟩
abbrev S16384x1024 : Shape := ⟨2, ![16384, 1024]⟩
abbrev S1024x16384 : Shape := ⟨2, ![1024, 16384]⟩
abbrev S16384x2048 : Shape := ⟨2, ![16384, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024, .f32⟩
  | .hbm, ⟨4, _⟩ => ⟨S1024x4104, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x4104, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1x1x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | .hbm, ⟨69, _⟩ => ⟨S16384x1024, .f32⟩
  | .hbm, ⟨70, _⟩ => ⟨S1024x16384, .f32⟩
  | .hbm, ⟨71, _⟩ => ⟨S1024x16384, .bf16⟩
  | .hbm, ⟨72, _⟩ => ⟨S16384x2048, .f32⟩
  | .hbm, ⟨73, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S1024x2056 : Shape := ⟨2, ![1024, 2056]⟩
abbrev S_ : Shape := ⟨0, ![]⟩
abbrev S1024x120 : Shape := ⟨2, ![1024, 120]⟩
abbrev S1024x2176 : Shape := ⟨2, ![1024, 2176]⟩
abbrev S120 : Shape := ⟨1, ![120]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S16384x1024 : Shape := ⟨2, ![16384, 1024]⟩
abbrev S1x1024 : Shape := ⟨2, ![1, 1024]⟩
abbrev S16384x512 : Shape := ⟨2, ![16384, 512]⟩
abbrev S4x512x4096 : Shape := ⟨3, ![4, 512, 4096]⟩
abbrev S16384x8 : Shape := ⟨2, ![16384, 8]⟩
abbrev S512x1024 : Shape := ⟨2, ![512, 1024]⟩
abbrev S1x512x512 : Shape := ⟨3, ![1, 512, 512]⟩
abbrev S512x8 : Shape := ⟨2, ![512, 8]⟩
abbrev S512x2176 : Shape := ⟨2, ![512, 2176]⟩
abbrev S512x128 : Shape := ⟨2, ![512, 128]⟩
abbrev S4x8x64x4096 : Shape := ⟨4, ![4, 8, 64, 4096]⟩
abbrev S4x4096x8x64 : Shape := ⟨4, ![4, 4096, 8, 64]⟩
abbrev S4x4096x8 : Shape := ⟨3, ![4, 4096, 8]⟩

abbrev nBuf : Space → Nat
  | .hbm => 62
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S1024x2056, .f32⟩
  | .hbm, ⟨7, _⟩ => ⟨S_, .f32⟩
  | .hbm, ⟨8, _⟩ => ⟨S1024x120, .f32⟩
  | .hbm, ⟨9, _⟩ => ⟨S1024x2176, .f32⟩
  | .hbm, ⟨10, _⟩ => ⟨S1024x2176, .bf16⟩
  | .hbm, ⟨11, _⟩ => ⟨S_, .f32⟩
  | .hbm, ⟨12, _⟩ => ⟨S120, .f32⟩
  | .hbm, ⟨13, _⟩ => ⟨S128, .f32⟩
  | .hbm, ⟨14, _⟩ => ⟨S1x128, .f32⟩
  | .hbm, ⟨15, _⟩ => ⟨S1x64, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S512x512, .bf16⟩
  | .hbm, ⟨48, _⟩ => ⟨S16384x1024, .f32⟩
  | .hbm, ⟨49, _⟩ => ⟨S1x1024, .f32⟩
  | .hbm, ⟨50, _⟩ => ⟨S16384x512, .f32⟩
  | .hbm, ⟨51, _⟩ => ⟨S16384x512, .bf16⟩
  | .hbm, ⟨52, _⟩ => ⟨S4x512x4096, .f32⟩
  | .hbm, ⟨53, _⟩ => ⟨S16384x512, .bf16⟩
  | .hbm, ⟨54, _⟩ => ⟨S4x512x4096, .f32⟩
  | .hbm, ⟨55, _⟩ => ⟨S4x512x4096, .bf16⟩
  | .hbm, ⟨56, _⟩ => ⟨S16384x8, .f32⟩
  | .hbm, ⟨57, _⟩ => ⟨S4x8x64x4096, .f32⟩
  | .hbm, ⟨58, _⟩ => ⟨S4x4096x8x64, .f32⟩
  | .hbm, ⟨59, _⟩ => ⟨S4x8x64x4096, .f32⟩
  | .hbm, ⟨60, _⟩ => ⟨S4x4096x8x64, .f32⟩
  | .hbm, ⟨61, _⟩ => ⟨S4x4096x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512x512, .f32⟩
  | .local _ .vmem, ⟨13, _⟩ => ⟨S1x512x512, .f32⟩
  | .local _ .vmem, ⟨14, _⟩ => ⟨S512x512, .bf16⟩
  | .local _ .vmem, ⟨15, _⟩ => ⟨S512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .bf16⟩
  | .local _ .vmem, ⟨19, _⟩ => ⟨S1x512x512, .bf16⟩
  | .local _ .vmem, ⟨20, _⟩ => ⟨S512x8, .f32⟩
  | .local _ .vmem, ⟨21, _⟩ => ⟨S512x8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev main_v25_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x4096x1024 : Shape := ⟨3, ![4, 4096, 1024]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4104 : Shape := ⟨3, ![4, 4096, 4104]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S1x1x8 : Shape := ⟨3, ![1, 1, 8]⟩
abbrev S16384x512 : Shape := ⟨2, ![16384, 512]⟩
abbrev S4x512x4096 : Shape := ⟨3, ![4, 512, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4104, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x4104, .f32⟩
  | .hbm, ⟨23, _⟩ => ⟨S4x4096x512, .f32⟩
  | .hbm, ⟨24, _⟩ => ⟨S4x4096x8x64, .f32⟩
  | .hbm, ⟨25, _⟩ => ⟨S4x4096x8x64, .f32⟩
  | .hbm, ⟨26, _⟩ => ⟨S_, .f32⟩
  | .hbm, ⟨27, _⟩ => ⟨S4x4096x8, .f32⟩
  | .hbm, ⟨28, _⟩ => ⟨S4x4096x8x1, .f32⟩
  | .hbm, ⟨29, _⟩ => ⟨S_, .f32⟩
  | .hbm, ⟨30, _⟩ => ⟨S4x4096x8x1, .f32⟩
  | .hbm, ⟨31, _⟩ => ⟨S4x4096x8x1, .f32⟩
  | .hbm, ⟨32, _⟩ => ⟨S_, .f32⟩
  | .hbm, ⟨33, _⟩ => ⟨S4x4096x8x1, .f32⟩
  | .hbm, ⟨34, _⟩ => ⟨S4x4096x8x1, .f32⟩
  | .hbm, ⟨35, _⟩ => ⟨S4x4096x8x1, .f32⟩
  | .hbm, ⟨36, _⟩ => ⟨S4x4096x8x64, .f32⟩
  | .hbm, ⟨37, _⟩ => ⟨S4x4096x8x64, .f32⟩
  | .hbm, ⟨38, _⟩ => ⟨S1x1x1x64, .f32⟩
  | .hbm, ⟨39, _⟩ => ⟨S4x4096x8x64, .f32⟩
  | .hbm, ⟨40, _⟩ => ⟨S4x4096x8x64, .f32⟩
  | .hbm, ⟨41, _⟩ => ⟨S4x4096x512, .f32⟩
  | .hbm, ⟨42, _⟩ => ⟨S4x4096x8x64, .f32⟩
  | .hbm, ⟨43, _⟩ => ⟨S4x4096x8x64, .f32⟩
  | .hbm, ⟨44, _⟩ => ⟨S_, .f32⟩
  | .hbm, ⟨45, _⟩ => ⟨S4x4096x8, .f32⟩
  | .hbm, ⟨46, _⟩ => ⟨S4x4096x8x1, .f32⟩
  | .hbm, ⟨47, _⟩ => ⟨S_, .f32⟩
  | .hbm, ⟨48, _⟩ => ⟨S4x4096x8x1, .f32⟩
  | .hbm, ⟨49, _⟩ => ⟨S4x4096x8x1, .f32⟩
  | .hbm, ⟨50, _⟩ => ⟨S_, .f32⟩
  | .hbm, ⟨51, _⟩ => ⟨S4x4096x8x1, .f32⟩
  | .hbm, ⟨52, _⟩ => ⟨S4x4096x8x1, .f32⟩
  | .hbm, ⟨53, _⟩ => ⟨S4x4096x8x1, .f32⟩
  | .hbm, ⟨54, _⟩ => ⟨S4x4096x8x64, .f32⟩
  | .hbm, ⟨55, _⟩ => ⟨S4x4096x8x64, .f32⟩
  | .hbm, ⟨56, _⟩ => ⟨S1x1x1x64, .f32⟩
  | .hbm, ⟨57, _⟩ => ⟨S4x4096x8x64, .f32⟩
  | .hbm, ⟨58, _⟩ => ⟨S4x4096x8x64, .f32⟩
  | .hbm, ⟨59, _⟩ => ⟨S4x4096x8, .f32⟩
  | .hbm, ⟨60, _⟩ => ⟨S1x1x8, .f32⟩
  | .hbm, ⟨61, _⟩ => ⟨S4x4096x8, .f32⟩
  | .hbm, ⟨62, _⟩ => ⟨S4x4096x8, .f32⟩
  | .hbm, ⟨63, _⟩ => ⟨S4x4096x8, .f32⟩
  | .hbm, ⟨64, _⟩ => ⟨S_, .f32⟩
  | .hbm, ⟨65, _⟩ => ⟨S4x4096x8, .f32⟩
  | .hbm, ⟨66, _⟩ => ⟨S4x4096x8, .f32⟩
  | .hbm, ⟨67, _⟩ => ⟨S4x4096x8, .f32⟩
  | .hbm, ⟨68, _⟩ => ⟨S4x4096x8, .f32⟩
  | .hbm, ⟨69, _⟩ => ⟨S4x4096x8, .i1⟩
  | .hbm, ⟨70, _⟩ => ⟨S4x4096x8, .f32⟩
  | .hbm, ⟨71, _⟩ => ⟨S4x4096x8, .f32⟩
  | .hbm, ⟨72, _⟩ => ⟨S4x4096x8, .f32⟩
  | .hbm, ⟨73, _⟩ => ⟨S4x4096x8, .f32⟩
  | .hbm, ⟨74, _⟩ => ⟨S4x4096x8, .f32⟩
  | .hbm, ⟨75, _⟩ => ⟨S4x4096x8, .f32⟩
  | .hbm, ⟨76, _⟩ => ⟨S4x4096x8, .f32⟩
  | .hbm, ⟨77, _⟩ => ⟨S4x4096x8, .f32⟩
  | .hbm, ⟨78, _⟩ => ⟨S4x4096x8, .f32⟩
  | .hbm, ⟨79, _⟩ => ⟨S4x4096x512, .f32⟩
  | .hbm, ⟨80, _⟩ => ⟨S4x4096x512, .f32⟩
  | .hbm, ⟨81, _⟩ => ⟨S16384x512, .f32⟩
  | .hbm, ⟨82, _⟩ => ⟨S_, .f32⟩
  | .hbm, ⟨83, _⟩ => ⟨S4x4096x8x64, .f32⟩
  | .hbm, ⟨84, _⟩ => ⟨S4x4096x8x64, .f32⟩
  | .hbm, ⟨85, _⟩ => ⟨S16384x512, .f32⟩
  | .hbm, ⟨86, _⟩ => ⟨S16384x512, .bf16⟩
  | .hbm, ⟨87, _⟩ => ⟨S16384x512, .f32⟩
  | .hbm, ⟨88, _⟩ => ⟨S16384x512, .bf16⟩
  | .hbm, ⟨89, _⟩ => ⟨S4x4096x8x64, .f32⟩
  | .hbm, ⟨90, _⟩ => ⟨S4x512x4096, .f32⟩
  | .hbm, ⟨91, _⟩ => ⟨S4x512x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel4.lean ====
abbrev S128x8x1024 : Shape := ⟨3, ![128, 8, 1024]⟩
abbrev S128x15x512 : Shape := ⟨3, ![128, 15, 512]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S1024x2056 : Shape := ⟨2, ![1024, 2056]⟩
abbrev S_ : Shape := ⟨0, ![]⟩
abbrev S1024x120 : Shape := ⟨2, ![1024, 120]⟩
abbrev S1024x2176 : Shape := ⟨2, ![1024, 2176]⟩
abbrev S120 : Shape := ⟨1, ![120]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1024x1024 : Shape := ⟨2, ![1024, 1024]⟩
abbrev S1x1024 : Shape := ⟨2, ![1, 1024]⟩
abbrev S1024x512 : Shape := ⟨2, ![1024, 512]⟩
abbrev S1024x8 : Shape := ⟨2, ![1024, 8]⟩
abbrev S512x1024 : Shape := ⟨2, ![512, 1024]⟩
abbrev S512x8 : Shape := ⟨2, ![512, 8]⟩
abbrev S512x2176 : Shape := ⟨2, ![512, 2176]⟩
abbrev S512x128 : Shape := ⟨2, ![512, 128]⟩
abbrev S128x8x512 : Shape := ⟨3, ![128, 8, 512]⟩
abbrev S128x23x512 : Shape := ⟨3, ![128, 23, 512]⟩
abbrev S128x8x8x64 : Shape := ⟨4, ![128, 8, 8, 64]⟩
abbrev S128x8x8 : Shape := ⟨3, ![128, 8, 8]⟩

abbrev nBuf : Space → Nat
  | .hbm => 65
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S128x15x512, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S64, .f32⟩
  | .hbm, ⟨6, _⟩ => ⟨S64, .f32⟩
  | .hbm, ⟨7, _⟩ => ⟨S1024x2056, .f32⟩
  | .hbm, ⟨8, _⟩ => ⟨S_, .f32⟩
  | .hbm, ⟨9, _⟩ => ⟨S1024x120, .f32⟩
  | .hbm, ⟨10, _⟩ => ⟨S1024x2176, .f32⟩
  | .hbm, ⟨11, _⟩ => ⟨S1024x2176, .bf16⟩
  | .hbm, ⟨12, _⟩ => ⟨S_, .f32⟩
  | .hbm, ⟨13, _⟩ => ⟨S120, .f32⟩
  | .hbm, ⟨14, _⟩ => ⟨S128, .f32⟩
  | .hbm, ⟨15, _⟩ => ⟨S1x128, .f32⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S512, .i32⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S1x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S512x512, .bf16⟩
  | .hbm, ⟨49, _⟩ => ⟨S1024x1024, .f32⟩
  | .hbm, ⟨50, _⟩ => ⟨S1x1024, .f32⟩
  | .hbm, ⟨51, _⟩ => ⟨S1024x512, .f32⟩
  | .hbm, ⟨52, _⟩ => ⟨S1024x512, .bf16⟩
  | .hbm, ⟨53, _⟩ => ⟨S1024x512, .f32⟩
  | .hbm, ⟨54, _⟩ => ⟨S1024x512, .bf16⟩
  | .hbm, ⟨55, _⟩ => ⟨S1024x512, .f32⟩
  | .hbm, ⟨56, _⟩ => ⟨S1024x512, .bf16⟩
  | .hbm, ⟨57, _⟩ => ⟨S1024x8, .f32⟩
  | .hbm, ⟨58, _⟩ => ⟨S128x8x512, .f32⟩
  | .hbm, ⟨59, _⟩ => ⟨S128x23x512, .f32⟩
  | .hbm, ⟨60, _⟩ => ⟨S128x15x512, .f32⟩
  | .hbm, ⟨61, _⟩ => ⟨S128x8x512, .bf16⟩
  | .hbm, ⟨62, _⟩ => ⟨S128x8x8x64, .f32⟩
  | .hbm, ⟨63, _⟩ => ⟨S128x8x8x64, .f32⟩
  | .hbm, ⟨64, _⟩ => ⟨S128x8x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x8, .f32⟩
  | .local _ .vmem, ⟨21, _⟩ => ⟨S512x8, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev main_v25_2 : Ref sig .tc := ⟨.hbm, 53, rfl⟩
abbrev main_v25_3 : Ref sig .tc := ⟨.hbm, 54, rfl⟩
abbrev main_v25_4 : Ref sig .tc := ⟨.hbm, 55, rfl⟩
abbrev main_v25_5 : Ref sig .tc := ⟨.hbm, 56, rfl⟩
abbrev main_v25_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S128x8x1024 : Shape := ⟨3, ![128, 8, 1024]⟩
abbrev S128x15x512 : Shape := ⟨3, ![128, 15, 512]⟩
abbrev S1024 : Shape := ⟨1, ![1024]⟩
abbrev S1024x4104 : Shape := ⟨2, ![1024, 4104]⟩
abbrev S8 : Shape := ⟨1, ![8]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4104 : Shape := ⟨3, ![128, 8, 4104]⟩
abbrev S128x8x512 : Shape := ⟨3, ![128, 8, 512]⟩
abbrev S128x8x8x64 : Shape := ⟨4, ![128, 8, 8, 64]⟩
abbrev S128x8x8 : Shape := ⟨3, ![128, 8, 8]⟩
abbrev S128x8x8x1 : Shape := ⟨4, ![128, 8, 8, 1]⟩
abbrev S1x1x1x64 : Shape := ⟨4, ![1, 1, 1, 64]⟩
abbrev S1x1x8 : Shape := ⟨3, ![1, 1, 8]⟩
abbrev S128x23x512 : Shape := ⟨3, ![128, 23, 512]⟩

abbrev nBuf : Space → Nat
  | .hbm => 90
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x15x512, .f32⟩
  | .hbm, ⟨2, _⟩ => ⟨S1024, .f32⟩
  | .hbm, ⟨3, _⟩ => ⟨S1024x4104, .f32⟩
  | .hbm, ⟨4, _⟩ => ⟨S8, .f32⟩
  | .hbm, ⟨5, _⟩ => ⟨S64, .f32⟩
  | .hbm, ⟨6, _⟩ => ⟨S64, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x8x4104, .f32⟩
  | .hbm, ⟨24, _⟩ => ⟨S128x8x512, .f32⟩
  | .hbm, ⟨25, _⟩ => ⟨S128x8x8x64, .f32⟩
  | .hbm, ⟨26, _⟩ => ⟨S128x8x8x64, .f32⟩
  | .hbm, ⟨27, _⟩ => ⟨S_, .f32⟩
  | .hbm, ⟨28, _⟩ => ⟨S128x8x8, .f32⟩
  | .hbm, ⟨29, _⟩ => ⟨S128x8x8x1, .f32⟩
  | .hbm, ⟨30, _⟩ => ⟨S_, .f32⟩
  | .hbm, ⟨31, _⟩ => ⟨S128x8x8x1, .f32⟩
  | .hbm, ⟨32, _⟩ => ⟨S128x8x8x1, .f32⟩
  | .hbm, ⟨33, _⟩ => ⟨S_, .f32⟩
  | .hbm, ⟨34, _⟩ => ⟨S128x8x8x1, .f32⟩
  | .hbm, ⟨35, _⟩ => ⟨S128x8x8x1, .f32⟩
  | .hbm, ⟨36, _⟩ => ⟨S128x8x8x1, .f32⟩
  | .hbm, ⟨37, _⟩ => ⟨S128x8x8x64, .f32⟩
  | .hbm, ⟨38, _⟩ => ⟨S128x8x8x64, .f32⟩
  | .hbm, ⟨39, _⟩ => ⟨S1x1x1x64, .f32⟩
  | .hbm, ⟨40, _⟩ => ⟨S128x8x8x64, .f32⟩
  | .hbm, ⟨41, _⟩ => ⟨S128x8x8x64, .f32⟩
  | .hbm, ⟨42, _⟩ => ⟨S128x8x512, .f32⟩
  | .hbm, ⟨43, _⟩ => ⟨S128x8x8x64, .f32⟩
  | .hbm, ⟨44, _⟩ => ⟨S128x8x8x64, .f32⟩
  | .hbm, ⟨45, _⟩ => ⟨S_, .f32⟩
  | .hbm, ⟨46, _⟩ => ⟨S128x8x8, .f32⟩
  | .hbm, ⟨47, _⟩ => ⟨S128x8x8x1, .f32⟩
  | .hbm, ⟨48, _⟩ => ⟨S_, .f32⟩
  | .hbm, ⟨49, _⟩ => ⟨S128x8x8x1, .f32⟩
  | .hbm, ⟨50, _⟩ => ⟨S128x8x8x1, .f32⟩
  | .hbm, ⟨51, _⟩ => ⟨S_, .f32⟩
  | .hbm, ⟨52, _⟩ => ⟨S128x8x8x1, .f32⟩
  | .hbm, ⟨53, _⟩ => ⟨S128x8x8x1, .f32⟩
  | .hbm, ⟨54, _⟩ => ⟨S128x8x8x1, .f32⟩
  | .hbm, ⟨55, _⟩ => ⟨S128x8x8x64, .f32⟩
  | .hbm, ⟨56, _⟩ => ⟨S128x8x8x64, .f32⟩
  | .hbm, ⟨57, _⟩ => ⟨S1x1x1x64, .f32⟩
  | .hbm, ⟨58, _⟩ => ⟨S128x8x8x64, .f32⟩
  | .hbm, ⟨59, _⟩ => ⟨S128x8x8x64, .f32⟩
  | .hbm, ⟨60, _⟩ => ⟨S128x8x8, .f32⟩
  | .hbm, ⟨61, _⟩ => ⟨S1x1x8, .f32⟩
  | .hbm, ⟨62, _⟩ => ⟨S128x8x8, .f32⟩
  | .hbm, ⟨63, _⟩ => ⟨S128x8x8, .f32⟩
  | .hbm, ⟨64, _⟩ => ⟨S128x8x8, .f32⟩
  | .hbm, ⟨65, _⟩ => ⟨S_, .f32⟩
  | .hbm, ⟨66, _⟩ => ⟨S128x8x8, .f32⟩
  | .hbm, ⟨67, _⟩ => ⟨S128x8x8, .f32⟩
  | .hbm, ⟨68, _⟩ => ⟨S128x8x8, .f32⟩
  | .hbm, ⟨69, _⟩ => ⟨S128x8x8, .f32⟩
  | .hbm, ⟨70, _⟩ => ⟨S128x8x8, .i1⟩
  | .hbm, ⟨71, _⟩ => ⟨S128x8x8, .f32⟩
  | .hbm, ⟨72, _⟩ => ⟨S128x8x8, .f32⟩
  | .hbm, ⟨73, _⟩ => ⟨S128x8x8, .f32⟩
  | .hbm, ⟨74, _⟩ => ⟨S128x8x8, .f32⟩
  | .hbm, ⟨75, _⟩ => ⟨S128x8x8, .f32⟩
  | .hbm, ⟨76, _⟩ => ⟨S128x8x8, .f32⟩
  | .hbm, ⟨77, _⟩ => ⟨S128x8x8, .f32⟩
  | .hbm, ⟨78, _⟩ => ⟨S128x8x8, .f32⟩
  | .hbm, ⟨79, _⟩ => ⟨S128x8x8, .f32⟩
  | .hbm, ⟨80, _⟩ => ⟨S128x8x512, .f32⟩
  | .hbm, ⟨81, _⟩ => ⟨S128x8x512, .f32⟩
  | .hbm, ⟨82, _⟩ => ⟨S128x23x512, .f32⟩
  | .hbm, ⟨83, _⟩ => ⟨S_, .f32⟩
  | .hbm, ⟨84, _⟩ => ⟨S128x8x8x64, .f32⟩
  | .hbm, ⟨85, _⟩ => ⟨S128x8x8x64, .f32⟩
  | .hbm, ⟨86, _⟩ => ⟨S128x8x512, .f32⟩
  | .hbm, ⟨87, _⟩ => ⟨S128x8x512, .bf16⟩
  | .hbm, ⟨88, _⟩ => ⟨S128x8x8x64, .f32⟩
  | .hbm, ⟨89, _⟩ => ⟨S128x15x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_v0 : Ref sig .tc := ⟨.hbm, 64, rfl⟩
abbrev main_call0_call0_cst : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_call0_v2 : Ref sig .tc := ⟨.hbm, 68, rfl⟩
abbrev main_call0_call0_v3 : Ref sig .tc := ⟨.hbm, 69, rfl⟩
abbrev main_call0_call0_v4 : Ref sig .tc := ⟨.hbm, 70, rfl⟩
abbrev main_call0_call0_v5 : Ref sig .tc := ⟨.hbm, 71, rfl⟩
abbrev main_call0_call0_v6 : Ref sig .tc := ⟨.hbm, 72, rfl⟩
abbrev main_call0_call0_v7 : Ref sig .tc := ⟨.hbm, 73, rfl⟩
abbrev main_call0_call0_v8 : Ref sig .tc := ⟨.hbm, 74, rfl⟩
abbrev main_call0_call0_v9 : Ref sig .tc := ⟨.hbm, 75, rfl⟩
abbrev main_call0_call0_v10 : Ref sig .tc := ⟨.hbm, 76, rfl⟩
abbrev main_call0_call0_v11 : Ref sig .tc := ⟨.hbm, 77, rfl⟩
abbrev main_call0_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Kernel5.lean ====
abbrev S4x4096x512 : Shape := ⟨3, ![4, 4096, 512]⟩
abbrev S4x128x128 : Shape := ⟨3, ![4, 128, 128]⟩
abbrev S512 : Shape := ⟨1, ![512]⟩
abbrev S1x512 : Shape := ⟨2, ![1, 512]⟩
abbrev S4x16x512 : Shape := ⟨3, ![4, 16, 512]⟩
abbrev S1x512x512 : Shape := ⟨3, ![1, 512, 512]⟩
abbrev S1x16x512 : Shape := ⟨3, ![1, 16, 512]⟩
abbrev S528x512 : Shape := ⟨2, ![528, 512]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S4x15x512 : Shape := ⟨3, ![4, 15, 512]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S4x4096x512, .bf16⟩
  | .hbm, ⟨6, _⟩ => ⟨S4x16x512, .f32⟩
  | .hbm, ⟨7, _⟩ => ⟨S4x15x512, .f32⟩
  | .local _ .vmem, ⟨0, _⟩ => ⟨S1x512x512, .f32⟩
  | .local _ .vmem, ⟨1, _⟩ => ⟨S1x512x512, .f32⟩
  | .local _ .vmem, ⟨2, _⟩ => ⟨S4x128x128, .bf16⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S1x16x512, .f32⟩
  | .local _ .vmem, ⟨7, _⟩ => ⟨S1x16x512, .f32⟩
  | .local _ .vmem, ⟨8, _⟩ => ⟨S528x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S4x4096x512 : Shape := ⟨3, ![4, 4096, 512]⟩
abbrev S4x128x128 : Shape := ⟨3, ![4, 128, 128]⟩
abbrev S512 : Shape := ⟨1, ![512]⟩
abbrev S_ : Shape := ⟨0, ![]⟩
abbrev S4x15x512 : Shape := ⟨3, ![4, 15, 512]⟩
abbrev S4x4111x512 : Shape := ⟨3, ![4, 4111, 512]⟩
abbrev S4096 : Shape := ⟨1, ![4096]⟩
abbrev S4x4096x128 : Shape := ⟨3, ![4, 4096, 128]⟩
abbrev S1x4096x1 : Shape := ⟨3, ![1, 4096, 1]⟩
abbrev S4x4096x1x128 : Shape := ⟨4, ![4, 4096, 1, 128]⟩
abbrev S4x4096x4x128 : Shape := ⟨4, ![4, 4096, 4, 128]⟩
abbrev S4x128x4x4096 : Shape := ⟨4, ![4, 128, 4, 4096]⟩
abbrev S1x1x512 : Shape := ⟨3, ![1, 1, 512]⟩

abbrev nBuf : Space → Nat
  | .hbm => 124
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S4x15x512, .f32⟩
  | .hbm, ⟨5, _⟩ => ⟨S4x4111x512, .f32⟩
  | .hbm, ⟨6, _⟩ => ⟨S4096, .i32⟩
  | .hbm, ⟨7, _⟩ => ⟨S4x4096x128, .f32⟩
  | .hbm, ⟨8, _⟩ => ⟨S4x4096x128, .f32⟩
  | .hbm, ⟨9, _⟩ => ⟨S4x4096x128, .f32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .f32⟩
  | .hbm, ⟨17, _⟩ => ⟨S1x4096x1, .f32⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S4x4096x128, .f32⟩
  | .hbm, ⟨28, _⟩ => ⟨S4x4096x128, .f32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .f32⟩
  | .hbm, ⟨36, _⟩ => ⟨S1x4096x1, .f32⟩
  | .hbm, ⟨37, _⟩ => ⟨S4x4096x128, .f32⟩
  | .hbm, ⟨38, _⟩ => ⟨S4x4096x128, .f32⟩
  | .hbm, ⟨39, _⟩ => ⟨S4x4096x128, .f32⟩
  | .hbm, ⟨40, _⟩ => ⟨S4x4096x128, .f32⟩
  | .hbm, ⟨41, _⟩ => ⟨S4x4096x128, .f32⟩
  | .hbm, ⟨42, _⟩ => ⟨S4x4096x128, .f32⟩
  | .hbm, ⟨43, _⟩ => ⟨S4x4096x128, .f32⟩
  | .hbm, ⟨44, _⟩ => ⟨S4x4096x128, .f32⟩
  | .hbm, ⟨45, _⟩ => ⟨S4x4096x128, .f32⟩
  | .hbm, ⟨46, _⟩ => ⟨S4x4096x128, .f32⟩
  | .hbm, ⟨47, _⟩ => ⟨S4x4096x128, .f32⟩
  | .hbm, ⟨48, _⟩ => ⟨S4x4096x128, .f32⟩
  | .hbm, ⟨49, _⟩ => ⟨S4x4096x128, .f32⟩
  | .hbm, ⟨50, _⟩ => ⟨S4x4096x128, .f32⟩
  | .hbm, ⟨51, _⟩ => ⟨S4x4096x128, .f32⟩
  | .hbm, ⟨52, _⟩ => ⟨S4x4096x128, .f32⟩
  | .hbm, ⟨53, _⟩ => ⟨S4x4096x128, .f32⟩
  | .hbm, ⟨54, _⟩ => ⟨S4x4096x128, .f32⟩
  | .hbm, ⟨55, _⟩ => ⟨S4x4096x128, .f32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .f32⟩
  | .hbm, ⟨63, _⟩ => ⟨S1x4096x1, .f32⟩
  | .hbm, ⟨64, _⟩ => ⟨S4x4096x128, .f32⟩
  | .hbm, ⟨65, _⟩ => ⟨S4x4096x128, .f32⟩
  | .hbm, ⟨66, _⟩ => ⟨S4x4096x128, .f32⟩
  | .hbm, ⟨67, _⟩ => ⟨S4x4096x128, .f32⟩
  | .hbm, ⟨68, _⟩ => ⟨S4x4096x128, .f32⟩
  | .hbm, ⟨69, _⟩ => ⟨S4x4096x128, .f32⟩
  | .hbm, ⟨70, _⟩ => ⟨S4x4096x128, .f32⟩
  | .hbm, ⟨71, _⟩ => ⟨S4x4096x128, .f32⟩
  | .hbm, ⟨72, _⟩ => ⟨S4x4096x128, .f32⟩
  | .hbm, ⟨73, _⟩ => ⟨S4x4096x128, .f32⟩
  | .hbm, ⟨74, _⟩ => ⟨S4x4096x128, .f32⟩
  | .hbm, ⟨75, _⟩ => ⟨S4x4096x128, .f32⟩
  | .hbm, ⟨76, _⟩ => ⟨S4x4096x128, .f32⟩
  | .hbm, ⟨77, _⟩ => ⟨S4x4096x128, .f32⟩
  | .hbm, ⟨78, _⟩ => ⟨S4x4096x128, .f32⟩
  | .hbm, ⟨79, _⟩ => ⟨S4x4096x128, .f32⟩
  | .hbm, ⟨80, _⟩ => ⟨S4x4096x128, .f32⟩
  | .hbm, ⟨81, _⟩ => ⟨S4x4096x128, .f32⟩
  | .hbm, ⟨82, _⟩ => ⟨S4x4096x128, .f32⟩
  | .hbm, ⟨83, _⟩ => ⟨S4x4096x128, .f32⟩
  | .hbm, ⟨84, _⟩ => ⟨S4x4096x128, .f32⟩
  | .hbm, ⟨85, _⟩ => ⟨S4x4096x128, .f32⟩
  | .hbm, ⟨86, _⟩ => ⟨S4x4096x128, .f32⟩
  | .hbm, ⟨87, _⟩ => ⟨S4x4096x128, .f32⟩
  | .hbm, ⟨88, _⟩ => ⟨S4x4096x128, .f32⟩
  | .hbm, ⟨89, _⟩ => ⟨S4x4096x128, .f32⟩
  | .hbm, ⟨90, _⟩ => ⟨S4x4096x128, .f32⟩
  | .hbm, ⟨91, _⟩ => ⟨S4x4096x128, .f32⟩
  | .hbm, ⟨92, _⟩ => ⟨S4x4096x128, .f32⟩
  | .hbm, ⟨93, _⟩ => ⟨S4x4096x128, .f32⟩
  | .hbm, ⟨94, _⟩ => ⟨S4x4096x128, .f32⟩
  | .hbm, ⟨95, _⟩ => ⟨S4x4096x128, .f32⟩
  | .hbm, ⟨96, _⟩ => ⟨S4x4096x128, .f32⟩
  | .hbm, ⟨97, _⟩ => ⟨S4x4096x128, .f32⟩
  | .hbm, ⟨98, _⟩ => ⟨S4x4096x128, .f32⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .f32⟩
  | .hbm, ⟨106, _⟩ => ⟨S1x4096x1, .f32⟩
  | .hbm, ⟨107, _⟩ => ⟨S4x4096x128, .f32⟩
  | .hbm, ⟨108, _⟩ => ⟨S4x4096x128, .f32⟩
  | .hbm, ⟨109, _⟩ => ⟨S4x4096x128, .f32⟩
  | .hbm, ⟨110, _⟩ => ⟨S4x4096x128, .f32⟩
  | .hbm, ⟨111, _⟩ => ⟨S4x4096x1x128, .f32⟩
  | .hbm, ⟨112, _⟩ => ⟨S4x4096x1x128, .f32⟩
  | .hbm, ⟨113, _⟩ => ⟨S4x4096x1x128, .f32⟩
  | .hbm, ⟨114, _⟩ => ⟨S4x4096x1x128, .f32⟩
  | .hbm, ⟨115, _⟩ => ⟨S4x4096x4x128, .f32⟩
  | .hbm, ⟨116, _⟩ => ⟨S4x128x4x4096, .f32⟩
  | .hbm, ⟨117, _⟩ => ⟨S4x4096x4x128, .f32⟩
  | .hbm, ⟨118, _⟩ => ⟨S4x4096x512, .f32⟩
  | .hbm, ⟨119, _⟩ => ⟨S1x1x512, .f32⟩
  | .hbm, ⟨120, _⟩ => ⟨S4x4096x512, .f32⟩
  | .hbm, ⟨121, _⟩ => ⟨S4x4096x512, .f32⟩
  | .hbm, ⟨122, _⟩ => ⟨S4x4096x512, .bf16⟩
  | .hbm, ⟨123, _⟩ => ⟨S4x15x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_3 : Ref sig .tc := ⟨.hbm, 56, rfl⟩
abbrev main_v48 : Ref sig .tc := ⟨.hbm, 57, rfl⟩
abbrev main_v49 : Ref sig .tc := ⟨.hbm, 58, rfl⟩
abbrev main_c_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_c_5 : Ref sig .tc := ⟨.hbm, 99, rfl⟩
abbrev main_v89 : Ref sig .tc := ⟨.hbm, 100, rfl⟩
abbrev main_v90 : Ref sig .tc := ⟨.hbm, 101, rfl⟩
abbrev main_c_6 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩

abbrev nD : Nat := 1
abbrev τ : Topo := Topo.v7x

variable {F : FTy → Type} [FloatOps F]
-- ==== Proof.Run.lean ====
/-
  The run of the attention program over the ideal reals: it ends with the result array at what the second region's
  write-backs leave, and the arguments as launched.
-/
module

public import proofs.«01_k».proof.Proof.Gen.KernelIdeal.Frame
public import Idealize.ShloMosaic.Lib.Pointwise

@[expose] public section

set_option maxRecDepth 16384
set_option backward.isDefEq.respectTransparency.types false

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Every buffer of a device's threads ends at the contents the fold through the program gives it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

/-- The result array ends at what the attention's write-backs leave, the arguments as launched. -/
theorem kernel_run : θ_run defs (onTc (τ := τ) (main (F := Ideal))) ⟨m, fun _ => 0, ρ⟩ (fun r => ∀ c : Dev nD,
      r.2.mem ((c.tc : Thread nD τ).loc main_v11) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Attn

end
-- ==== Proof.Online.lean ====
/-
  The online softmax over the extended reals, one block of keys after another: the running maximum, the running
  sum of exponentials and the running weighted sum of the values, and what they hold after any number of blocks.
-/
module

public import Idealize.ShloMosaic.PureOps.Ideal

@[expose] public section

noncomputable section

namespace Cert.Attn

open Idealize.ShloMosaic

/-! ## Arithmetic of extended reals -/

/-- A nonnegative real factor goes into a sum of extended reals, whatever the summands. -/
theorem mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem exp_bot : Ideal.exp ⊥ = 0 := rfl

/-- The exponential of an extended real below `⊤` is a nonnegative real, positive off `⊥`. -/
theorem exp_real (x : EReal) (hx : x ≠ ⊤) : ∃ r : ℝ, 0 ≤ r ∧ Ideal.exp x = (r : EReal) ∧ (x ≠ ⊥ → 0 < r) := by
  induction x with
  | bot => exact ⟨0, le_rfl, by rw [exp_bot, EReal.coe_zero], fun h => absurd rfl h⟩
  | top => exact absurd rfl hx
  | coe r => exact ⟨Real.exp r, (Real.exp_pos r).le, rfl, fun _ => Real.exp_pos r⟩

/-- Moving the shift of an exponential: `exp (M - M') · exp (x - M) = exp (x - M')`. -/
theorem exp_shift (x : EReal) (hx : x ≠ ⊤) (M M' : ℝ) :
    Ideal.exp ((M : EReal) - (M' : EReal)) * Ideal.exp (x - (M : EReal)) = Ideal.exp (x - (M' : EReal)) := by
  induction x with
  | bot =>
    rw [EReal.bot_sub, EReal.bot_sub, exp_bot, mul_zero]
  | top => exact absurd rfl hx
  | coe r =>
    rw [← EReal.coe_sub, ← EReal.coe_sub, ← EReal.coe_sub]
    show ((Real.exp (M - M') : ℝ) : EReal) * ((Real.exp (r - M) : ℝ) : EReal) = ((Real.exp (r - M') : ℝ) : EReal)
    rw [← EReal.coe_mul, ← Real.exp_add]
    congr 2
    ring

theorem exp_sub_coe (M M' : ℝ) : Ideal.exp ((M : EReal) - (M' : EReal)) = ((Real.exp (M - M') : ℝ) : EReal) := by
  rw [← EReal.coe_sub]; rfl

/-- A maximum over finitely many extended reals below `⊤` is below `⊤`. -/
theorem fold_max_ne_top {ι : Type*} (s : Finset ι) (f : ι → EReal) (h : ∀ i ∈ s, f i ≠ ⊤) :
    Finset.fold max ⊥ f s ≠ ⊤ := by
  rw [← lt_top_iff_ne_top, Finset.fold_max_lt]
  exact ⟨bot_lt_top, fun i hi => lt_top_iff_ne_top.mpr (h i hi)⟩

/-- A maximum of which one term is above `⊥` is above `⊥`. -/
theorem fold_max_ne_bot {ι : Type*} (s : Finset ι) (f : ι → EReal) (i : ι) (hi : i ∈ s) (h : f i ≠ ⊥) :
    Finset.fold max ⊥ f s ≠ ⊥ := by
  rw [← bot_lt_iff_ne_bot, Finset.lt_fold_max]
  exact .inr ⟨i, hi, bot_lt_iff_ne_bot.mpr h⟩

/-! ## The running state -/

/-- What the recurrence keeps of one head for a tile of 1024 queries: per query the maximum and the sum, per lane
    and query the weighted sum of the values. -/
@[ext] structure St where
  m : Fin 1024 → EReal
  l : Fin 1024 → EReal
  acc : Fin 128 → Fin 1024 → EReal

/-- Before the first block. -/
def St.init : St := ⟨fun _ => ⊥, fun _ => 0, fun _ _ => 0⟩

/-- The maximum after one more block of scores `s key query`. -/
def St.mNew (a : St) (s : Fin 1024 → Fin 1024 → EReal) (q : Fin 1024) : EReal :=
  max (a.m q) (Finset.univ.fold max ⊥ fun k => s k q)

/-- One more block: its scores `s key query`, its values `v lane key`. -/
def St.step (a : St) (s : Fin 1024 → Fin 1024 → EReal) (v : Fin 128 → Fin 1024 → EReal) : St where
  m := a.mNew s
  l q := Ideal.exp (a.m q - a.mNew s q) * a.l q + ∑ k, Ideal.exp (s k q - a.mNew s q)
  acc r q := Ideal.exp (a.m q - a.mNew s q) * a.acc r q + ∑ k, v r k * Ideal.exp (s k q - a.mNew s q)

/-- Block `j` of the scores of all keys. -/
def blkS (S : ℕ → Fin 1024 → EReal) (j : ℕ) : Fin 1024 → Fin 1024 → EReal := fun k q => S (1024 * j + k.val) q
/-- Block `j` of the values of all keys. -/
def blkV (V : Fin 128 → ℕ → EReal) (j : ℕ) : Fin 128 → Fin 1024 → EReal := fun r k => V r (1024 * j + k.val)

/-- The state after `n` blocks. -/
def run (S : ℕ → Fin 1024 → EReal) (V : Fin 128 → ℕ → EReal) : ℕ → St
  | 0 => St.init
  | n + 1 => (run S V n).step (blkS S n) (blkV V n)

/-- What the state holds of query `q` with shift `M` after `n` keys. -/
def Inv (S : ℕ → Fin 1024 → EReal) (V : Fin 128 → ℕ → EReal) (q : Fin 1024) (n : ℕ) (a : St) (M : ℝ) : Prop :=
  a.m q = (M : EReal) ∧ a.l q = ∑ i ∈ Finset.range n, Ideal.exp (S i q - (M : EReal))
    ∧ ∀ r, a.acc r q = ∑ i ∈ Finset.range n, V r i * Ideal.exp (S i q - (M : EReal))

theorem sum_block (f : ℕ → EReal) (n : ℕ) :
    ∑ i ∈ Finset.range (1024 * (n + 1)), f i = ∑ i ∈ Finset.range (1024 * n), f i + ∑ k : Fin 1024, f (1024 * n + k.val) := by
  rw [show 1024 * (n + 1) = 1024 * n + 1024 by ring, Finset.sum_range_add,
    Fin.sum_univ_eq_sum_range (fun k => f (1024 * n + k)) 1024]

/-- One more block keeps the invariant. -/
theorem Inv.step {S : ℕ → Fin 1024 → EReal} {V : Fin 128 → ℕ → EReal} {q : Fin 1024} {n : ℕ} {a : St} {M : ℝ}
    (ha : Inv S V q (1024 * n) a M) (h : ∀ i < 1024 * (n + 1), S i q ≠ ⊤) :
    ∃ M' : ℝ, Inv S V q (1024 * (n + 1)) (a.step (blkS S n) (blkV V n)) M' := by
  obtain ⟨hm, hl, hacc⟩ := ha
  have hn : a.mNew (blkS S n) q ≠ ⊤ ∧ a.mNew (blkS S n) q ≠ ⊥ := by
    unfold St.mNew
    rw [hm]
    constructor
    · rw [← lt_top_iff_ne_top, max_lt_iff]
      exact ⟨EReal.coe_lt_top M, lt_top_iff_ne_top.mpr
        (fold_max_ne_top _ _ fun k _ => h _ (by have := k.isLt; omega))⟩
    · rw [← bot_lt_iff_ne_bot]
      exact lt_of_lt_of_le (EReal.bot_lt_coe M) (le_max_left _ _)
  obtain ⟨M', hM'⟩ : ∃ M' : ℝ, a.mNew (blkS S n) q = (M' : EReal) := ⟨_, (EReal.coe_toReal hn.1 hn.2).symm⟩
  have hpos := (Real.exp_pos (M - M')).le
  refine ⟨M', hM', ?_, fun r => ?_⟩
  · dsimp only [St.step]
    rw [hM', hm, hl, sum_block, exp_sub_coe, mul_sum _ hpos, ← exp_sub_coe]
    congr 1
    refine Finset.sum_congr rfl fun i hi => exp_shift _ (h i ?_) M M'
    have := Finset.mem_range.mp hi; omega
  · dsimp only [St.step]
    rw [hM', hm, hacc, sum_block, exp_sub_coe, mul_sum _ hpos, ← exp_sub_coe]
    congr 1
    refine Finset.sum_congr rfl fun i hi => ?_
    rw [mul_left_comm, exp_shift _ (h i ?_) M M']
    have := Finset.mem_range.mp hi; omega

/-- The first block establishes it. -/
theorem Inv.first (S : ℕ → Fin 1024 → EReal) (V : Fin 128 → ℕ → EReal) (q : Fin 1024) (h0 : S 0 q ≠ ⊥)
    (h : ∀ i < 1024 * (0 + 1), S i q ≠ ⊤) :
    ∃ M : ℝ, Inv S V q (1024 * (0 + 1)) (St.init.step (blkS S 0) (blkV V 0)) M := by
  have e : St.init.mNew (blkS S 0) q = Finset.univ.fold max ⊥ fun k => blkS S 0 k q := by
    unfold St.mNew; exact max_eq_right bot_le
  have hm : St.init.mNew (blkS S 0) q ≠ ⊤ ∧ St.init.mNew (blkS S 0) q ≠ ⊥ := by
    rw [e]
    exact ⟨fold_max_ne_top _ _ fun k _ => h _ (by have := k.isLt; omega),
      fold_max_ne_bot _ _ (0 : Fin 1024) (Finset.mem_univ _) h0⟩
  obtain ⟨M, hM⟩ : ∃ M : ℝ, St.init.mNew (blkS S 0) q = (M : EReal) := ⟨_, (EReal.coe_toReal hm.1 hm.2).symm⟩
  refine ⟨M, hM, ?_, fun r => ?_⟩
  · dsimp only [St.step]
    rw [hM, sum_block, mul_zero, Finset.range_zero, Finset.sum_empty]
    exact congrArg (· + _) (mul_zero _)
  · dsimp only [St.step]
    rw [hM, sum_block, mul_zero, Finset.range_zero, Finset.sum_empty]
    exact congrArg (· + _) (mul_zero _)

/-- After `n + 1` blocks of scores below `⊤`, the very first of them above `⊥`, the state holds the sums over all
    keys so far with some real shift. -/
theorem run_inv (S : ℕ → Fin 1024 → EReal) (V : Fin 128 → ℕ → EReal) (q : Fin 1024) (h0 : S 0 q ≠ ⊥) :
    ∀ n, (∀ i < 1024 * (n + 1), S i q ≠ ⊤) → ∃ M : ℝ, Inv S V q (1024 * (n + 1)) (run S V (n + 1)) M
  | 0, h => Inv.first S V q h0 h
  | n + 1, h => by
    obtain ⟨M, hM⟩ := run_inv S V q h0 n fun i hi => h i (by omega)
    exact hM.step h

/-! ## Softmax, whatever the shift -/

/-- The softmax of the scores `s` applied to the values `v`, without a shift. -/
def att {ι : Type*} (t : Finset ι) (s v : ι → EReal) : EReal :=
  Ideal.div (∑ i ∈ t, v i * Ideal.exp (s i)) (∑ i ∈ t, Ideal.exp (s i))

theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The sum of the exponentials is a positive real. -/
theorem sum_exp_pos {ι : Type*} (t : Finset ι) (s : ι → EReal) (ht : ∀ i ∈ t, s i ≠ ⊤) (i₀ : ι) (hi : i₀ ∈ t) (h0 : s i₀ ≠ ⊥) :
    ∃ B : ℝ, 0 < B ∧ ∑ i ∈ t, Ideal.exp (s i) = (B : EReal) := by
  choose! r hr using fun i (hi : i ∈ t) => exp_real (s i) (ht i hi)
  refine ⟨∑ i ∈ t, r i, Finset.sum_pos' (fun i hi => (hr i hi).1) ⟨i₀, hi, (hr i₀ hi).2.2 h0⟩, ?_⟩
  rw [coe_sum]
  exact Finset.sum_congr rfl fun i hi => (hr i hi).2.1

theorem exp_unshift (x : EReal) (hx : x ≠ ⊤) (M : ℝ) :
    Ideal.exp (x - (M : EReal)) = ((Real.exp (-M) : ℝ) : EReal) * Ideal.exp x := by
  have := exp_shift x hx 0 M
  rw [EReal.coe_zero, sub_zero, zero_sub] at this
  rw [← this, ← EReal.coe_neg]; rfl

theorem div_of_pos (x : EReal) (b : ℝ) (hb : 0 < b) : Ideal.div x (b : EReal) = x * ((b⁻¹ : ℝ) : EReal) := by
  have h : (b : EReal) ≠ 0 := by exact_mod_cast hb.ne'
  rw [Ideal.div, if_neg h, EReal.coe_inv]

/-- The quotient of the two sums does not depend on the shift. -/
theorem div_shift {ι : Type*} (t : Finset ι) (s v : ι → EReal) (M : ℝ) (ht : ∀ i ∈ t, s i ≠ ⊤) (i₀ : ι) (hi : i₀ ∈ t)
    (h0 : s i₀ ≠ ⊥) :
    Ideal.div (∑ i ∈ t, v i * Ideal.exp (s i - (M : EReal))) (∑ i ∈ t, Ideal.exp (s i - (M : EReal))) = att t s v := by
  obtain ⟨B, hB, eB⟩ := sum_exp_pos t s ht i₀ hi h0
  have hc := Real.exp_pos (-M)
  have e1 : ∑ i ∈ t, v i * Ideal.exp (s i - (M : EReal)) = ((Real.exp (-M) : ℝ) : EReal) * ∑ i ∈ t, v i * Ideal.exp (s i) := by
    rw [mul_sum _ hc.le]
    refine Finset.sum_congr rfl fun i hi => ?_
    rw [exp_unshift _ (ht i hi), mul_left_comm]
  have e2 : ∑ i ∈ t, Ideal.exp (s i - (M : EReal)) = ((Real.exp (-M) * B : ℝ) : EReal) := by
    rw [EReal.coe_mul, ← eB, mul_sum _ hc.le]
    exact Finset.sum_congr rfl fun i hi => exp_unshift _ (ht i hi) M
  unfold att
  rw [e1, e2, eB, div_of_pos _ _ (mul_pos hc hB), div_of_pos _ _ hB, mul_comm ((Real.exp (-M) : ℝ) : EReal), mul_assoc,
    ← EReal.coe_mul]
  congr 2
  field_simp

/-- The other order of the same: each weight divided first, then the weighted sum. -/
theorem sum_div_shift {ι : Type*} (t : Finset ι) (s v : ι → EReal) (M : ℝ) (ht : ∀ i ∈ t, s i ≠ ⊤) (i₀ : ι) (hi : i₀ ∈ t)
    (h0 : s i₀ ≠ ⊥) :
    ∑ i ∈ t, Ideal.div (Ideal.exp (s i - (M : EReal))) (∑ i ∈ t, Ideal.exp (s i - (M : EReal))) * v i = att t s v := by
  rw [← div_shift t s v M ht i₀ hi h0]
  have ht' : ∀ i ∈ t, s i - (M : EReal) ≠ ⊤ := fun i hi h => by
    have := ht i hi
    induction hs : s i with
    | bot => rw [hs, EReal.bot_sub] at h; exact bot_ne_top h
    | top => exact this hs
    | coe r =>
      rw [hs] at h
      exact EReal.coe_ne_top (r - M) (by rw [EReal.coe_sub]; exact h)
  have h0' : s i₀ - (M : EReal) ≠ ⊥ := fun h => by
    induction hs : s i₀ with
    | bot => exact h0 hs
    | top => exact ht i₀ hi hs
    | coe r =>
      rw [hs] at h
      exact EReal.coe_ne_bot (r - M) (by rw [EReal.coe_sub]; exact h)
  obtain ⟨B, hB, eB⟩ := sum_exp_pos t (fun i => s i - (M : EReal)) ht' i₀ hi h0'
  rw [eB, div_of_pos _ _ hB, mul_comm, mul_sum _ (inv_pos.mpr hB).le]
  refine Finset.sum_congr rfl fun i _ => ?_
  rw [div_of_pos _ _ hB, mul_assoc, mul_comm, mul_assoc]

/-- A finished state divides out to the softmax over the keys it has seen. -/
theorem Inv.div {S : ℕ → Fin 1024 → EReal} {V : Fin 128 → ℕ → EReal} {q : Fin 1024} {n : ℕ} {a : St} {M : ℝ}
    (h : Inv S V q n a M) (hn : 0 < n) (ht : ∀ i < n, S i q ≠ ⊤) (h0 : S 0 q ≠ ⊥) (r : Fin 128) :
    Ideal.div (a.acc r q) (a.l q) = att (Finset.range n) (fun i => S i q) (V r) := by
  rw [h.2.1, h.2.2 r]
  exact div_shift _ _ _ M (fun i hi => ht i (Finset.mem_range.mp hi)) 0 (Finset.mem_range.mpr hn) h0

end Cert.Attn

end
-- ==== Proof.Payloads.lean ====
/-
  What the attention's straight-line stretches compute, at one index: the scores of a block, its masked form, and
  the three updates of the online softmax. Both heads and both kinds of block (below the diagonal and on it) compute
  the same updates, so one set of lemmas serves all four.
-/
module

public import proofs.«01_k».proof.Proof.Gen.KernelIdeal.Skeleton
public import proofs.«01_k».proof.Proof.Online
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

/-- The pattern of minus infinity. -/
theorem ofBits_negInf : Ideal.ofBits FTy.f32 4286578688#32 = ⊥ := by
  simp [Ideal.ofBits, Ideal.ieee]

/-- The pattern of plus infinity. -/
theorem ofBits_posInf : Ideal.ofBits FTy.f32 2139095040#32 = ⊤ := by
  simp [Ideal.ofBits, Ideal.ieee]

/-! ## The updates -/

/-- The new maximum. -/
theorem pay_m (sc : FVec Ideal S1024x1024 .f32) (vm : Vec Ideal S1x1x1024 .f32) (q : Fin 1024) :
    k1_pay12 sc vm (ix2 0 q) = max (vm (ix3 0 0 q)) (Finset.univ.fold max ⊥ fun k => sc (ix2 k q)) := by
  pointwise [k1_pay12, k1_pay11]
  rw [ofBits_negInf]

/-- The new sum. -/
theorem pay_l (sc : FVec Ideal S1024x1024 .f32) (vm vl : Vec Ideal S1x1x1024 .f32) (q : Fin 1024) :
    k1_pay15 sc vm vl (ix3 0 0 q) = Ideal.exp (vm (ix3 0 0 q) - k1_pay12 sc vm (ix2 0 q)) * vl (ix3 0 0 q)
      + ∑ k, Ideal.exp (sc (ix2 k q) - k1_pay12 sc vm (ix2 0 q)) := by
  pointwise [k1_pay15, k1_pay14, k1_pay13, k1_pay11]

/-- The new weighted sum. -/
theorem pay_acc (w : FVec Ideal S128x1024 .bf16) (sc : FVec Ideal S1024x1024 .f32) (vm : Vec Ideal S1x1x1024 .f32)
    (va : Vec Ideal S1x128x1024 .f32) (r : Fin 128) (q : Fin 1024) :
    k1_pay38 w (k1_pay14 sc vm) (k1_pay16 sc vm va) (ix3 0 r q)
      = Ideal.exp (vm (ix3 0 0 q) - k1_pay12 sc vm (ix2 0 q)) * va (ix3 0 r q)
      + ∑ k, w (ix2 r k) * Ideal.exp (sc (ix2 k q) - k1_pay12 sc vm (ix2 0 q)) := by
  pointwise [k1_pay38, k1_pay16, k1_pay14, k1_pay13, k1_pay11]

theorem pay_m_store (v : FVec Ideal S1x1024 .f32) (q : Fin 1024) : k1_pay39 v (ix3 0 0 q) = v (ix2 0 q) := by
  pointwise [k1_pay39]

/-- Three vectors loaded from the scratch buffers hold the state `a` of one head. -/
structure Loaded (vm vl : Vec Ideal S1x1x1024 .f32) (va : Vec Ideal S1x128x1024 .f32) (a : St) : Prop where
  m : ∀ q, vm (ix3 0 0 q) = a.m q
  l : ∀ q, vl (ix3 0 0 q) = a.l q
  acc : ∀ r q, va (ix3 0 r q) = a.acc r q

/-- The three vectors stored hold the state after one more block. -/
theorem Loaded.step {vm vl : Vec Ideal S1x1x1024 .f32} {va : Vec Ideal S1x128x1024 .f32} {a : St} (h : Loaded vm vl va a)
    {sc : FVec Ideal S1024x1024 .f32} {w : FVec Ideal S128x1024 .bf16} {s : Fin 1024 → Fin 1024 → EReal}
    {v : Fin 128 → Fin 1024 → EReal} (hs : ∀ k q, sc (ix2 k q) = s k q) (hw : ∀ r k, w (ix2 r k) = v r k) :
    Loaded (k1_pay39 (k1_pay12 sc vm)) (k1_pay15 sc vm vl) (k1_pay38 w (k1_pay14 sc vm) (k1_pay16 sc vm va)) (a.step s v) := by
  have e : ∀ q, k1_pay12 sc vm (ix2 0 q) = a.mNew s q := fun q => by
    rw [pay_m, h.m, St.mNew]; simp only [hs]
  refine ⟨fun q => ?_, fun q => ?_, fun r q => ?_⟩
  · rw [pay_m_store, e]; rfl
  · rw [pay_l, e, h.m, h.l]; simp only [hs]; rfl
  · rw [pay_acc, e, h.m, h.acc]; simp only [hs, hw]; rfl

/-! ## The four forms are one -/

theorem below0_m (v1 : FVec Ideal S1024x128 .bf16) (v132 : Vec Ideal S1x1x1024x128 .bf16) (vm : Vec Ideal S1x1x1024 .f32) :
    k1_pay10 (k1_pay5 v1 v132 vm) = k1_pay39 (k1_pay12 (k1_pay2 v1 v132) vm) := rfl

theorem below0_l (v1 : FVec Ideal S1024x128 .bf16) (v132 : Vec Ideal S1x1x1024x128 .bf16) (vm vl : Vec Ideal S1x1x1024 .f32) :
    k1_pay8 v1 v132 vm vl = k1_pay15 (k1_pay2 v1 v132) vm vl := rfl

theorem below0_acc (w : FVec Ideal S128x1024 .bf16) (v1 : FVec Ideal S1024x128 .bf16) (v132 : Vec Ideal S1x1x1024x128 .bf16)
    (vm : Vec Ideal S1x1x1024 .f32) (va : Vec Ideal S1x128x1024 .f32) :
    k1_pay9 w (k1_pay6 v1 v132 vm) (k1_pay7 v1 v132 vm) va
      = k1_pay38 w (k1_pay14 (k1_pay2 v1 v132) vm) (k1_pay16 (k1_pay2 v1 v132) vm va) := rfl

theorem diag0_m (v1 : FVec Ideal S1024x128 .bf16) (v27 : Vec Ideal S1x1x1024x128 .bf16) (vm : Vec Ideal S1x1x1024 .f32) :
    k1_pay51 (k1_pay46 v1 v27 vm) = k1_pay39 (k1_pay12 (k1_pay52 (k1_pay2 v1 v27)) vm) := rfl

theorem diag0_l (v1 : FVec Ideal S1024x128 .bf16) (v27 : Vec Ideal S1x1x1024x128 .bf16) (vm vl : Vec Ideal S1x1x1024 .f32) :
    k1_pay49 v1 v27 vm vl = k1_pay15 (k1_pay52 (k1_pay2 v1 v27)) vm vl := rfl

theorem diag0_acc (w : FVec Ideal S128x1024 .bf16) (v1 : FVec Ideal S1024x128 .bf16) (v27 : Vec Ideal S1x1x1024x128 .bf16)
    (vm : Vec Ideal S1x1x1024 .f32) (va : Vec Ideal S1x128x1024 .f32) :
    k1_pay50 w (k1_pay47 v1 v27 vm) (k1_pay48 v1 v27 vm) va
      = k1_pay38 w (k1_pay14 (k1_pay52 (k1_pay2 v1 v27)) vm) (k1_pay16 (k1_pay52 (k1_pay2 v1 v27)) vm va) := rfl

theorem diag1_m (sc : FVec Ideal S1024x1024 .f32) (vm : Vec Ideal S1x1x1024 .f32) :
    k1_pay59 (k1_pay54 sc vm) = k1_pay39 (k1_pay12 (k1_pay52 sc) vm) := rfl

theorem diag1_l (sc : FVec Ideal S1024x1024 .f32) (vm vl : Vec Ideal S1x1x1024 .f32) :
    k1_pay57 sc vm vl = k1_pay15 (k1_pay52 sc) vm vl := rfl

theorem diag1_acc (w : FVec Ideal S128x1024 .bf16) (sc : FVec Ideal S1024x1024 .f32) (vm : Vec Ideal S1x1x1024 .f32)
    (va : Vec Ideal S1x128x1024 .f32) :
    k1_pay58 w (k1_pay55 sc vm) (k1_pay56 sc vm) va
      = k1_pay38 w (k1_pay14 (k1_pay52 sc) vm) (k1_pay16 (k1_pay52 sc) vm va) := rfl

theorem scores1_eq (v3 : FVec Ideal S1024x128 .bf16) (v136 : Vec Ideal S1x1x1024x128 .bf16) : k1_pay3 v3 v136 = k1_pay2 v3 v136 := rfl
theorem scores1_diag_eq (v3 : FVec Ideal S1024x128 .bf16) (v31 : Vec Ideal S1x1x1024x128 .bf16) : k1_pay43 v3 v31 = k1_pay2 v3 v31 := rfl

/-! ## Scores, mask, values, starts and the quotient -/

/-- The scores of a block: products of the key rows with the query rows. -/
theorem pay_scores (v1 : FVec Ideal S1024x128 .bf16) (v132 : Vec Ideal S1x1x1024x128 .bf16) (k q : Fin 1024) :
    k1_pay2 v1 v132 (ix2 k q) = ∑ x, v132 (ix4 0 0 k x) * v1 (ix2 q x) := by
  pointwise [k1_pay2]

/-- The mask of the diagonal block: a key after the query scores `⊥`. -/
theorem pay_mask (sc : FVec Ideal S1024x1024 .f32) (k q : Fin 1024) :
    k1_pay52 sc (ix2 k q) = if k.val ≤ q.val then sc (ix2 k q) else ⊥ := by
  pointwise [k1_pay52]
  rw [ofBits_negInf]
  have e : (IntOp.cmpi .sle (BitVec.ofNat 32 k.val) (BitVec.ofNat 32 q.val)) = if k.val ≤ q.val then 1#1 else 0#1 := by
    have hk := k.isLt
    have hq := q.isLt
    have : (BitVec.ofNat 32 k.val).sle (BitVec.ofNat 32 q.val) = decide (k.val ≤ q.val) := by
      rw [BitVec.sle_eq_decide, BitVec.toInt_eq_toNat_of_lt, BitVec.toInt_eq_toNat_of_lt] <;>
        simp only [BitVec.toNat_ofNat] <;> first | omega | skip
      rw [Nat.mod_eq_of_lt (by omega), Nat.mod_eq_of_lt (by omega)]
      simp
    simp only [IntOp.cmpi, this]
    by_cases h : k.val ≤ q.val
    · rw [if_pos h, decide_eq_true h]; rfl
    · rw [if_neg h, decide_eq_false h]; rfl
  rw [e]
  split <;> rfl

theorem pay_query0 (v0 : Vec Ideal S1x1x1024x128 .bf16) (q : Fin 1024) (x : Fin 128) : k1_pay33 v0 (ix2 q x) = v0 (ix4 0 0 q x) := by
  pointwise [k1_pay33]

theorem pay_query1 (v2 : Vec Ideal S1x1x1024x128 .bf16) (q : Fin 1024) (x : Fin 128) : k1_pay34 v2 (ix2 q x) = v2 (ix4 0 0 q x) := by
  pointwise [k1_pay34]

theorem pay_values (v129 : Vec Ideal S1x1x128x1024 .bf16) (r : Fin 128) (k : Fin 1024) : k1_pay1 v129 (ix2 r k) = v129 (ix4 0 0 r k) := by
  pointwise [k1_pay1]

theorem pay_values_diag (v24 : Vec Ideal S1x1x128x1024 .bf16) (r : Fin 128) (k : Fin 1024) : k1_pay42 v24 (ix2 r k) = v24 (ix4 0 0 r k) := by
  pointwise [k1_pay42]

theorem pay_m_start (h : Fin 2) (q : Fin 1024) : k1_pay35 (F := Ideal) (ix3 h 0 q) = ⊥ := by
  pointwise [k1_pay35]
  exact ofBits_negInf

theorem pay_l_start (h : Fin 2) (q : Fin 1024) : k1_pay36 (F := Ideal) (ix3 h 0 q) = 0 := by
  pointwise [k1_pay36]

theorem pay_acc_start (h : Fin 2) (r : Fin 128) (q : Fin 1024) : k1_pay37 (F := Ideal) (ix3 h r q) = 0 := by
  pointwise [k1_pay37]

/-- The last stretch: the first 64 lanes are head 0's quotient, the last 64 head 1's. -/
theorem pay_quot (v108 v114 : Vec Ideal S1x64x1024 .f32) (v110 v116 : Vec Ideal S1x1x1024 .f32) (q : Fin 1024) (r : Fin 128) :
    k1_pay60 v108 v110 v114 v116 (ix3 0 q r) = if h : r.val < 64 then Ideal.div (v108 (ix3 0 ⟨r.val, h⟩ q)) (v110 (ix3 0 0 q))
      else Ideal.div (v114 (ix3 0 ⟨r.val - 64, by have := r.isLt; omega⟩ q)) (v116 (ix3 0 0 q)) := by
  pointwise [k1_pay60]

end Cert.Attn

end
-- ==== Proof.Trip.lean ====
/-
  One trip of the loop over the blocks below the diagonal: it carries the states of the two heads, kept in the three
  scratch buffers, one block further.
-/
module

public import proofs.«01_k».proof.Proof.Gen.KernelIdeal.Frame
public import proofs.«01_k».proof.Proof.Payloads
public import Idealize.ShloMosaic.Lib.WritesUnit

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

/-- Where one run of the attention's body takes place: the grid point, the buffers and the input blocks. -/
structure Site where
  c : Dev nD
  i : grid1.Coords
  arg3 : Memref sig .tc .vmem S1x1x1024x128 .bf16
  h3 : arg3.IsWhole
  arg4 : Memref sig .tc .vmem S1x1x1024x128 .bf16
  h4 : arg4.IsWhole
  arg5 : Memref sig .tc .vmem S1x1x4096x128 .bf16
  h5 : arg5.IsWhole
  arg6 : Memref sig .tc .vmem S1x1x4096x128 .bf16
  h6 : arg6.IsWhole
  arg7 : Memref sig .tc .vmem S1x1x128x4096 .bf16
  h7 : arg7.IsWhole
  arg8 : Memref sig .tc .vmem S1x1024x128 .bf16
  h8 : arg8.IsWhole
  arg9 : Memref sig .tc .vmem S2x1x1024 .f32
  h9 : arg9.IsWhole
  arg10 : Memref sig .tc .vmem S2x1x1024 .f32
  h10 : arg10.IsWhole
  arg11 : Memref sig .tc .vmem S2x128x1024 .f32
  h11 : arg11.IsWhole
  x0 : Vec Ideal S1x1x1024x128 .bf16
  x1 : Vec Ideal S1x1x1024x128 .bf16
  x2 : Vec Ideal S1x1x4096x128 .bf16
  x3 : Vec Ideal S1x1x4096x128 .bf16
  x4 : Vec Ideal S1x1x128x4096 .bf16

namespace Site

variable (e : Site)

abbrev C9 := BufTy.Contents (Elt Ideal) e.arg9.view.ty
abbrev C10 := BufTy.Contents (Elt Ideal) e.arg10.view.ty
abbrev C11 := BufTy.Contents (Elt Ideal) e.arg11.view.ty

/-- Head `h`'s part of the three scratch buffers holds the state `a`. -/
structure Holds (f9 : e.C9) (f10 : e.C10) (f11 : e.C11) (h : Fin 2) (a : St) : Prop where
  m : ∀ q, e.arg9.view.read (Elt Ideal) f9 (ix3 h 0 q) = a.m q
  l : ∀ q, e.arg10.view.read (Elt Ideal) f10 (ix3 h 0 q) = a.l q
  acc : ∀ r q, e.arg11.view.read (Elt Ideal) f11 (ix3 h r q) = a.acc r q

/-- The queries of the tile, as loaded. -/
def v0 : Vec Ideal S1x1x1024x128 .bf16 :=
  View.readAt (Elt Ideal) e.arg3.view (Rect.unit (s := S1x1x1024x128) ![0, 0, 0, 0] S1x1x1024x128.size inb_S1x1x1024x128_S1x1x1024x128_0_0_0_0).toLoadRect (e.h3.unread e.x0)
def v2 : Vec Ideal S1x1x1024x128 .bf16 :=
  View.readAt (Elt Ideal) e.arg4.view (Rect.unit (s := S1x1x1024x128) ![0, 0, 0, 0] S1x1x1024x128.size inb_S1x1x1024x128_S1x1x1024x128_0_0_0_0).toLoadRect (e.h4.unread e.x1)

/-- The pieces trip `k` writes, from the contents it finds. -/
def trip (k : Fin (k1_t1_loop e.i).trips) (f9 : e.C9) (f10 : e.C10) (f11 : e.C11) :=
  tripL_k1_t1 (F := Ideal) Variants.none e.c none e.i e.arg3 e.h3 e.arg4 e.h4 e.arg5 e.h5 e.arg6 e.h6 e.arg7 e.h7 e.arg8 e.h8
    e.arg9 e.h9 e.arg10 e.h10 e.arg11 e.h11 e.v0 e.v2 (e.h5.unread e.x2) (e.h6.unread e.x3) (e.h7.unread e.x4) k f9 f10 f11

/-- A store into head `h`'s row of a row buffer, and the same of the buffer of weighted sums. -/
def row (h : Fin 2) (w : Vec Ideal S1x1x1024 .f32) : View.Piece (Elt Ideal) S2x1x1024 .f32 :=
  ⟨Rect.unit (s := S2x1x1024) ![h.val, 0, 0] S1x1x1024.size (by intro a; have := h.isLt; fin_cases a <;> simp [S2x1x1024, S1x1x1024] <;> omega), w⟩
def slab (h : Fin 2) (w : Vec Ideal S1x128x1024 .f32) : View.Piece (Elt Ideal) S2x128x1024 .f32 :=
  ⟨Rect.unit (s := S2x128x1024) ![h.val, 0, 0] S1x128x1024.size (by intro a; have := h.isLt; fin_cases a <;> simp [S2x128x1024, S1x128x1024] <;> omega), w⟩

/-- The load of head `h`'s row, and of its slab. -/
def rowAt (v : View sig .tc .vmem S2x1x1024 .f32) (h : Fin 2) (f : BufTy.Contents (Elt Ideal) v.ty) : Vec Ideal S1x1x1024 .f32 :=
  v.readAt (Elt Ideal) (row h (fun _ => 0)).1.toLoadRect f
def slabAt (v : View sig .tc .vmem S2x128x1024 .f32) (h : Fin 2) (f : BufTy.Contents (Elt Ideal) v.ty) : Vec Ideal S1x128x1024 .f32 :=
  v.readAt (Elt Ideal) (slab h (fun _ => 0)).1.toLoadRect f

theorem rowAt_apply (v : View sig .tc .vmem S2x1x1024 .f32) (h : Fin 2) (f : BufTy.Contents (Elt Ideal) v.ty) (q : Fin 1024) :
    rowAt v h f (ix3 0 0 q) = v.read (Elt Ideal) f (ix3 h 0 q) := by
  refine congrArg (v.read (Elt Ideal) f) (funext fun a => Fin.ext ?_)
  fin_cases a
  · show h.val + 1 * 0 = h.val; omega
  · rfl
  · show 0 + 1 * q.val = q.val; omega

theorem slabAt_apply (v : View sig .tc .vmem S2x128x1024 .f32) (h : Fin 2) (f : BufTy.Contents (Elt Ideal) v.ty) (r : Fin 128) (q : Fin 1024) :
    slabAt v h f (ix3 0 r q) = v.read (Elt Ideal) f (ix3 h r q) := by
  refine congrArg (v.read (Elt Ideal) f) (funext fun a => Fin.ext ?_)
  fin_cases a
  · show h.val + 1 * 0 = h.val; omega
  · show 0 + 1 * r.val = r.val; omega
  · show 0 + 1 * q.val = q.val; omega

theorem read_row (v : View sig .tc .vmem S2x1x1024 .f32) (f : BufTy.Contents (Elt Ideal) v.ty) (h : Fin 2) (w : Vec Ideal S1x1x1024 .f32)
    (L : List (View.Piece (Elt Ideal) S2x1x1024 .f32)) (q : Fin 1024) :
    v.read (Elt Ideal) (v.writes (Elt Ideal) f (row h w :: L)) (ix3 h 0 q) = w (ix3 0 0 q) := by
  refine View.read_writes_cons_unit_of_mem v f _ w L (ix3 h 0 q) (ix3 0 0 q) rfl fun a => ?_
  fin_cases a
  · show h.val = h.val + 0; rfl
  · rfl
  · show q.val = 0 + q.val; omega

theorem read_row_ne (v : View sig .tc .vmem S2x1x1024 .f32) (f : BufTy.Contents (Elt Ideal) v.ty) (h h' : Fin 2) (hh : h' ≠ h) (w : Vec Ideal S1x1x1024 .f32)
    (L : List (View.Piece (Elt Ideal) S2x1x1024 .f32)) (q : Fin 1024) :
    v.read (Elt Ideal) (v.writes (Elt Ideal) f (row h w :: L)) (ix3 h' 0 q) = v.read (Elt Ideal) (v.writes (Elt Ideal) f L) (ix3 h' 0 q) := by
  refine View.read_writes_cons_unit_of_not_mem v f _ w L (ix3 h' 0 q) rfl 0 ?_
  show h'.val < h.val ∨ h.val + 1 ≤ h'.val
  have : h'.val ≠ h.val := fun e => hh (Fin.ext e)
  omega

theorem read_slab (v : View sig .tc .vmem S2x128x1024 .f32) (f : BufTy.Contents (Elt Ideal) v.ty) (h : Fin 2) (w : Vec Ideal S1x128x1024 .f32)
    (L : List (View.Piece (Elt Ideal) S2x128x1024 .f32)) (r : Fin 128) (q : Fin 1024) :
    v.read (Elt Ideal) (v.writes (Elt Ideal) f (slab h w :: L)) (ix3 h r q) = w (ix3 0 r q) := by
  refine View.read_writes_cons_unit_of_mem v f _ w L (ix3 h r q) (ix3 0 r q) rfl fun a => ?_
  fin_cases a
  · show h.val = h.val + 0; rfl
  · show r.val = 0 + r.val; omega
  · show q.val = 0 + q.val; omega

theorem read_slab_ne (v : View sig .tc .vmem S2x128x1024 .f32) (f : BufTy.Contents (Elt Ideal) v.ty) (h h' : Fin 2) (hh : h' ≠ h) (w : Vec Ideal S1x128x1024 .f32)
    (L : List (View.Piece (Elt Ideal) S2x128x1024 .f32)) (r : Fin 128) (q : Fin 1024) :
    v.read (Elt Ideal) (v.writes (Elt Ideal) f (slab h w :: L)) (ix3 h' r q) = v.read (Elt Ideal) (v.writes (Elt Ideal) f L) (ix3 h' r q) := by
  refine View.read_writes_cons_unit_of_not_mem v f _ w L (ix3 h' r q) rfl 0 ?_
  show h'.val < h.val ∨ h.val + 1 ≤ h'.val
  have : h'.val ≠ h.val := fun e => hh (Fin.ext e)
  omega

variable {e}

/-- What a head's loads hold. -/
theorem Holds.loaded {f9 : e.C9} {f10 : e.C10} {f11 : e.C11} {h : Fin 2} {a : St} (H : e.Holds f9 f10 f11 h a) :
    Loaded (rowAt e.arg9.view h f9) (rowAt e.arg10.view h f10) (slabAt e.arg11.view h f11) a :=
  ⟨fun q => (rowAt_apply _ _ _ q).trans (H.m q), fun q => (rowAt_apply _ _ _ q).trans (H.l q),
    fun r q => (slabAt_apply _ _ _ r q).trans (H.acc r q)⟩

/-- After a head's three stores its part holds what was stored. -/
theorem Holds.store {g9 : e.C9} {g10 : e.C10} {g11 : e.C11} {L9 L10 : List (View.Piece (Elt Ideal) S2x1x1024 .f32)}
    {L11 : List (View.Piece (Elt Ideal) S2x128x1024 .f32)} (h : Fin 2) {a : St} {wm wl : Vec Ideal S1x1x1024 .f32} {wa : Vec Ideal S1x128x1024 .f32}
    (H : Loaded wm wl wa a) :
    e.Holds (e.arg9.view.writes (Elt Ideal) g9 (row h wm :: L9)) (e.arg10.view.writes (Elt Ideal) g10 (row h wl :: L10))
      (e.arg11.view.writes (Elt Ideal) g11 (slab h wa :: L11)) h a :=
  ⟨fun q => (read_row _ _ _ _ _ q).trans (H.m q), fun q => (read_row _ _ _ _ _ q).trans (H.l q),
    fun r q => (read_slab _ _ _ _ _ r q).trans (H.acc r q)⟩

/-- The other head's part is as it was. -/
theorem Holds.skip {g9 : e.C9} {g10 : e.C10} {g11 : e.C11} {L9 L10 : List (View.Piece (Elt Ideal) S2x1x1024 .f32)}
    {L11 : List (View.Piece (Elt Ideal) S2x128x1024 .f32)} {h h' : Fin 2} (hh : h' ≠ h) {a : St} (wm wl : Vec Ideal S1x1x1024 .f32)
    (wa : Vec Ideal S1x128x1024 .f32)
    (H : e.Holds (e.arg9.view.writes (Elt Ideal) g9 L9) (e.arg10.view.writes (Elt Ideal) g10 L10) (e.arg11.view.writes (Elt Ideal) g11 L11) h' a) :
    e.Holds (e.arg9.view.writes (Elt Ideal) g9 (row h wm :: L9)) (e.arg10.view.writes (Elt Ideal) g10 (row h wl :: L10))
      (e.arg11.view.writes (Elt Ideal) g11 (slab h wa :: L11)) h' a :=
  ⟨fun q => (read_row_ne _ _ _ _ hh _ _ q).trans (H.m q), fun q => (read_row_ne _ _ _ _ hh _ _ q).trans (H.l q),
    fun r q => (read_slab_ne _ _ _ _ hh _ _ r q).trans (H.acc r q)⟩

variable (e)

/-- The key rows, and the values, that trip `k` loads. -/
def keys0 (k : Fin (k1_t1_loop e.i).trips) : Vec Ideal S1x1x1024x128 .bf16 :=
  View.readAt (Elt Ideal) e.arg5.view (Rect.unit (s := S1x1x4096x128) (k1_off2 e.i k) S1x1x1024x128.size (facts.k1_off2_inb e.i k)).toLoadRect (e.h5.unread e.x2)
def keys1 (k : Fin (k1_t1_loop e.i).trips) : Vec Ideal S1x1x1024x128 .bf16 :=
  View.readAt (Elt Ideal) e.arg6.view (Rect.unit (s := S1x1x4096x128) (k1_off2 e.i k) S1x1x1024x128.size (facts.k1_off2_inb e.i k)).toLoadRect (e.h6.unread e.x3)
def vals (k : Fin (k1_t1_loop e.i).trips) : Vec Ideal S1x1x128x1024 .bf16 :=
  View.readAt (Elt Ideal) e.arg7.view (Rect.unit (s := S1x1x128x4096) (k1_off1 e.i k) S1x1x128x1024.size (facts.k1_off1_inb e.i k)).toLoadRect (e.h7.unread e.x4)

theorem trip_eq (k : Fin (k1_t1_loop e.i).trips) (f9 : e.C9) (f10 : e.C10) (f11 : e.C11) :
    e.trip k f9 f10 f11 =
      ([row 1 (k1_pay39 (k1_pay12 (k1_pay2 (k1_pay34 e.v2) (e.keys1 k)) (rowAt e.arg9.view 1 f9))),
        row 0 (k1_pay39 (k1_pay12 (k1_pay2 (k1_pay33 e.v0) (e.keys0 k)) (rowAt e.arg9.view 0 f9)))],
       [row 1 (k1_pay15 (k1_pay2 (k1_pay34 e.v2) (e.keys1 k)) (rowAt e.arg9.view 1 f9) (rowAt e.arg10.view 1 f10)),
        row 0 (k1_pay15 (k1_pay2 (k1_pay33 e.v0) (e.keys0 k)) (rowAt e.arg9.view 0 f9) (rowAt e.arg10.view 0 f10))],
       [slab 1 (k1_pay38 (k1_pay1 (e.vals k)) (k1_pay14 (k1_pay2 (k1_pay34 e.v2) (e.keys1 k)) (rowAt e.arg9.view 1 f9))
          (k1_pay16 (k1_pay2 (k1_pay34 e.v2) (e.keys1 k)) (rowAt e.arg9.view 1 f9) (slabAt e.arg11.view 1 f11))),
        slab 0 (k1_pay38 (k1_pay1 (e.vals k)) (k1_pay14 (k1_pay2 (k1_pay33 e.v0) (e.keys0 k)) (rowAt e.arg9.view 0 f9))
          (k1_pay16 (k1_pay2 (k1_pay33 e.v0) (e.keys0 k)) (rowAt e.arg9.view 0 f9) (slabAt e.arg11.view 0 f11)))]) := by
  unfold trip tripL_k1_t1 trip_k1_t1
  rfl

/-- The scores of trip `k` and its values. -/
def score0 (k : Fin (k1_t1_loop e.i).trips) : Fin 1024 → Fin 1024 → EReal := fun j q => k1_pay2 (k1_pay33 e.v0) (e.keys0 k) (ix2 j q)
def score1 (k : Fin (k1_t1_loop e.i).trips) : Fin 1024 → Fin 1024 → EReal := fun j q => k1_pay2 (k1_pay34 e.v2) (e.keys1 k) (ix2 j q)
def value (k : Fin (k1_t1_loop e.i).trips) : Fin 128 → Fin 1024 → EReal := fun r j => k1_pay1 (e.vals k) (ix2 r j)

variable {e}

/-- One trip carries both heads one block further. -/
theorem Holds.trip {g9 : e.C9} {g10 : e.C10} {g11 : e.C11} {L9 L10 : List (View.Piece (Elt Ideal) S2x1x1024 .f32)}
    {L11 : List (View.Piece (Elt Ideal) S2x128x1024 .f32)} {a0 a1 : St} (k : Fin (k1_t1_loop e.i).trips)
    (H0 : e.Holds (e.arg9.view.writes (Elt Ideal) g9 L9) (e.arg10.view.writes (Elt Ideal) g10 L10) (e.arg11.view.writes (Elt Ideal) g11 L11) 0 a0)
    (H1 : e.Holds (e.arg9.view.writes (Elt Ideal) g9 L9) (e.arg10.view.writes (Elt Ideal) g10 L10) (e.arg11.view.writes (Elt Ideal) g11 L11) 1 a1) :
    let T := e.trip k (e.arg9.view.writes (Elt Ideal) g9 L9) (e.arg10.view.writes (Elt Ideal) g10 L10) (e.arg11.view.writes (Elt Ideal) g11 L11)
    e.Holds (e.arg9.view.writes (Elt Ideal) g9 (T.1 ++ L9)) (e.arg10.view.writes (Elt Ideal) g10 (T.2.1 ++ L10)) (e.arg11.view.writes (Elt Ideal) g11 (T.2.2 ++ L11)) 0
        (a0.step (e.score0 k) (e.value k))
      ∧ e.Holds (e.arg9.view.writes (Elt Ideal) g9 (T.1 ++ L9)) (e.arg10.view.writes (Elt Ideal) g10 (T.2.1 ++ L10)) (e.arg11.view.writes (Elt Ideal) g11 (T.2.2 ++ L11)) 1
        (a1.step (e.score1 k) (e.value k)) := by
  intro T
  have hT : T = _ := e.trip_eq k _ _ _
  rw [hT]
  exact ⟨.skip (by decide) _ _ _ (.store 0 (H0.loaded.step (fun _ _ => rfl) fun _ _ => rfl)),
    .store 1 (H1.loaded.step (fun _ _ => rfl) fun _ _ => rfl)⟩

end Site
end Cert.Attn

end
-- ==== Proof.Block.lean ====
/-
  One run of the attention's body: its output block holds, for the two heads of the pair, the quotient of the two sums
  of the online softmax after the blocks below the diagonal and the masked one on it.
-/
module

public import proofs.«01_k».proof.Proof.Trip

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

namespace Site

variable (e : Site)

/-! ## The stores of the run, first to last -/

/-- The starting values of the three buffers. -/
def start9 : List (View.Piece (Elt Ideal) S2x1x1024 .f32) := [⟨Rect.unit (s := S2x1x1024) ![0, 0, 0] S2x1x1024.size inb_S2x1x1024_S2x1x1024_0_0_0, k1_pay35 (F := Ideal)⟩]
def start10 : List (View.Piece (Elt Ideal) S2x1x1024 .f32) := [⟨Rect.unit (s := S2x1x1024) ![0, 0, 0] S2x1x1024.size inb_S2x1x1024_S2x1x1024_0_0_0, k1_pay36 (F := Ideal)⟩]
def start11 : List (View.Piece (Elt Ideal) S2x128x1024 .f32) := [⟨Rect.unit (s := S2x128x1024) ![0, 0, 0] S2x128x1024.size inb_S2x128x1024_S2x128x1024_0_0_0, k1_pay37 (F := Ideal)⟩]

/-- Contents made of a list of stores. -/
abbrev w9 (L : List (View.Piece (Elt Ideal) S2x1x1024 .f32)) : e.C9 := e.arg9.view.writes (Elt Ideal) e.arg9.view.junk L
abbrev w10 (L : List (View.Piece (Elt Ideal) S2x1x1024 .f32)) : e.C10 := e.arg10.view.writes (Elt Ideal) e.arg10.view.junk L
abbrev w11 (L : List (View.Piece (Elt Ideal) S2x128x1024 .f32)) : e.C11 := e.arg11.view.writes (Elt Ideal) e.arg11.view.junk L

/-- The stores of the first `n` trips, the last first. -/
def loop (n : ℕ) :=
  pb_k1_t1 (F := Ideal) Variants.none e.c none e.i e.arg3 e.h3 e.arg4 e.h4 e.arg5 e.h5 e.arg6 e.h6 e.arg7 e.h7 e.arg8 e.h8
    e.arg9 e.h9 e.arg10 e.h10 e.arg11 e.h11 e.v0 e.v2 (e.h5.unread e.x2) (e.h6.unread e.x3) (e.h7.unread e.x4)
    (e.w9 start9) (e.w10 start10) (e.w11 start11) n

/-- The number of trips of the loop. -/
abbrev trips : ℕ := Scf.trips (k1_t1_loop e.i).lb (k1_t1_loop e.i).ub (k1_t1_loop e.i).st

/-- The stores of the loop over what the first leaves: it makes no trips. -/
def rest :=
  pb_k1_t2 (F := Ideal) Variants.none e.c none e.i e.arg3 e.h3 e.arg4 e.h4 e.arg5 e.h5 e.arg6 e.h6 e.arg7 e.h7 e.arg8 e.h8
    e.arg9 e.h9 e.arg10 e.h10 e.arg11 e.h11 e.v0 e.v2
    (Scalar.addi 0#32 (Scalar.muli (Scalar.divsi (Scalar.subi (BitVec.ofNat 32 (e.i 2).val) 0#32) 1#32) 1#32))
    (e.h5.unread e.x2) (e.h6.unread e.x3) (e.h7.unread e.x4)
    (e.w9 ((e.loop e.trips).1 ++ start9)) (e.w10 ((e.loop e.trips).2.1 ++ start10)) (e.w11 ((e.loop e.trips).2.2 ++ start11))
    (Scf.trips (k1_t2_loop e.i).lb (k1_t2_loop e.i).ub (k1_t2_loop e.i).st)

def l9 : List (View.Piece (Elt Ideal) S2x1x1024 .f32) := e.rest.1 ++ ((e.loop e.trips).1 ++ start9)
def l10 : List (View.Piece (Elt Ideal) S2x1x1024 .f32) := e.rest.2.1 ++ ((e.loop e.trips).2.1 ++ start10)
def l11 : List (View.Piece (Elt Ideal) S2x128x1024 .f32) := e.rest.2.2 ++ ((e.loop e.trips).2.2 ++ start11)

/-- The key rows and the values of the block on the diagonal. -/
def keysD0 : Vec Ideal S1x1x1024x128 .bf16 :=
  View.readAt (Elt Ideal) e.arg5.view (Rect.unit (s := S1x1x4096x128) (k1_off6 e.i) S1x1x1024x128.size (facts.k1_off6_inb e.i)).toLoadRect (e.h5.unread e.x2)
def keysD1 : Vec Ideal S1x1x1024x128 .bf16 :=
  View.readAt (Elt Ideal) e.arg6.view (Rect.unit (s := S1x1x4096x128) (k1_off6 e.i) S1x1x1024x128.size (facts.k1_off6_inb e.i)).toLoadRect (e.h6.unread e.x3)
def valsD : Vec Ideal S1x1x128x1024 .bf16 :=
  View.readAt (Elt Ideal) e.arg7.view (Rect.unit (s := S1x1x128x4096) (k1_off5 e.i) S1x1x128x1024.size (facts.k1_off5_inb e.i)).toLoadRect (e.h7.unread e.x4)

/-- The masked scores of the diagonal block. -/
def scD0 : FVec Ideal S1024x1024 .f32 := k1_pay52 (k1_pay2 (k1_pay33 e.v0) e.keysD0)
def scD1 : FVec Ideal S1024x1024 .f32 := k1_pay52 (k1_pay2 (k1_pay34 e.v2) e.keysD1)

/-- Head 0's stores on the diagonal, then head 1's. -/
def a9 := row 0 (k1_pay39 (k1_pay12 e.scD0 (rowAt e.arg9.view 0 (e.w9 e.l9)))) :: e.l9
def a10 := row 0 (k1_pay15 e.scD0 (rowAt e.arg9.view 0 (e.w9 e.l9)) (rowAt e.arg10.view 0 (e.w10 e.l10))) :: e.l10
def a11 := slab 0 (k1_pay38 (k1_pay42 e.valsD) (k1_pay14 e.scD0 (rowAt e.arg9.view 0 (e.w9 e.l9)))
  (k1_pay16 e.scD0 (rowAt e.arg9.view 0 (e.w9 e.l9)) (slabAt e.arg11.view 0 (e.w11 e.l11)))) :: e.l11
def b9 := row 1 (k1_pay39 (k1_pay12 e.scD1 (rowAt e.arg9.view 1 (e.w9 e.a9)))) :: e.a9
def b10 := row 1 (k1_pay15 e.scD1 (rowAt e.arg9.view 1 (e.w9 e.a9)) (rowAt e.arg10.view 1 (e.w10 e.a10))) :: e.a10
def b11 := slab 1 (k1_pay38 (k1_pay42 e.valsD) (k1_pay14 e.scD1 (rowAt e.arg9.view 1 (e.w9 e.a9)))
  (k1_pay16 e.scD1 (rowAt e.arg9.view 1 (e.w9 e.a9)) (slabAt e.arg11.view 1 (e.w11 e.a11)))) :: e.a11

/-- The half of a head's weighted sums that is stored. -/
def half0 : Vec Ideal S1x64x1024 .f32 :=
  View.readAt (Elt Ideal) e.arg11.view (Rect.unit (s := S2x128x1024) ![0, 0, 0] S1x64x1024.size inb_S2x128x1024_S1x64x1024_0_0_0).toLoadRect (e.w11 e.b11)
def half1 : Vec Ideal S1x64x1024 .f32 :=
  View.readAt (Elt Ideal) e.arg11.view (Rect.unit (s := S2x128x1024) ![1, 64, 0] S1x64x1024.size inb_S2x128x1024_S1x64x1024_1_64_0).toLoadRect (e.w11 e.b11)

/-- The output block. -/
def out : Vec Ideal S1x1024x128 .bf16 :=
  out1_A_5 (F := Ideal) e.c e.i e.arg3 e.h3 e.arg4 e.h4 e.arg5 e.h5 e.arg6 e.h6 e.arg7 e.h7 e.arg8 e.h8
    e.arg9 e.h9 e.arg10 e.h10 e.arg11 e.h11 e.x0 e.x1 e.x2 e.x3 e.x4

set_option maxHeartbeats 1000000 in
/-- The run's one store into the output block. -/
theorem pieces_eq : (kernelRun1_A (F := Ideal) e.c e.i e.arg3 e.h3 e.arg4 e.h4 e.arg5 e.h5 e.arg6 e.h6 e.arg7 e.h7 e.arg8 e.h8
    e.arg9 e.h9 e.arg10 e.h10 e.arg11 e.h11 e.x0 e.x1 e.x2 e.x3 e.x4).1
    = [⟨Rect.unit (s := S1x1024x128) ![0, 0, 0] S1x1024x128.size inb_S1x1024x128_S1x1024x128_0_0_0,
        k1_pay60 e.half0 (rowAt e.arg10.view 0 (e.w10 e.b10)) e.half1 (rowAt e.arg10.view 1 (e.w10 e.b10))⟩] := by
  unfold kernelRun1_A
  rfl

end Site
end Cert.Attn

end
-- ==== Proof.BlockValue.lean ====
/-
  The output block of one run of the attention's body, as a function of its input blocks.
-/
module

public import proofs.«01_k».proof.Proof.Block

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

namespace Site

variable (e : Site)

/-- The tile of queries: the grid point's last coordinate. -/
abbrev tile : ℕ := (e.i 2).val

theorem tile_lt : e.tile < 4 := (e.i 2).isLt

/-- The loop runs over the blocks below the diagonal. -/
theorem trips_eq : e.trips = e.tile := by
  have h : e.tile < 4 := e.tile_lt
  show Scf.trips 0#32 (Scalar.addi 0#32 (Scalar.muli (Scalar.divsi (Scalar.subi (BitVec.ofNat 32 e.tile) 0#32) 1#32) 1#32)) 1#32 = e.tile
  generalize e.tile = t at h
  interval_cases t <;> rfl

theorem rest_trips_eq : Scf.trips (k1_t2_loop e.i).lb (k1_t2_loop e.i).ub (k1_t2_loop e.i).st = 0 := by
  have h : e.tile < 4 := e.tile_lt
  show Scf.trips (Scalar.addi 0#32 (Scalar.muli (Scalar.divsi (Scalar.subi (BitVec.ofNat 32 e.tile) 0#32) 1#32) 1#32))
    (Scalar.addi 0#32 (Scalar.subi (BitVec.ofNat 32 e.tile) 0#32)) 1#32 = 0
  generalize e.tile = t at h
  interval_cases t <;> rfl

theorem rest_eq : e.rest = ([], [], []) := by
  unfold rest
  rw [rest_trips_eq]
  rfl

theorem off2_eq (k : Fin (k1_t1_loop e.i).trips) : k1_off2 e.i k = ![0, 0, 1024 * k.val, 0] := by
  have h : k.val < 4 := lt_trans (lt_of_lt_of_eq k.isLt e.trips_eq) e.tile_lt
  show ![0, 0, (Scalar.indexCast (Scalar.muli (Scf.iv 0#32 1#32 k.val) 1024#32)).toNat, 0] = _
  generalize k.val = t at h
  interval_cases t <;> rfl

theorem off1_eq (k : Fin (k1_t1_loop e.i).trips) : k1_off1 e.i k = ![0, 0, 0, 1024 * k.val] := by
  have h : k.val < 4 := lt_trans (lt_of_lt_of_eq k.isLt e.trips_eq) e.tile_lt
  show ![0, 0, 0, (Scalar.indexCast (Scalar.muli (Scf.iv 0#32 1#32 k.val) 1024#32)).toNat] = _
  generalize k.val = t at h
  interval_cases t <;> rfl

theorem off6_eq : k1_off6 e.i = ![0, 0, 1024 * e.tile, 0] := by
  have h : e.tile < 4 := e.tile_lt
  show ![0, 0, (Scalar.indexCast (Scalar.muli (BitVec.ofNat 32 e.tile) 1024#32)).toNat, 0] = _
  generalize e.tile = t at h
  interval_cases t <;> rfl

theorem off5_eq : k1_off5 e.i = ![0, 0, 0, 1024 * e.tile] := by
  have h : e.tile < 4 := e.tile_lt
  show ![0, 0, 0, (Scalar.indexCast (Scalar.muli (BitVec.ofNat 32 e.tile) 1024#32)).toNat] = _
  generalize e.tile = t at h
  interval_cases t <;> rfl

/-! ## The loads, at an index -/

theorem load_rows (v : Memref sig .tc .vmem S1x1x4096x128 .bf16) (hv : v.IsWhole) (x : Vec Ideal S1x1x4096x128 .bf16) (off : Fin 4 → ℕ)
    (inb : ∀ a, off a + S1x1x1024x128.size a ≤ S1x1x4096x128.size a) (n : ℕ) (h : off = ![0, 0, 1024 * n, 0]) (j : Fin 1024) (y : Fin 128)
    (hn : 1024 * n + j.val < 4096) :
    View.readAt (Elt Ideal) v.view (Rect.unit (s := S1x1x4096x128) off S1x1x1024x128.size inb).toLoadRect (hv.unread x) (ix4 0 0 j y)
      = x (ix4 0 0 ⟨1024 * n + j.val, hn⟩ y) := by
  subst h
  rw [View.readAt_apply, hv.read_unread]
  refine congrArg x (funext fun a => Fin.ext ?_)
  fin_cases a
  · rfl
  · rfl
  · show 1024 * n + 1 * j.val = 1024 * n + j.val; omega
  · show 0 + 1 * y.val = y.val; omega

theorem load_cols (v : Memref sig .tc .vmem S1x1x128x4096 .bf16) (hv : v.IsWhole) (x : Vec Ideal S1x1x128x4096 .bf16) (off : Fin 4 → ℕ)
    (inb : ∀ a, off a + S1x1x128x1024.size a ≤ S1x1x128x4096.size a) (n : ℕ) (h : off = ![0, 0, 0, 1024 * n]) (y : Fin 128) (j : Fin 1024)
    (hn : 1024 * n + j.val < 4096) :
    View.readAt (Elt Ideal) v.view (Rect.unit (s := S1x1x128x4096) off S1x1x128x1024.size inb).toLoadRect (hv.unread x) (ix4 0 0 y j)
      = x (ix4 0 0 y ⟨1024 * n + j.val, hn⟩) := by
  subst h
  rw [View.readAt_apply, hv.read_unread]
  refine congrArg x (funext fun a => Fin.ext ?_)
  fin_cases a
  · rfl
  · rfl
  · show 0 + 1 * y.val = y.val; omega
  · show 1024 * n + 1 * j.val = 1024 * n + j.val; omega

theorem load_whole (v : Memref sig .tc .vmem S1x1x1024x128 .bf16) (hv : v.IsWhole) (x : Vec Ideal S1x1x1024x128 .bf16) (j : Fin 1024) (y : Fin 128) :
    View.readAt (Elt Ideal) v.view (Rect.unit (s := S1x1x1024x128) ![0, 0, 0, 0] S1x1x1024x128.size inb_S1x1x1024x128_S1x1x1024x128_0_0_0_0).toLoadRect (hv.unread x) (ix4 0 0 j y)
      = x (ix4 0 0 j y) := by
  rw [View.readAt_apply, hv.read_unread]
  refine congrArg x (funext fun a => Fin.ext ?_)
  fin_cases a
  · rfl
  · rfl
  · show 0 + 1 * j.val = j.val; omega
  · show 0 + 1 * y.val = y.val; omega

/-! ## Scores and values of all keys -/

/-- The score of key `n` for the tile's query `q`, `⊥` after the query: products of the rows of `kx` and `qx`. -/
def scores (t : ℕ) (kx : Vec Ideal S1x1x4096x128 .bf16) (qx : Vec Ideal S1x1x1024x128 .bf16) (n : ℕ) (q : Fin 1024) : EReal :=
  if h : n < 4096 then (if n ≤ 1024 * t + q.val then ∑ y, kx (ix4 0 0 ⟨n, h⟩ y) * qx (ix4 0 0 q y) else ⊥) else ⊥

/-- The value of key `n` in lane `r`. -/
def values (vx : Vec Ideal S1x1x128x4096 .bf16) (r : Fin 128) (n : ℕ) : EReal :=
  if h : n < 4096 then vx (ix4 0 0 r ⟨n, h⟩) else 0

theorem score0_eq (k : Fin (k1_t1_loop e.i).trips) : e.score0 k = blkS (scores e.tile e.x2 e.x0) k.val := by
  have hk : k.val < e.tile := lt_of_lt_of_eq k.isLt e.trips_eq
  have ht := e.tile_lt
  funext j q
  have hj := j.isLt
  have hn : 1024 * k.val + j.val < 4096 := by omega
  unfold score0 blkS scores
  rw [dif_pos hn, if_pos (by omega), pay_scores]
  refine Finset.sum_congr rfl fun y _ => ?_
  rw [pay_query0]
  exact congrArg₂ _ (load_rows _ e.h5 e.x2 _ _ k.val (e.off2_eq k) j y hn) (load_whole _ e.h3 e.x0 q y)

theorem score1_eq (k : Fin (k1_t1_loop e.i).trips) : e.score1 k = blkS (scores e.tile e.x3 e.x1) k.val := by
  have hk : k.val < e.tile := lt_of_lt_of_eq k.isLt e.trips_eq
  have ht := e.tile_lt
  funext j q
  have hj := j.isLt
  have hn : 1024 * k.val + j.val < 4096 := by omega
  unfold score1 blkS scores
  rw [dif_pos hn, if_pos (by omega), pay_scores]
  refine Finset.sum_congr rfl fun y _ => ?_
  rw [pay_query1]
  exact congrArg₂ _ (load_rows _ e.h6 e.x3 _ _ k.val (e.off2_eq k) j y hn) (load_whole _ e.h4 e.x1 q y)

theorem value_eq (k : Fin (k1_t1_loop e.i).trips) : e.value k = blkV (values e.x4) k.val := by
  have hk : k.val < e.tile := lt_of_lt_of_eq k.isLt e.trips_eq
  have ht := e.tile_lt
  funext r j
  have hj := j.isLt
  have hn : 1024 * k.val + j.val < 4096 := by omega
  unfold value blkV values
  rw [dif_pos hn, pay_values]
  exact load_cols _ e.h7 e.x4 _ _ k.val (e.off1_eq k) r j hn

theorem scD0_eq (j q : Fin 1024) : e.scD0 (ix2 j q) = blkS (scores e.tile e.x2 e.x0) e.tile j q := by
  have ht := e.tile_lt
  have hj := j.isLt
  have hn : 1024 * e.tile + j.val < 4096 := by omega
  unfold scD0 blkS scores
  rw [dif_pos hn, pay_mask]
  refine if_congr (by omega) ?_ rfl
  rw [pay_scores]
  refine Finset.sum_congr rfl fun y _ => ?_
  rw [pay_query0]
  exact congrArg₂ _ (load_rows _ e.h5 e.x2 _ _ e.tile e.off6_eq j y hn) (load_whole _ e.h3 e.x0 q y)

theorem scD1_eq (j q : Fin 1024) : e.scD1 (ix2 j q) = blkS (scores e.tile e.x3 e.x1) e.tile j q := by
  have ht := e.tile_lt
  have hj := j.isLt
  have hn : 1024 * e.tile + j.val < 4096 := by omega
  unfold scD1 blkS scores
  rw [dif_pos hn, pay_mask]
  refine if_congr (by omega) ?_ rfl
  rw [pay_scores]
  refine Finset.sum_congr rfl fun y _ => ?_
  rw [pay_query1]
  exact congrArg₂ _ (load_rows _ e.h6 e.x3 _ _ e.tile e.off6_eq j y hn) (load_whole _ e.h4 e.x1 q y)

theorem valsD_eq (r : Fin 128) (j : Fin 1024) : k1_pay42 e.valsD (ix2 r j) = blkV (values e.x4) e.tile r j := by
  have ht := e.tile_lt
  have hj := j.isLt
  have hn : 1024 * e.tile + j.val < 4096 := by omega
  unfold valsD blkV values
  rw [dif_pos hn, pay_values_diag]
  exact load_cols _ e.h7 e.x4 _ _ e.tile e.off5_eq r j hn

/-! ## The states -/

/-- The states of the two heads after `n` blocks. -/
abbrev st0 (n : ℕ) : St := run (scores e.tile e.x2 e.x0) (values e.x4) n
abbrev st1 (n : ℕ) : St := run (scores e.tile e.x3 e.x1) (values e.x4) n

theorem start_row (v : View sig .tc .vmem S2x1x1024 .f32) (f : BufTy.Contents (Elt Ideal) v.ty) (w : Vec Ideal S2x1x1024 .f32) (y : S2x1x1024.Idx) :
    v.read (Elt Ideal) (v.writes (Elt Ideal) f [⟨Rect.unit (s := S2x1x1024) ![0, 0, 0] S2x1x1024.size inb_S2x1x1024_S2x1x1024_0_0_0, w⟩]) y = w y := by
  refine View.read_writes_cons_unit_of_mem v f _ w [] y y rfl fun a => ?_
  fin_cases a <;> exact (Nat.zero_add _).symm

theorem start_slab (v : View sig .tc .vmem S2x128x1024 .f32) (f : BufTy.Contents (Elt Ideal) v.ty) (w : Vec Ideal S2x128x1024 .f32) (y : S2x128x1024.Idx) :
    v.read (Elt Ideal) (v.writes (Elt Ideal) f [⟨Rect.unit (s := S2x128x1024) ![0, 0, 0] S2x128x1024.size inb_S2x128x1024_S2x128x1024_0_0_0, w⟩]) y = w y := by
  refine View.read_writes_cons_unit_of_mem v f _ w [] y y rfl fun a => ?_
  fin_cases a <;> exact (Nat.zero_add _).symm

theorem holds_start (h : Fin 2) : e.Holds (e.w9 start9) (e.w10 start10) (e.w11 start11) h St.init :=
  ⟨fun q => (start_row _ _ _ _).trans (pay_m_start h q), fun q => (start_row _ _ _ _).trans (pay_l_start h q),
    fun r q => (start_slab _ _ _ _).trans (pay_acc_start h r q)⟩

/-- After `n` trips the buffers hold the states after `n` blocks. -/
theorem holds_loop : ∀ n, n ≤ e.tile →
    e.Holds (e.arg9.view.writes (Elt Ideal) (e.w9 start9) (e.loop n).1) (e.arg10.view.writes (Elt Ideal) (e.w10 start10) (e.loop n).2.1)
        (e.arg11.view.writes (Elt Ideal) (e.w11 start11) (e.loop n).2.2) 0 (e.st0 n)
      ∧ e.Holds (e.arg9.view.writes (Elt Ideal) (e.w9 start9) (e.loop n).1) (e.arg10.view.writes (Elt Ideal) (e.w10 start10) (e.loop n).2.1)
        (e.arg11.view.writes (Elt Ideal) (e.w11 start11) (e.loop n).2.2) 1 (e.st1 n)
  | 0, _ => ⟨e.holds_start 0, e.holds_start 1⟩
  | n + 1, hn => by
    obtain ⟨H0, H1⟩ := holds_loop n (by omega)
    let k : Fin (k1_t1_loop e.i).trips := ⟨n, by
      show n < e.trips
      rw [e.trips_eq]; omega⟩
    have H := Holds.trip (e := e) k H0 H1
    have hs : e.loop (n + 1) = _ := pb_k1_t1_succ (F := Ideal) Variants.none e.c none e.i e.arg3 e.h3 e.arg4 e.h4 e.arg5 e.h5 e.arg6 e.h6 e.arg7 e.h7
      e.arg8 e.h8 e.arg9 e.h9 e.arg10 e.h10 e.arg11 e.h11 e.v0 e.v2 (e.h5.unread e.x2) (e.h6.unread e.x3) (e.h7.unread e.x4)
      (e.w9 start9) (e.w10 start10) (e.w11 start11) k
    rw [e.score0_eq k, e.score1_eq k, e.value_eq k] at H
    rw [hs]
    exact H

theorem holds_below (h : Fin 2) (a : St)
    (H : e.Holds (e.arg9.view.writes (Elt Ideal) (e.w9 start9) (e.loop e.tile).1) (e.arg10.view.writes (Elt Ideal) (e.w10 start10) (e.loop e.tile).2.1)
        (e.arg11.view.writes (Elt Ideal) (e.w11 start11) (e.loop e.tile).2.2) h a) :
    e.Holds (e.w9 e.l9) (e.w10 e.l10) (e.w11 e.l11) h a := by
  unfold l9 l10 l11
  rw [rest_eq, e.trips_eq]
  unfold w9 w10 w11 at H ⊢
  simp only [List.nil_append, View.writes_append]
  exact H

/-- After the diagonal block they hold the states of all blocks. -/
theorem holds_end : e.Holds (e.w9 e.b9) (e.w10 e.b10) (e.w11 e.b11) 0 (e.st0 (e.tile + 1))
    ∧ e.Holds (e.w9 e.b9) (e.w10 e.b10) (e.w11 e.b11) 1 (e.st1 (e.tile + 1)) := by
  obtain ⟨H0, H1⟩ := e.holds_loop e.tile le_rfl
  have D0 := e.holds_below 0 _ H0
  have D1 := e.holds_below 1 _ H1
  have A0 : e.Holds (e.w9 e.a9) (e.w10 e.a10) (e.w11 e.a11) 0 (e.st0 (e.tile + 1)) :=
    Holds.store (e := e) 0 (D0.loaded.step (s := blkS (scores e.tile e.x2 e.x0) e.tile) (v := blkV (values e.x4) e.tile) e.scD0_eq e.valsD_eq)
  have A1 : e.Holds (e.w9 e.a9) (e.w10 e.a10) (e.w11 e.a11) 1 (e.st1 e.tile) := Holds.skip (e := e) (by decide) _ _ _ D1
  exact ⟨Holds.skip (e := e) (by decide) _ _ _ A0,
    Holds.store (e := e) 1 (A1.loaded.step (s := blkS (scores e.tile e.x3 e.x1) e.tile) (v := blkV (values e.x4) e.tile) e.scD1_eq e.valsD_eq)⟩

theorem half0_apply (r : Fin 64) (q : Fin 1024) : e.half0 (ix3 0 r q) = (e.st0 (e.tile + 1)).acc ⟨r.val, by have := r.isLt; omega⟩ q := by
  rw [← e.holds_end.1.acc]
  refine congrArg (e.arg11.view.read (Elt Ideal) (e.w11 e.b11)) (funext fun a => Fin.ext ?_)
  fin_cases a
  · rfl
  · show 0 + 1 * r.val = r.val; omega
  · show 0 + 1 * q.val = q.val; omega

theorem half1_apply (r : Fin 64) (q : Fin 1024) : e.half1 (ix3 0 r q) = (e.st1 (e.tile + 1)).acc ⟨64 + r.val, by have := r.isLt; omega⟩ q := by
  rw [← e.holds_end.2.acc]
  refine congrArg (e.arg11.view.read (Elt Ideal) (e.w11 e.b11)) (funext fun a => Fin.ext ?_)
  fin_cases a
  · rfl
  · show 64 + 1 * r.val = 64 + r.val; omega
  · show 0 + 1 * q.val = q.val; omega

/-- The output block: lanes 0 to 63 are head 0's quotient, lanes 64 to 127 head 1's. -/
theorem out_apply (q : Fin 1024) (r : Fin 128) : e.out (ix3 0 q r)
    = if r.val < 64 then Ideal.div ((e.st0 (e.tile + 1)).acc r q) ((e.st0 (e.tile + 1)).l q)
      else Ideal.div ((e.st1 (e.tile + 1)).acc r q) ((e.st1 (e.tile + 1)).l q) := by
  unfold out out1_A_5
  rw [pieces_eq]
  refine (View.read_writes_cons_unit_of_mem _ _ _ _ [] (ix3 0 q r) (ix3 0 q r) rfl fun a => by
    fin_cases a <;> exact (Nat.zero_add _).symm).trans ?_
  rw [pay_quot]
  have hr := r.isLt
  by_cases h : r.val < 64
  · rw [dif_pos h, if_pos h, half0_apply, rowAt_apply, e.holds_end.1.l]
  · rw [dif_neg h, if_neg h, half1_apply, rowAt_apply, e.holds_end.2.l]
    have e1 : (⟨64 + (r.val - 64), by omega⟩ : Fin 128) = r := Fin.ext (by show 64 + (r.val - 64) = r.val; omega)
    rw [e1]

end Site
end Cert.Attn

end
-- ==== Proof.Augment.lean ====
/-
  The arrays the first call prepares. Of the 128 lanes of a head, 64 hold the head's features and the other 64 are
  spare: the query's spare lanes hold the cumulated decay followed by ones, the key's hold ones followed by the negated
  decay, so that the product over all lanes is the scaled score plus the difference of the decays. The decay is split
  in three parts of decreasing size, which over the reals are the decay itself and two zeros.
-/
module

public import proofs.«01_k».proof.Proof.Gen.KernelIdeal.Frame
public import Idealize.ShloMosaic.Lib.Pipeline.ValueKit
public import Idealize.ShloMosaic.Lib.Pointwise
public import Idealize.ShloMosaic.Lib.WordCmp

@[expose] public section

set_option maxRecDepth 16384

noncomputable section

namespace Cert.Attn

open Idealize.ShloMosaic Idealize.ShloMosaic.TcCoe Idealize.SL.Sem
open Cert.KernelIdeal Cert.KernelIdeal.Gen

/-- The spare lanes of a query with decay `c`. -/
def spareQ (c : EReal) (j : ℕ) : EReal := if j = 0 then c else if j = 3 ∨ j = 4 ∨ j = 5 then 1 else 0

/-- The spare lanes of a key with decay `c`. -/
def spareK (c : EReal) (j : ℕ) : EReal := if j = 0 ∨ j = 1 ∨ j = 2 then 1 else if j = 3 then -c else 0

/-- Lane `y` of head `h` holds a feature of the head: the low half of an even head, the high half of an odd one. -/
def isHead (h y : ℕ) : Prop := y < 64 ↔ h % 2 = 0

instance (h y : ℕ) : Decidable (isHead h y) := inferInstanceAs (Decidable (_ ↔ _))

/-- The feature of the whole row that lane `y` of head `h` holds. -/
def feat (h : Fin 8) (y : Fin 128) : Fin 512 := ⟨64 * h.val + y.val % 64, by omega⟩

/-- A row of a head's lanes: the features in the head's half, the spare values in the other. -/
def lanes (h : Fin 8) (f : Fin 512 → EReal) (spare : ℕ → EReal) (y : Fin 128) : EReal :=
  if isHead h.val y.val then f (feat h y) else spare (y.val % 64)

theorem real_sub_self (c : EReal) (hc : ∃ x : ℝ, c = x) : c - c = 0 := by
  obtain ⟨x, rfl⟩ := hc
  rw [← EReal.coe_sub, sub_self, EReal.coe_zero]

theorem select_eq (n k : ℕ) (hn : n < 128) (hk : k < 128) (a b : EReal) :
    Scalar.select (IntOp.cmpi CmpIPredicate.eq (BitVec.ofNat 32 n) (BitVec.ofNat 32 k)) a b = if n = k then a else b := by
  rw [WordCmp.cmpi_eq_ofNat (by omega) (by omega), WordCmp.select_ofBool]; simp

theorem select_slt (n k : ℕ) (hn : n < 128) (hk : k < 128) (a b : EReal) :
    Scalar.select (IntOp.cmpi CmpIPredicate.slt (BitVec.ofNat 32 n) (BitVec.ofNat 32 k)) a b = if n < k then a else b := by
  rw [WordCmp.cmpi_slt_ofNat (by omega) (by omega), WordCmp.select_ofBool]; simp

theorem select_sge (n k : ℕ) (hn : n < 128) (hk : k < 128) (a b : EReal) :
    Scalar.select (IntOp.cmpi CmpIPredicate.sge (BitVec.ofNat 32 n) (BitVec.ofNat 32 k)) a b = if k ≤ n then a else b := by
  rw [WordCmp.cmpi_sge_ofNat (by omega) (by omega), WordCmp.select_ofBool]; simp

set_option maxHeartbeats 1000000 in
/-- The chain of selections that fills a head's lanes, at one lane: positions `p` to `p + 5` get the six spare
    values, the lanes of the head its feature. -/
theorem chain_even (n h : ℕ) (v a0 a1 a2 a3 a4 a5 : EReal) (hn : n < 128) (hh : h % 2 = 0) :
    Scalar.select (IntOp.cmpi CmpIPredicate.slt (BitVec.ofNat 32 n) 64#32) v
      (Scalar.select (IntOp.cmpi CmpIPredicate.eq (BitVec.ofNat 32 n) 69#32) a5
      (Scalar.select (IntOp.cmpi CmpIPredicate.eq (BitVec.ofNat 32 n) 68#32) a4
      (Scalar.select (IntOp.cmpi CmpIPredicate.eq (BitVec.ofNat 32 n) 67#32) a3
      (Scalar.select (IntOp.cmpi CmpIPredicate.eq (BitVec.ofNat 32 n) 66#32) a2
      (Scalar.select (IntOp.cmpi CmpIPredicate.eq (BitVec.ofNat 32 n) 65#32) a1
      (Scalar.select (IntOp.cmpi CmpIPredicate.eq (BitVec.ofNat 32 n) 64#32) a0 0))))))
    = if isHead h n then v else if n % 64 = 0 then a0 else if n % 64 = 1 then a1 else if n % 64 = 2 then a2
      else if n % 64 = 3 then a3 else if n % 64 = 4 then a4 else if n % 64 = 5 then a5 else 0 := by
  rw [select_slt n 64 hn (by omega), select_eq n 69 hn (by omega), select_eq n 68 hn (by omega),
    select_eq n 67 hn (by omega), select_eq n 66 hn (by omega), select_eq n 65 hn (by omega),
    select_eq n 64 hn (by omega)]
  have e : isHead h n ↔ n < 64 := by unfold isHead; simp [hh]
  simp only [e]
  split_ifs <;> first | rfl | omega

set_option maxHeartbeats 1000000 in
theorem chain_odd (n h : ℕ) (v a0 a1 a2 a3 a4 a5 : EReal) (hn : n < 128) (hh : h % 2 = 1) :
    Scalar.select (IntOp.cmpi CmpIPredicate.sge (BitVec.ofNat 32 n) 64#32) v
      (Scalar.select (IntOp.cmpi CmpIPredicate.eq (BitVec.ofNat 32 n) 5#32) a5
      (Scalar.select (IntOp.cmpi CmpIPredicate.eq (BitVec.ofNat 32 n) 4#32) a4
      (Scalar.select (IntOp.cmpi CmpIPredicate.eq (BitVec.ofNat 32 n) 3#32) a3
      (Scalar.select (IntOp.cmpi CmpIPredicate.eq (BitVec.ofNat 32 n) 2#32) a2
      (Scalar.select (IntOp.cmpi CmpIPredicate.eq (BitVec.ofNat 32 n) 1#32) a1
      (Scalar.select (IntOp.cmpi CmpIPredicate.eq (BitVec.ofNat 32 n) 0#32) a0 0))))))
    = if isHead h n then v else if n % 64 = 0 then a0 else if n % 64 = 1 then a1 else if n % 64 = 2 then a2
      else if n % 64 = 3 then a3 else if n % 64 = 4 then a4 else if n % 64 = 5 then a5 else 0 := by
  rw [select_sge n 64 hn (by omega), select_eq n 5 hn (by omega), select_eq n 4 hn (by omega),
    select_eq n 3 hn (by omega), select_eq n 2 hn (by omega), select_eq n 1 hn (by omega),
    select_eq n 0 hn (by omega)]
  have e : isHead h n ↔ ¬ n < 64 := by unfold isHead; simp [hh]
  simp only [e]
  split_ifs <;> first | rfl | omega

theorem spareQ_of_parts (c : EReal) (hc : ∃ x : ℝ, c = x) (j : ℕ) :
    (if j = 0 then c else if j = 1 then c - c else if j = 2 then c - c - (c - c)
      else if j = 3 then 1 else if j = 4 then 1 else if j = 5 then 1 else 0) = spareQ c j := by
  rw [real_sub_self c hc, real_sub_self 0 ⟨0, rfl⟩]
  unfold spareQ
  split_ifs <;> first | rfl | omega

/-- What the first call leaves of the queries, at one index. -/
theorem queries_apply (x0 x1 : Vec Ideal S1x512x512 .bf16) (x2 : Vec Ideal S1x512x8 .f32)
    (fin : ∀ r h, ∃ x : ℝ, x2 (ix3 0 r h) = x) (y : S1x8x512x128.Idx) :
    out0_3 x0 x1 x2 y = lanes (y 1) (fun f => x0 (ix3 0 (y 2) f)) (spareQ (x2 (ix3 0 (y 2) (y 1)))) (y 3) := by
  have key : ∀ (h : Fin 8) (r : Fin 512) (n : Fin 128) (f : Fin 512), (isHead h.val n.val → f.val = 64 * h.val + n.val % 64) →
      ((y 1).val = h.val) → (y 2).val = r.val → (y 3).val = n.val →
      (if isHead h.val n.val then x0 (ix3 0 r f) else if n.val % 64 = 0 then x2 (ix3 0 r h)
        else if n.val % 64 = 1 then x2 (ix3 0 r h) - x2 (ix3 0 r h)
        else if n.val % 64 = 2 then x2 (ix3 0 r h) - x2 (ix3 0 r h) - (x2 (ix3 0 r h) - x2 (ix3 0 r h))
        else if n.val % 64 = 3 then 1 else if n.val % 64 = 4 then 1 else if n.val % 64 = 5 then 1 else 0)
      = lanes (y 1) (fun f => x0 (ix3 0 (y 2) f)) (spareQ (x2 (ix3 0 (y 2) (y 1)))) (y 3) := by
    intro h r n f hf e1 e2 e3
    obtain rfl : y 1 = h := Fin.ext e1
    obtain rfl : y 2 = r := Fin.ext e2
    obtain rfl : y 3 = n := Fin.ext e3
    unfold lanes
    by_cases hh : isHead (y 1).val (y 3).val
    · rw [if_pos hh, if_pos hh, show f = feat (y 1) (y 3) from Fin.ext (hf hh)]
    · rw [if_neg hh, if_neg hh]
      exact spareQ_of_parts _ (fin _ _) _
  unfold_out out0_3
  canon_tiles x h
  all_goals
    open_payloads
    pointwise
    first
    | refine (chain_even _ _ _ _ _ _ _ _ _ ?_ ?_).trans (key _ _ (x 3) _ ?_ ?_ ?_ ?_)
    | refine (chain_odd _ _ _ _ _ _ _ _ _ ?_ ?_).trans (key _ _ (x 3) _ ?_ ?_ ?_ ?_)
    all_goals (try simp only [isHead]); all_goals omega

theorem spareK_of_parts (c : EReal) (hc : ∃ x : ℝ, c = x) (j : ℕ) :
    (if j = 0 then 1 else if j = 1 then 1 else if j = 2 then 1 else if j = 3 then 0 - c
      else if j = 4 then 0 - c - (0 - c) else if j = 5 then 0 - c - (0 - c) - (0 - c - (0 - c)) else 0) = spareK c j := by
  have hn : ∃ x : ℝ, 0 - c = x := by obtain ⟨x, rfl⟩ := hc; exact ⟨-x, by simp⟩
  rw [real_sub_self (0 - c) hn, real_sub_self 0 ⟨0, rfl⟩, zero_sub]
  unfold spareK
  split_ifs <;> first | rfl | omega

/-- What the first call leaves of the keys, at one index. -/
theorem keys_apply (x0 x1 : Vec Ideal S1x512x512 .bf16) (x2 : Vec Ideal S1x512x8 .f32)
    (fin : ∀ r h, ∃ x : ℝ, x2 (ix3 0 r h) = x) (y : S1x8x512x128.Idx) :
    out0_4 x0 x1 x2 y = lanes (y 1) (fun f => x1 (ix3 0 (y 2) f)) (spareK (x2 (ix3 0 (y 2) (y 1)))) (y 3) := by
  have key : ∀ (h : Fin 8) (r : Fin 512) (n : Fin 128) (f : Fin 512), (isHead h.val n.val → f.val = 64 * h.val + n.val % 64) →
      ((y 1).val = h.val) → (y 2).val = r.val → (y 3).val = n.val →
      (if isHead h.val n.val then x1 (ix3 0 r f) else if n.val % 64 = 0 then 1
        else if n.val % 64 = 1 then 1 else if n.val % 64 = 2 then 1 else if n.val % 64 = 3 then 0 - x2 (ix3 0 r h)
        else if n.val % 64 = 4 then 0 - x2 (ix3 0 r h) - (0 - x2 (ix3 0 r h))
        else if n.val % 64 = 5 then 0 - x2 (ix3 0 r h) - (0 - x2 (ix3 0 r h)) - (0 - x2 (ix3 0 r h) - (0 - x2 (ix3 0 r h)))
        else 0)
      = lanes (y 1) (fun f => x1 (ix3 0 (y 2) f)) (spareK (x2 (ix3 0 (y 2) (y 1)))) (y 3) := by
    intro h r n f hf e1 e2 e3
    obtain rfl : y 1 = h := Fin.ext e1
    obtain rfl : y 2 = r := Fin.ext e2
    obtain rfl : y 3 = n := Fin.ext e3
    unfold lanes
    by_cases hh : isHead (y 1).val (y 3).val
    · rw [if_pos hh, if_pos hh, show f = feat (y 1) (y 3) from Fin.ext (hf hh)]
    · rw [if_neg hh, if_neg hh]
      exact spareK_of_parts _ (fin _ _) _
  unfold_out out0_4
  canon_tiles x h
  all_goals
    open_payloads
    pointwise
    first
    | refine (chain_even _ _ _ _ _ _ _ _ _ ?_ ?_).trans (key _ _ (x 3) _ ?_ ?_ ?_ ?_)
    | refine (chain_odd _ _ _ _ _ _ _ _ _ ?_ ?_).trans (key _ _ (x 3) _ ?_ ?_ ?_ ?_)
    all_goals (try simp only [isHead]); all_goals omega

/-! ## The product over the lanes -/

/-- The spare lanes of a key and a query contribute the difference of their decays. -/
theorem spare_sum (ck cq : EReal) : ∑ j : Fin 64, spareK ck j.val * spareQ cq j.val = cq - ck := by
  rw [show (∑ j : Fin 64, spareK ck j.val * spareQ cq j.val)
    = ∑ j : Fin (6 + 58), spareK ck j.val * spareQ cq j.val from rfl, Fin.sum_univ_add, Fin.sum_univ_six]
  have z : ∀ j : Fin 58, spareK ck (Fin.natAdd 6 j).val * spareQ cq (Fin.natAdd 6 j).val = 0 := by
    intro j
    have : spareQ cq (Fin.natAdd 6 j).val = 0 := by
      unfold spareQ
      rw [if_neg (by simp [Fin.natAdd]), if_neg (by simp [Fin.natAdd]; omega)]
    rw [this, mul_zero]
  rw [Finset.sum_eq_zero fun j _ => z j]
  simp [spareQ, spareK, sub_eq_add_neg]

/-- The feature `j` of head `h`, in the whole row. -/
def headFeat (h : Fin 8) (j : Fin 64) : Fin 512 := ⟨64 * h.val + j.val, by omega⟩

/-- The product of a key's and a query's lanes: the product of the features, and the difference of the decays. -/
theorem lanes_sum (h : Fin 8) (k q : Fin 512 → EReal) (ck cq : EReal) :
    ∑ y : Fin 128, lanes h k (spareK ck) y * lanes h q (spareQ cq) y
      = ∑ j : Fin 64, k (headFeat h j) * q (headFeat h j) + (cq - ck) := by
  rw [show (∑ y : Fin 128, lanes h k (spareK ck) y * lanes h q (spareQ cq) y)
    = ∑ y : Fin (64 + 64), lanes h k (spareK ck) y * lanes h q (spareQ cq) y from rfl, Fin.sum_univ_add]
  have f0 : ∀ j : Fin 64, feat h (Fin.castAdd 64 j) = headFeat h j := fun j => by
    apply Fin.ext; simp only [feat, headFeat, Fin.val_castAdd]; omega
  have f1 : ∀ j : Fin 64, feat h (Fin.natAdd 64 j) = headFeat h j := fun j => by
    apply Fin.ext; simp only [feat, headFeat, Fin.val_natAdd]; omega
  have m0 : ∀ j : Fin 64, (Fin.castAdd 64 j).val % 64 = j.val := fun j => by simp only [Fin.val_castAdd]; omega
  have m1 : ∀ j : Fin 64, (Fin.natAdd 64 j).val % 64 = j.val := fun j => by simp only [Fin.val_natAdd]; omega
  rcases Nat.mod_two_eq_zero_or_one h.val with hh | hh
  · have i0 : ∀ j : Fin 64, isHead h.val (Fin.castAdd 64 j).val := fun j => by simp [isHead, hh]
    have i1 : ∀ j : Fin 64, ¬ isHead h.val (Fin.natAdd 64 j).val := fun j => by simp [isHead, hh]
    simp only [lanes, i0, i1, f0, m1, if_true, if_false, spare_sum]
  · have i0 : ∀ j : Fin 64, ¬ isHead h.val (Fin.castAdd 64 j).val := fun j => by simp [isHead, hh]
    have i1 : ∀ j : Fin 64, isHead h.val (Fin.natAdd 64 j).val := fun j => by simp [isHead, hh]
    simp only [lanes, i0, i1, f1, m0, if_true, if_false, spare_sum, add_comm]

end Cert.Attn

end
-- ==== Proof.Arrays.lean ====
/-
  The two arrays the first call writes, whole: every head's queries and keys with their spare lanes filled.
-/
module

public import proofs.«01_k».proof.Proof.Augment

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The blocks of the first call's windows, at every point of its grid. -/
theorem idx0 : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, (grid0.coords t 1).val, 0]
    ∧ win0_4.index t = ![(grid0.coords t 0).val, 0, (grid0.coords t 1).val, 0] :=
  (by decide +kernel : ∀ t : Fin grid0.N, _)

theorem lanes_congr {h h' : Fin 8} {f f' : Fin 512 → EReal} {s s' : ℕ → EReal} {y y' : Fin 128}
    (eh : h = h') (ef : ∀ x, f x = f' x) (es : s = s') (ey : y = y') : lanes h f s y = lanes h' f' s' y' := by
  obtain rfl : f = f' := funext ef
  subst eh es ey; rfl

/-- The queries' array. -/
theorem queries_arr (c : Dev nD) (Q : S4x4096x512.Idx → EReal) (C : S4x4096x8.Idx → EReal)
    (hQ : V c main_v3 = Q) (hC : V c main_arg3 = C) (fin : ∀ i, ∃ x : ℝ, C i = x) :
    (dat0 V c).arrAt 3 cfg0.N = fun i => lanes (i 1) (fun f => Q (ix3 (i 0) (i 2) f))
      (spareQ (C (ix3 (i 0) (i 2) (i 1)))) (i 3) := by
  refine (dat0 V c).arrAt_eq_of_covers 3 _ (by decide +kernel) fun t hf y => ?_
  blk_simp
  rw [after0_3, queries_apply _ _ _ (fun r h => by
    blk_simp [iblk0]
    exact hC ▸ fin _)]
  subst hQ hC
  refine lanes_congr ?_ (fun f => ?_) (congrArg spareQ ?_) ?_
  · apply Fin.ext
    blk_simp [idx0 t]
  · blk_simp [iblk0, idx0 t]
    blk_ext [idx0 t]
  · blk_simp [iblk0, idx0 t]
    blk_ext [idx0 t]
  · apply Fin.ext
    blk_simp [idx0 t]

/-- The keys' array. -/
theorem keys_arr (c : Dev nD) (K : S4x4096x512.Idx → EReal) (C : S4x4096x8.Idx → EReal)
    (hK : V c main_v5 = K) (hC : V c main_arg3 = C) (fin : ∀ i, ∃ x : ℝ, C i = x) :
    (dat0 V c).arrAt 4 cfg0.N = fun i => lanes (i 1) (fun f => K (ix3 (i 0) (i 2) f))
      (spareK (C (ix3 (i 0) (i 2) (i 1)))) (i 3) := by
  refine (dat0 V c).arrAt_eq_of_covers 4 _ (by decide +kernel) fun t hf y => ?_
  blk_simp
  rw [after0_4, keys_apply _ _ _ (fun r h => by
    blk_simp [iblk0]
    exact hC ▸ fin _)]
  subst hK hC
  refine lanes_congr ?_ (fun f => ?_) (congrArg spareK ?_) ?_
  · apply Fin.ext
    blk_simp [idx0 t]
  · blk_simp [iblk0, idx0 t]
    blk_ext [idx0 t]
  · blk_simp [iblk0, idx0 t]
    blk_ext [idx0 t]
  · apply Fin.ext
    blk_simp [idx0 t]

end Cert.Attn

end
-- ==== Proof.Attend.lean ====
/-
  The attention's result array, whole: at batch `b`, position `s` and feature `f` of head `h`, the average of the
  values of the positions up to `s`, weighted by the exponentials of the scores.
-/
module

public import proofs.«01_k».proof.Proof.BlockValue
public import proofs.«01_k».proof.Proof.Arrays

@[expose] public section

set_option maxRecDepth 16384
set_option backward.isDefEq.respectTransparency.types false

noncomputable section

namespace Cert.Attn

open Idealize.ShloMosaic Idealize.ShloMosaic.TcCoe Idealize.SL.Sem
open Cert.KernelIdeal Cert.KernelIdeal.Gen

/-! ## From a prefix of the keys to all of them -/

/-- Keys whose score is minus infinity do not count. -/
theorem att_range (N : ℕ) (hN : N ≤ 4096) (s v : ℕ → EReal) (hz : ∀ i, N ≤ i → s i = ⊥) :
    att (Finset.range N) s v = att (Finset.univ : Finset (Fin 4096)) (fun n => s n.val) (fun n => v n.val) := by
  have ext (f : ℕ → EReal) (hf : ∀ i, N ≤ i → f i = 0) : ∑ i ∈ Finset.range N, f i = ∑ n : Fin 4096, f n.val := by
    rw [← Finset.sum_range]
    refine Finset.sum_subset (Finset.range_subset_range.mpr hN) fun i _ hi => hf i ?_
    simpa using hi
  unfold att
  rw [ext _ fun i hi => by rw [hz i hi]; exact mul_zero _, ext _ fun i hi => by rw [hz i hi]; rfl]

/-- The quotient of one query's sums after the blocks up to the diagonal's is the average over all keys. -/
theorem run_quot (S : ℕ → Fin 1024 → EReal) (V : Fin 128 → ℕ → EReal) (tile : ℕ) (ht : tile < 4) (q : Fin 1024)
    (s : Fin 4096) (hs : s.val = 1024 * tile + q.val) (sc v : Fin 4096 → EReal) (r : Fin 128)
    (hS : ∀ n, S n q = if h : n < 4096 then (if n ≤ s.val then sc ⟨n, h⟩ else ⊥) else ⊥)
    (fin : ∀ n, ∃ x : ℝ, sc n = x) (hV : ∀ n : Fin 4096, V r n.val = v n) :
    Ideal.div ((run S V (tile + 1)).acc r q) ((run S V (tile + 1)).l q)
      = att Finset.univ (fun n : Fin 4096 => if n.val ≤ s.val then sc n else ⊥) v := by
  have hq := q.isLt
  have top : ∀ n, S n q ≠ ⊤ := by
    intro n
    rw [hS]
    split_ifs with h h'
    · obtain ⟨x, hx⟩ := fin ⟨n, h⟩
      rw [hx]; exact EReal.coe_ne_top x
    · exact bot_ne_top
    · exact bot_ne_top
  have bot : S 0 q ≠ ⊥ := by
    rw [hS, dif_pos (by omega), if_pos (Nat.zero_le _)]
    obtain ⟨x, hx⟩ := fin ⟨0, by omega⟩
    rw [hx]; exact EReal.coe_ne_bot x
  obtain ⟨M, hM⟩ := run_inv S V q bot tile fun i _ => top i
  rw [hM.div (by omega) (fun i _ => top i) bot r, att_range _ (by omega) _ _ fun i hi => by
    rw [hS]; split_ifs <;> first | rfl | omega]
  have e1 : (fun n : Fin 4096 => S n.val q) = fun n : Fin 4096 => if n.val ≤ s.val then sc n else ⊥ := by
    funext n; rw [hS, dif_pos n.isLt]
  have e2 : (fun n : Fin 4096 => V r n.val) = v := funext hV
  rw [e1, e2]

/-! ## The scores -/

variable (Q K : S4x4096x512.Idx → EReal) (C : S4x4096x8.Idx → EReal) (W : S4x4096x512.Idx → EReal)

/-- The score of key `n` for query `s` of head `h`: the product of the features, and the difference of the decays. -/
def score (b : Fin 4) (h : Fin 8) (s n : Fin 4096) : EReal :=
  ∑ j : Fin 64, K (ix3 b n (headFeat h j)) * Q (ix3 b s (headFeat h j)) + (C (ix3 b s h) - C (ix3 b n h))

/-- Feature `r` of head pair `p`, in the whole row. -/
def pairFeat (p : Fin 4) (r : Fin 128) : Fin 512 := ⟨128 * p.val + r.val, by omega⟩

/-- The head of a feature. -/
def headOf (f : Fin 512) : Fin 8 := ⟨f.val / 64, by omega⟩

/-- The attention's result. -/
def attend : S4x4096x512.Idx → EReal := fun i =>
  att Finset.univ (fun n : Fin 4096 => if n.val ≤ (i 1).val then score Q K C (i 0) (headOf (i 2)) (i 1) n else ⊥)
    (fun n => W (ix3 (i 0) n (i 2)))

theorem score_real (hQ : ∀ i, ∃ x : ℝ, Q i = x) (hK : ∀ i, ∃ x : ℝ, K i = x) (hC : ∀ i, ∃ x : ℝ, C i = x)
    (b : Fin 4) (h : Fin 8) (s n : Fin 4096) : ∃ x : ℝ, score Q K C b h s n = x := by
  choose q hq using hQ
  choose k hk using hK
  choose c hc using hC
  refine ⟨∑ j : Fin 64, k (ix3 b n (headFeat h j)) * q (ix3 b s (headFeat h j)) + (c (ix3 b s h) - c (ix3 b n h)), ?_⟩
  unfold score
  simp only [hq, hk, hc, EReal.coe_add, EReal.coe_sub, coe_sum, EReal.coe_mul]

/-! ## The array -/

variable (V : (c : Dev nD) → (b : Ref sig .tc) → Buf (Elt Ideal) ((c : Thread nD τ).loc b))

/-- The blocks of the attention's windows, at every point of its grid. -/
theorem idx1 : ∀ t : Fin cfg1.N, win1_0.index t = ![(grid1.coords t 0).val, 2 * (grid1.coords t 1).val, (grid1.coords t 2).val, 0]
    ∧ win1_1.index t = ![(grid1.coords t 0).val, 2 * (grid1.coords t 1).val + 1, (grid1.coords t 2).val, 0]
    ∧ win1_2.index t = ![(grid1.coords t 0).val, 2 * (grid1.coords t 1).val, 0, 0]
    ∧ win1_3.index t = ![(grid1.coords t 0).val, 2 * (grid1.coords t 1).val + 1, 0, 0]
    ∧ win1_4.index t = ![(grid1.coords t 0).val, (grid1.coords t 1).val, 0, 0]
    ∧ win1_5.index t = ![(grid1.coords t 0).val, (grid1.coords t 2).val, (grid1.coords t 1).val] :=
  (by decide +kernel : ∀ t : Fin grid1.N, _)

/-- The run of the body at a point of the grid. -/
def siteAt (c : Dev nD) (t : Fin cfg1.N) : Site :=
  ⟨c, grid1.coords t, ms1_0 t, hs1_0 t, ms1_1 t, hs1_1 t, ms1_2 t, hs1_2 t, ms1_3 t, hs1_3 t, ms1_4 t, hs1_4 t, ms1_5 t, hs1_5 t,
    scM1_0, Memref.isWhole_whole _, scM1_1, Memref.isWhole_whole _, scM1_2, Memref.isWhole_whole _,
    iblk1 V c 0 t, iblk1 V c 1 t, iblk1 V c 2 t, iblk1 V c 3 t, iblk1 V c 4 t⟩

theorem outsAt_eq (c : Dev nD) (t : Fin cfg1.N) : outsAt1 V c t = (siteAt V c t).out := rfl

/-- The batch, the head pair and the tile of a point. -/
abbrev ptB (t : Fin cfg1.N) : Fin 4 := grid1.coords t 0
abbrev ptP (t : Fin cfg1.N) : Fin 4 := grid1.coords t 1
abbrev ptT (t : Fin cfg1.N) : Fin 4 := grid1.coords t 2

/-- Position `q` of a point's tile of queries. -/
def posAt (t : Fin cfg1.N) (q : Fin 1024) : Fin 4096 := ⟨1024 * (ptT t).val + q.val, by have := (ptT t).isLt; omega⟩

/-- Head `e` of a point's pair. -/
def headAt (t : Fin cfg1.N) (e : Fin 2) : Fin 8 := ⟨2 * (ptP t).val + e.val, by have := (ptP t).isLt; omega⟩

variable (c : Dev nD)
  (hq : V c main_v9_0 = fun i => lanes (i 1) (fun f => Q (ix3 (i 0) (i 2) f)) (spareQ (C (ix3 (i 0) (i 2) (i 1)))) (i 3))
  (hk : V c main_v9_1 = fun i => lanes (i 1) (fun f => K (ix3 (i 0) (i 2) f)) (spareK (C (ix3 (i 0) (i 2) (i 1)))) (i 3))
  (hv : V c main_v10 = fun i => W (ix3 (i 0) (i 3) (pairFeat (i 1) (i 2))))

include hq in
theorem q0_eq (t : Fin cfg1.N) (q : Fin 1024) (y : Fin 128) : iblk1 V c 0 t (ix4 0 0 q y)
    = lanes (headAt t 0) (fun f => Q (ix3 (ptB t) (posAt t q) f)) (spareQ (C (ix3 (ptB t) (posAt t q) (headAt t 0)))) y := by
  blk_simp [iblk1, idx1 t]
  rw [hq]
  refine lanes_congr (Fin.ext ?_) (fun f => congrArg Q ?_) (congrArg spareQ (congrArg C ?_)) (Fin.ext ?_)
  · blk_simp [idx1 t]
    simp [headAt]
  · blk_ext [idx1 t] <;> simp [posAt, mul_comm]
  · blk_ext [idx1 t] <;> simp [posAt, headAt, mul_comm]
  · blk_simp [idx1 t]

include hq in
theorem q1_eq (t : Fin cfg1.N) (q : Fin 1024) (y : Fin 128) : iblk1 V c 1 t (ix4 0 0 q y)
    = lanes (headAt t 1) (fun f => Q (ix3 (ptB t) (posAt t q) f)) (spareQ (C (ix3 (ptB t) (posAt t q) (headAt t 1)))) y := by
  blk_simp [iblk1, idx1 t]
  rw [hq]
  refine lanes_congr (Fin.ext ?_) (fun f => congrArg Q ?_) (congrArg spareQ (congrArg C ?_)) (Fin.ext ?_)
  · blk_simp [idx1 t]
    simp [headAt]
  · blk_ext [idx1 t] <;> simp [posAt, mul_comm]
  · blk_ext [idx1 t] <;> simp [posAt, headAt, mul_comm]
  · blk_simp [idx1 t]

include hk in
theorem k0_eq (t : Fin cfg1.N) (n : Fin 4096) (y : Fin 128) : iblk1 V c 2 t (ix4 0 0 n y)
    = lanes (headAt t 0) (fun f => K (ix3 (ptB t) n f)) (spareK (C (ix3 (ptB t) n (headAt t 0)))) y := by
  blk_simp [iblk1, idx1 t]
  rw [hk]
  refine lanes_congr (Fin.ext ?_) (fun f => congrArg K ?_) (congrArg spareK (congrArg C ?_)) (Fin.ext ?_)
  · blk_simp [idx1 t]
    simp [headAt]
  · blk_ext [idx1 t] <;> simp [posAt, mul_comm]
  · blk_ext [idx1 t] <;> simp [posAt, headAt, mul_comm]
  · blk_simp [idx1 t]

include hk in
theorem k1_eq (t : Fin cfg1.N) (n : Fin 4096) (y : Fin 128) : iblk1 V c 3 t (ix4 0 0 n y)
    = lanes (headAt t 1) (fun f => K (ix3 (ptB t) n f)) (spareK (C (ix3 (ptB t) n (headAt t 1)))) y := by
  blk_simp [iblk1, idx1 t]
  rw [hk]
  refine lanes_congr (Fin.ext ?_) (fun f => congrArg K ?_) (congrArg spareK (congrArg C ?_)) (Fin.ext ?_)
  · blk_simp [idx1 t]
    simp [headAt]
  · blk_ext [idx1 t] <;> simp [posAt, mul_comm]
  · blk_ext [idx1 t] <;> simp [posAt, headAt, mul_comm]
  · blk_simp [idx1 t]

/-- Feature `r` of a point's head pair, in the whole row. -/
def featAt (t : Fin cfg1.N) (r : Fin 128) : Fin 512 := pairFeat (ptP t) r

include hv in
theorem v_eq (t : Fin cfg1.N) (r : Fin 128) (n : Fin 4096) : iblk1 V c 4 t (ix4 0 0 r n) = W (ix3 (ptB t) n (featAt t r)) := by
  blk_simp [iblk1, idx1 t]
  rw [hv]
  refine congrArg W ?_
  blk_ext [idx1 t, pairFeat] <;> simp [featAt, pairFeat, idx1 t]

/-- The scores the run at a point computes are the attention's. -/
theorem scores_eq (t : Fin cfg1.N) (e : Fin 2) (kx : Vec Ideal S1x1x4096x128 .bf16) (qx : Vec Ideal S1x1x1024x128 .bf16)
    (hkx : ∀ n y, kx (ix4 0 0 n y) = lanes (headAt t e) (fun f => K (ix3 (ptB t) n f)) (spareK (C (ix3 (ptB t) n (headAt t e)))) y)
    (hqx : ∀ q y, qx (ix4 0 0 q y)
      = lanes (headAt t e) (fun f => Q (ix3 (ptB t) (posAt t q) f)) (spareQ (C (ix3 (ptB t) (posAt t q) (headAt t e)))) y)
    (n : ℕ) (q : Fin 1024) : Site.scores (ptT t).val kx qx n q
      = if h : n < 4096 then (if n ≤ (posAt t q).val then score Q K C (ptB t) (headAt t e) (posAt t q) ⟨n, h⟩ else ⊥) else ⊥ := by
  unfold Site.scores
  simp only [hkx, hqx, lanes_sum]
  rfl

include hq hk hv in
/-- The attention's array after the run. -/
theorem attend_arr (hQ : ∀ i, ∃ x : ℝ, Q i = x) (hK : ∀ i, ∃ x : ℝ, K i = x) (hC : ∀ i, ∃ x : ℝ, C i = x) :
    (dat1 V c).arrAt 5 cfg1.N = attend Q K C W := by
  refine (dat1 V c).arrAt_eq_of_covers 5 _ (by decide +kernel) fun t hf y => ?_
  blk_simp
  rw [after1_5, outsAt_eq]
  obtain ⟨q, r, rfl⟩ : ∃ (q : Fin 1024) (r : Fin 128), y = ix3 0 q r := ⟨y 1, y 2, by blk_ext!⟩
  have hi : (win1_5.blk t).view.emb (ix3 0 q r) = ix3 (ptB t) (posAt t q) (featAt t r) := by
    blk_ext [idx1 t] <;> simp [posAt, featAt, pairFeat, mul_comm]
  have key (e : Fin 2) (he : headOf (featAt t r) = headAt t e) (kx qx)
      (hkx : ∀ n y, kx (ix4 0 0 n y) = lanes (headAt t e) (fun f => K (ix3 (ptB t) n f)) (spareK (C (ix3 (ptB t) n (headAt t e)))) y)
      (hqx : ∀ q y, qx (ix4 0 0 q y)
        = lanes (headAt t e) (fun f => Q (ix3 (ptB t) (posAt t q) f)) (spareQ (C (ix3 (ptB t) (posAt t q) (headAt t e)))) y) :
      Ideal.div ((run (Site.scores (ptT t).val kx qx) (Site.values (iblk1 V c 4 t)) ((ptT t).val + 1)).acc r q)
        ((run (Site.scores (ptT t).val kx qx) (Site.values (iblk1 V c 4 t)) ((ptT t).val + 1)).l q)
      = attend Q K C W (ix3 (ptB t) (posAt t q) (featAt t r)) := by
    refine (run_quot _ _ _ (ptT t).isLt q (posAt t q) rfl _ (fun n => W (ix3 (ptB t) n (featAt t r))) r
      (fun n => scores_eq Q K C t e kx qx hkx hqx n q) (fun n => score_real Q K C hQ hK hC _ _ _ n) fun n => ?_).trans ?_
    · unfold Site.values
      rw [dif_pos n.isLt]
      exact v_eq W V c hv t r n
    · unfold attend
      rw [← he]
      rfl
  rw [hi]
  refine (Site.out_apply (siteAt V c t) q r).trans ?_
  split_ifs with h
  · exact key 0 (Fin.ext (by simp [headOf, featAt, pairFeat, headAt]; omega)) _ _ (k0_eq K C V c hk t) (q0_eq Q C V c hq t)
  · exact key 1 (Fin.ext (by simp [headOf, featAt, pairFeat, headAt]; omega)) _ _ (k1_eq K C V c hk t) (q1_eq Q C V c hq t)

end Cert.Attn

end
-- ==== Proof.Entry.lean ====
/-
  What the host prepares for the two calls, at one index: the queries and keys with their heads side by side, the
  queries scaled, and the values with the positions along the last axis.
-/
module

public import proofs.«01_k».proof.Proof.Attend

@[expose] public section

set_option maxRecDepth 16384
set_option backward.isDefEq.respectTransparency.types false

noncomputable section

namespace Cert.Attn

open Idealize.ShloMosaic Idealize.ShloMosaic.TcCoe Idealize.SL.Sem Idealize.ShloMosaic.Tactic
open Cert.KernelIdeal Cert.KernelIdeal.Gen

variable (m : (ℓ : Loc nD τ sig) → Buf (Elt Ideal) ℓ) (ρ : Dev nD → PrngReg) (c : Dev nD)

/-- A row of heads and features, read as one row. -/
def flat (x : S4x4096x8x64.Idx → EReal) : S4x4096x512.Idx → EReal := fun i =>
  x (ix4 (i 0) (i 1) (headOf (i 2)) ⟨(i 2).val % 64, by omega⟩)

/-- The scale of the scores. -/
def scale : EReal := Ideal.ofBits FTy.f32 0x3E000000#32

/-- The host's preparation of the queries. -/
def hostQ (x : FVec Ideal S4x4096x8x64 .f32) : FVec Ideal S4x4096x512 .bf16 :=
  truncf .bf16 (mulf (shapeCast S4x4096x512 x shapeCasts_S4x4096x8x64_S4x4096x512)
    (broadcastInDim S4x4096x512 ![] bcast_S_S4x4096x512 (constant S_ .f32 0x3E000000#32))) bitsLt_bf16_f32

/-- The host's preparation of the keys. -/
def hostK (x : FVec Ideal S4x4096x8x64 .f32) : FVec Ideal S4x4096x512 .bf16 :=
  truncf .bf16 (shapeCast S4x4096x512 x shapeCasts_S4x4096x8x64_S4x4096x512) bitsLt_bf16_f32

/-- The host's preparation of the values, before the first call. -/
def hostV (x : FVec Ideal S4x4096x8x64 .f32) : FVec Ideal S4x512x4096 .bf16 :=
  truncf .bf16 (transpose S4x512x4096 [0, 2, 1] (shapeCast S4x4096x512 x shapeCasts_S4x4096x8x64_S4x4096x512)
    transposes_S4x4096x512_S4x512x4096_0_2_1) bitsLt_bf16_f32

/-- And between the calls. -/
def hostV' (x : FVec Ideal S4x512x4096 .bf16) : FVec Ideal S4x4x128x4096 .bf16 :=
  shapeCast S4x4x128x4096 x shapeCasts_S4x512x4096_S4x4x128x4096

theorem entry_q : V1 m ρ c main_v3 = fun i => flat (m ((c : Thread nD τ).loc main_arg0)) i * scale := by
  have e : V1 m ρ c main_v3 = hostQ (m ((c : Thread nD τ).loc main_arg0)) := by
    dsimp only [V1, W1, hostOps0]
    after_results
    try rfl
  rw [e]
  funext i
  pointwise [hostQ, hostK, hostV, hostV', flat]
  rfl

theorem entry_k : V1 m ρ c main_v5 = flat (m ((c : Thread nD τ).loc main_arg1)) := by
  have e : V1 m ρ c main_v5 = hostK (m ((c : Thread nD τ).loc main_arg1)) := by
    dsimp only [V1, W1, hostOps0]
    after_results
    try rfl
  rw [e]
  funext i
  pointwise [hostQ, hostK, hostV, hostV', flat]
  rfl

theorem entry_v : V3 m ρ c main_v10 = fun i => flat (m ((c : Thread nD τ).loc main_arg2)) (ix3 (i 0) (i 3) (pairFeat (i 1) (i 2))) := by
  have e8 : V1 m ρ c main_v8 = hostV (m ((c : Thread nD τ).loc main_arg2)) := by
    dsimp only [V1, W1, hostOps0]
    after_results
    try rfl
  have e : V3 m ρ c main_v10 = hostV' (V1 m ρ c main_v8) := by
    dsimp only [V3, W3, hostOps1]
    after_results
    rw [W2_of_ne m ρ c main_v8 (by decide)]
    rfl
  rw [e, e8]
  funext i
  pointwise [hostQ, hostK, hostV, hostV', flat]
  have e : (i 1).val * 128 + (i 2).val = 128 * (i 1).val + (i 2).val := by rw [mul_comm]
  simp only [headOf, pairFeat, e]

/-- The kernel's result: the attention of the scaled queries, the keys, the decays and the values. -/
theorem kernel_value (hq : ∀ i, ∃ x : ℝ, flat (m ((c : Thread nD τ).loc main_arg0)) i * scale = x)
    (hk : ∀ i, ∃ x : ℝ, flat (m ((c : Thread nD τ).loc main_arg1)) i = x)
    (C : S4x4096x8.Idx → EReal) (hC : m ((c : Thread nD τ).loc main_arg3) = C) (hc : ∀ i, ∃ x : ℝ, C i = x) :
    (dat1 (V3 m ρ) c).arrAt 5 cfg1.N = attend (fun i => flat (m ((c : Thread nD τ).loc main_arg0)) i * scale)
      (flat (m ((c : Thread nD τ).loc main_arg1))) C (flat (m ((c : Thread nD τ).loc main_arg2))) := by
  have a3 : V1 m ρ c main_arg3 = C := (W1_args m ρ c main_arg3 (by decide)).trans hC
  refine attend_arr _ _ C _ (V3 m ρ) c ?_ ?_ (entry_v m ρ c) hq hk hc
  · exact ((W3_of m ρ c main_v9_0 (by decide)).trans (W2_arr m ρ c 3)).trans
      (queries_arr (V1 m ρ) c _ C (entry_q m ρ c) a3 hc)
  · exact ((W3_of m ρ c main_v9_1 (by decide)).trans (W2_arr m ρ c 4)).trans
      (keys_arr (V1 m ρ) c _ C (entry_k m ρ c) a3 hc)

end Cert.Attn

end
-- ==== Proof.RefValue.lean ====
/-
  The reference's result at one index: the logits with the later positions at minus infinity, and their softmax's
  average of the values.
-/
module

public import proofs.«01_k».proof.Proof.Gen.ReferenceIdeal.Run
public import proofs.«01_k».proof.Proof.Gen.ReferenceIdeal
public import proofs.«01_k».proof.Proof.Payloads
public import Idealize.ShloMosaic.Lib.Pointwise
public import Idealize.ShloMosaic.Lib.WordCmp

@[expose] public section

set_option maxRecDepth 16384
set_option backward.isDefEq.respectTransparency.types false

noncomputable section

namespace Cert.Attn.Ref

open Idealize.ShloMosaic Idealize.ShloMosaic.TcCoe Idealize.SL.Sem
open Cert.ReferenceIdeal Cert.ReferenceIdeal.Gen

/-- The logits, masked. -/
def logits (q k : FVec Ideal S4x4096x8x64 .f32) (cs : FVec Ideal S4x4096x8 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (mulf (Host.dotGeneral dot_S4x4096x8x64_S4x4096x8x64_S4x8x4096x4096_3_3_1_1_02_02 none q k) (broadcastInDim S4x8x4096x4096 ![] bcast_S_S4x8x4096x4096 (constant S_ .f32 0x3E000000#32))) (subf (broadcastInDim S4x8x4096x4096 ![0, 1, 2, 3] bcast_S4x8x4096x1_S4x8x4096x4096_0_1_2_3 (broadcastInDim S4x8x4096x1 ![0, 1, 2] bcast_S4x8x4096_S4x8x4096x1_0_1_2 (transpose S4x8x4096 [0, 2, 1] cs transposes_S4x4096x8_S4x8x4096_0_2_1))) (broadcastInDim S4x8x4096x4096 ![0, 1, 2, 3] bcast_S4x8x1x4096_S4x8x4096x4096_0_1_2_3 (broadcastInDim S4x8x1x4096 ![0, 1, 3] bcast_S4x8x4096_S4x8x1x4096_0_1_3 (transpose S4x8x4096 [0, 2, 1] cs transposes_S4x4096x8_S4x8x4096_0_2_1))))) (broadcastInDim S4x8x4096x4096 ![] bcast_S_S4x8x4096x4096 (id (constant S_ .f32 0xFF800000#32)))

/-- A vector of one number per row, along the row. -/
def along (x : FVec Ideal S4x8x4096 .f32) : FVec Ideal S4x8x4096x4096 .f32 :=
  broadcastInDim S4x8x4096x4096 ![0, 1, 2, 3] bcast_S4x8x4096x1_S4x8x4096x4096_0_1_2_3
    (broadcastInDim S4x8x4096x1 ![0, 1, 2] bcast_S4x8x4096_S4x8x4096x1_0_1_2 x)

/-- The largest logit of a row. -/
def rowMax (l : FVec Ideal S4x8x4096x4096 .f32) : FVec Ideal S4x8x4096 .f32 :=
  maximumf (broadcastInDim S4x8x4096 ![] bcast_S_S4x8x4096 (constant S_ .f32 0xFF800000#32))
    (Host.reduce FloatOps.maximumf l (constant S_ .f32 0xFF800000#32) reducesTo_S4x8x4096x4096_S4x8x4096_d3 h_S_)

/-- The exponentials of the shifted logits. -/
def weights (l : FVec Ideal S4x8x4096x4096 .f32) : FVec Ideal S4x8x4096x4096 .f32 :=
  Host.exp (subf l (along (rowMax l)))

/-- The softmax. -/
def probs (w : FVec Ideal S4x8x4096x4096 .f32) : FVec Ideal S4x8x4096x4096 .f32 :=
  Host.divf w (along (Host.reduceAdd w (constant S_ .f32 0x00000000#32) reducesTo_S4x8x4096x4096_S4x8x4096_d3 h_S_))

/-- The average of the values. -/
def average (p : FVec Ideal S4x8x4096x4096 .f32) (v : FVec Ideal S4x4096x8x64 .f32) : FVec Ideal S4x4096x512 .bf16 :=
  shapeCast S4x4096x512 (truncf .bf16 (transpose S4x4096x8x64 [0, 3, 1, 2]
    (Host.dotGeneral dot_S4x4096x8x64_S4x8x4096x4096_S4x8x64x4096_1_3_3_2_02_01 none v p)
    transposes_S4x8x64x4096_S4x4096x8x64_0_3_1_2) bitsLt_bf16_f32) shapeCasts_S4x4096x8x64_S4x4096x512

theorem res_eq (m : (ℓ : Loc nD τ sig) → Buf (Elt Ideal) ℓ) (c : Dev nD) : Value.res_main_v32 m c
    = average (probs (weights (logits (m ((c.tc : Thread nD τ).loc main_arg0)) (m ((c.tc : Thread nD τ).loc main_arg1))
      (m ((c.tc : Thread nD τ).loc main_arg3))))) (m ((c.tc : Thread nD τ).loc main_arg2)) := rfl

/-- A maximum along the last of four axes, at one index, at any extents. -/
theorem reduce_max {n0 n1 n2 n3 : ℕ} (l : (⟨4, ![n0, n1, n2, n3]⟩ : Shape).Idx → EReal) (c : S_.Idx → EReal)
    (h : (⟨4, ![n0, n1, n2, n3]⟩ : Shape).ReducesTo [3] ⟨3, ![n0, n1, n2]⟩) (hu : 0 < S_.numel)
    (i0 : Fin n0) (i1 : Fin n1) (i2 : Fin n2) :
    Host.reduce (FloatOps.maximumf (F := Ideal) (φ := .f32)) l c h hu (ix3 i0 i1 i2)
      = Finset.univ.fold max (c (Shape.Idx.first hu)) fun n => l (ix4 i0 i1 i2 n) :=
  (Host.reduce_eq_fold _ _ _ h hu _).trans (h.fold_fiber_r4_a3 _ _ _ l)

/-- Minus infinity, as a constant of one element. -/
theorem negInf_apply (i : S_.Idx) : constant (F := Ideal) S_ .f32 0xFF800000#32 i = ⊥ := ofBits_negInf

/-- A maximum with minus infinity everywhere. -/
theorem max_negInf (r : FVec Ideal S4x8x4096 .f32) (i : S4x8x4096.Idx) :
    maximumf (broadcastInDim S4x8x4096 ![] bcast_S_S4x8x4096 (constant S_ .f32 0xFF800000#32)) r i = r i :=
  (congrArg (fun z => max z (r i)) ofBits_negInf).trans (max_eq_right bot_le)

theorem rowMax_apply (l : FVec Ideal S4x8x4096x4096 .f32) (b : Fin 4) (h : Fin 8) (s : Fin 4096) :
    rowMax l (ix3 b h s) = Finset.univ.fold max ⊥ fun n => l (ix4 b h s n) := by
  unfold rowMax
  rw [max_negInf]
  refine (reduce_max l _ _ _ b h s).trans ?_
  rw [negInf_apply]

theorem weights_apply (l : FVec Ideal S4x8x4096x4096 .f32) (b : Fin 4) (h : Fin 8) (s n : Fin 4096) :
    weights l (ix4 b h s n) = Ideal.exp (l (ix4 b h s n) - rowMax l (ix3 b h s)) := by
  pointwise [weights, along]

theorem probs_apply (w : FVec Ideal S4x8x4096x4096 .f32) (b : Fin 4) (h : Fin 8) (s n : Fin 4096) :
    probs w (ix4 b h s n) = Ideal.div (w (ix4 b h s n)) (∑ n, w (ix4 b h s n)) := by
  pointwise [probs, along]

theorem average_apply (p : FVec Ideal S4x8x4096x4096 .f32) (v : FVec Ideal S4x4096x8x64 .f32) (b : Fin 4) (s : Fin 4096) (f : Fin 512) :
    average p v (ix3 b s f) = ∑ n : Fin 4096, v (ix4 b n ⟨f.val / 64, by omega⟩ ⟨f.val % 64, by omega⟩) * p (ix4 b ⟨f.val / 64, by omega⟩ s n) := by
  pointwise [average]

theorem logits_apply (q k : FVec Ideal S4x4096x8x64 .f32) (cs : FVec Ideal S4x4096x8 .f32) (b : Fin 4) (h : Fin 8) (s n : Fin 4096) :
    logits q k cs (ix4 b h s n) = if n.val ≤ s.val then
      (∑ j, q (ix4 b s h j) * k (ix4 b n h j)) * Ideal.ofBits FTy.f32 0x3E000000#32 + (cs (ix3 b s h) - cs (ix3 b n h)) else ⊥ := by
  pointwise [logits]
  have hn := n.isLt
  have hs := s.isLt
  rw [WordCmp.cmpi_sle_ofNat (by omega) (by omega), WordCmp.select_ofBool,
    show id (constant (F := Ideal) S_ FTy.f32 4286578688#32) ix0 = ⊥ from ofBits_negInf]
  simp

end Cert.Attn.Ref

end
-- ==== Proof.RefAttend.lean ====
/-
  The reference's result is the attention: its softmax's quotient is over the same sum for every key, and its scale,
  which multiplies the scores, may multiply the queries.
-/
module

public import proofs.«01_k».proof.Proof.Entry
public import proofs.«01_k».proof.Proof.RefValue

@[expose] public section

set_option maxRecDepth 16384
set_option backward.isDefEq.respectTransparency.types false

noncomputable section

namespace Cert.Attn.Ref

open Idealize.ShloMosaic Idealize.ShloMosaic.TcCoe Idealize.SL.Sem

/-- The scale is an eighth. -/
theorem scale_eq : scale = ((1 / 8 : ℝ) : EReal) := by
  unfold scale
  simp [Ideal.ofBits, Ideal.ieee]
  show ((8388608 : ℝ) : EReal) * ((((2:ℝ) ^ 26)⁻¹ : ℝ) : EReal) = (((8:ℝ)⁻¹ : ℝ) : EReal)
  rw [← EReal.coe_mul]
  norm_num

/-- A real which is neither infinity. -/
theorem real_of {x : EReal} (h : x ≠ ⊤) (h' : x ≠ ⊥) : ∃ r : ℝ, x = r := ⟨x.toReal, (EReal.coe_toReal h h').symm⟩

section row
variable (l : FVec Ideal Cert.ReferenceIdeal.S4x8x4096x4096 .f32) (v : FVec Ideal Cert.ReferenceIdeal.S4x4096x8x64 .f32)
variable (b : Fin 4) (s : Fin 4096) (f : Fin 512)

/-- The average at one index, of logits of which none is plus infinity and the first is not minus infinity. -/
theorem average_att (top : ∀ h n, l (ix4 b h s n) ≠ ⊤) (bot : ∀ h, l (ix4 b h s 0) ≠ ⊥) :
    average (probs (weights l)) v (ix3 b s f) = att Finset.univ (fun n => l (ix4 b (headOf f) s n))
      (fun n => v (ix4 b n (headOf f) ⟨f.val % 64, by omega⟩)) := by
  obtain ⟨M, hM⟩ := real_of (fold_max_ne_top Finset.univ (fun n => l (ix4 b (headOf f) s n)) fun n _ => top _ n)
    (fold_max_ne_bot Finset.univ (fun n => l (ix4 b (headOf f) s n)) 0 (Finset.mem_univ _) (bot _))
  have w : ∀ n, weights l (ix4 b (headOf f) s n) = Ideal.exp (l (ix4 b (headOf f) s n) - (M : EReal)) := fun n => by
    rw [weights_apply, rowMax_apply, hM]
  rw [average_apply, ← sum_div_shift Finset.univ (fun n => l (ix4 b (headOf f) s n)) _ M (fun n _ => top _ n) 0
    (Finset.mem_univ _) (bot _)]
  refine Finset.sum_congr rfl fun n _ => ?_
  rw [mul_comm]
  refine congrArg (· * _) ?_
  refine (probs_apply _ b (headOf f) s n).trans ?_
  simp only [w]

end row

variable (q k v : Cert.KernelIdeal.S4x4096x8x64.Idx → EReal) (C : Cert.KernelIdeal.S4x4096x8.Idx → EReal)

theorem headOf_headFeat (h : Fin 8) (j : Fin 64) : headOf (headFeat h j) = h := by
  have := h.isLt; have := j.isLt
  apply Fin.ext
  show (64 * h.val + j.val) / 64 = h.val
  omega

theorem flat_headFeat (x : Cert.KernelIdeal.S4x4096x8x64.Idx → EReal) (b : Fin 4) (s : Fin 4096) (h : Fin 8) (j : Fin 64) :
    flat x (ix3 b s (headFeat h j)) = x (ix4 b s h j) := by
  have e : (⟨(headFeat h j).val % 64, by omega⟩ : Fin 64) = j := by
    apply Fin.ext
    show (64 * h.val + j.val) % 64 = j.val
    have := j.isLt
    omega
  show x (ix4 b s (headOf (headFeat h j)) ⟨(headFeat h j).val % 64, _⟩) = _
  rw [headOf_headFeat, e]

/-- A logit is a score. -/
theorem logit_eq (hq : ∀ i, ∃ x : ℝ, q i = x) (hk : ∀ i, ∃ x : ℝ, k i = x) (b : Fin 4) (h : Fin 8) (s n : Fin 4096) :
    logits q k C (ix4 b h s n) = if n.val ≤ s.val then score (fun i => flat q i * scale) (flat k) C b h s n else ⊥ := by
  rw [logits_apply]
  refine if_congr Iff.rfl ?_ rfl
  unfold score
  refine congrArg (· + _) ?_
  simp only [flat_headFeat]
  choose q' hq' using hq
  choose k' hk' using hk
  show _ * scale = _
  rw [scale_eq, mul_comm, mul_sum (1 / 8) (by norm_num)]
  refine Finset.sum_congr rfl fun j _ => ?_
  rw [hq', hk', ← EReal.coe_mul, ← EReal.coe_mul, ← EReal.coe_mul, ← EReal.coe_mul]
  congr 1
  ring

/-- The reference's result. -/
theorem ref_value (hq : ∀ i, ∃ x : ℝ, q i = x) (hk : ∀ i, ∃ x : ℝ, k i = x) (hC : ∀ i, ∃ x : ℝ, C i = x) :
    average (probs (weights (logits q k C))) v = attend (fun i => flat q i * scale) (flat k) C (flat v) := by
  have hQ : ∀ i, ∃ x : ℝ, flat q i * scale = x := fun i => by
    obtain ⟨x, hx⟩ := hq (ix4 (i 0) (i 1) (headOf (i 2)) ⟨(i 2).val % 64, by omega⟩)
    exact ⟨x * (1 / 8), by rw [scale_eq, EReal.coe_mul, ← hx]; rfl⟩
  have hK : ∀ i, ∃ x : ℝ, flat k i = x := fun i => hk _
  funext i
  obtain ⟨b, s, f, rfl⟩ : ∃ b s f, i = ix3 b s f := ⟨i 0, i 1, i 2, by funext d; fin_cases d <;> rfl⟩
  refine (average_att _ v b s f ?_ ?_).trans ?_
  · intro h n
    rw [logit_eq q k C hq hk]
    obtain ⟨x, hx⟩ := score_real _ _ C hQ hK hC b h s n
    split
    · rw [hx]; exact EReal.coe_ne_top x
    · exact bot_ne_top
  · intro h
    rw [logit_eq q k C hq hk]
    refine ne_of_eq_of_ne (if_pos (Nat.zero_le s.val)) ?_
    obtain ⟨x, hx⟩ := score_real _ _ C hQ hK hC b h s 0
    rw [hx]; exact EReal.coe_ne_bot x
  · simp only [logit_eq q k C hq hk]
    rfl

end Cert.Attn.Ref

end
-- ==== Proof.Rows.lean ====
/-
  The layer's mathematics on one row of the residual stream: its norm, the gated sum of the two branches behind the
  output matrix, that row's norm, and its queries.
-/
module

public import Idealize.ShloMosaic.Lib.Pointwise

@[expose] public section

noncomputable section

namespace Cert.Layer

open Idealize.ShloMosaic

/-- A row of 1024 features divided by the root of its mean square, and weighted. -/
def normed (g x : Fin 1024 → EReal) (j : Fin 1024) : EReal :=
  x j * Ideal.rsqrt (Ideal.div (∑ i, x i * x i) (Ideal.ofBits FTy.f32 0x44800000#32) + Ideal.ofBits FTy.f32 0x358637BD#32) * g j

/-- The weights of the merge of the two branches. -/
structure Weights where
  /-- The first norm's weights. -/
  g : Fin 1024 → EReal
  /-- The pooled branch's gate. -/
  gateP : Fin 1024 → Fin 1024 → EReal
  /-- The attention's gate. -/
  gateA : Fin 1024 → Fin 1024 → EReal
  /-- The pooled branch's matrix. -/
  branchP : Fin 512 → Fin 1024 → EReal
  /-- The attention's matrix. -/
  branchA : Fin 512 → Fin 1024 → EReal
  /-- The output matrix. -/
  out : Fin 1024 → Fin 1024 → EReal
  /-- The second norm's weights. -/
  gNext : Fin 1024 → EReal
  /-- The queries' matrix. -/
  query : Fin 1024 → Fin 2048 → EReal

variable (W : Weights) (x : Fin 1024 → EReal) (p a : Fin 512 → EReal)

/-- The gated sum of the two branches. -/
def mixed (j : Fin 1024) : EReal :=
  Ideal.logistic (∑ i, normed W.g x i * W.gateP i j) * (∑ i, p i * W.branchP i j)
    + Ideal.logistic (∑ i, normed W.g x i * W.gateA i j) * (∑ i, a i * W.branchA i j)

/-- The row of the residual stream after the merge. -/
def hidden (j : Fin 1024) : EReal := x j + ∑ i, mixed W x p a i * W.out i j

/-- Its norm. -/
def hiddenNormed (j : Fin 1024) : EReal := normed W.gNext (hidden W x p a) j

/-- Its queries. -/
def queries (j : Fin 2048) : EReal := ∑ i, hiddenNormed W x p a i * W.query i j

/-- The batch of a row of the flattened residual stream. -/
def batchOf (r : Fin 16384) : Fin 4 := ⟨r.val / 4096, by omega⟩

/-- The position of a row of the flattened residual stream. -/
def posOf (r : Fin 16384) : Fin 4096 := ⟨r.val % 4096, by omega⟩

end Cert.Layer

end
-- ==== Proof.MergePayloads.lean ====
/-
  The merge's body: the three blocks it leaves, row by row.
-/
module

public import proofs.«01_k».proof.Proof.Rows
public import proofs.«01_k».proof.Proof.Gen.Kernel2Ideal.Frame
public import proofs.«01_k».proof.Proof.Gen.Kernel2Ideal
public import Idealize.ShloMosaic.Lib.Pipeline.ValueKit
public import Idealize.ShloMosaic.Lib.Tactic

@[expose] public section

set_option maxRecDepth 16384
set_option backward.isDefEq.respectTransparency.types false

noncomputable section

namespace Cert.Layer

open Idealize.ShloMosaic Idealize.ShloMosaic.TcCoe Idealize.SL.Sem Idealize.ShloMosaic.Tactic
open Cert.Kernel2Ideal Cert.Kernel2Ideal.Gen

/-- The weights, from the arrays the call takes. -/
def blockWeights (g : S1x1024.Idx → EReal) (gates : S1024x2048.Idx → EReal) (bp ba : S512x1024.Idx → EReal)
    (wo : S1024x1024.Idx → EReal) (g' : S1x1024.Idx → EReal) (wq : S1024x2048.Idx → EReal) : Weights where
  g j := g (ix2 0 j)
  gateP i j := gates (ix2 i ⟨j.val, by omega⟩)
  gateA i j := gates (ix2 i ⟨1024 + j.val, by omega⟩)
  branchP i j := bp (ix2 i j)
  branchA i j := ba (ix2 i j)
  out i j := wo (ix2 i j)
  gNext j := g' (ix2 0 j)
  query i j := wq (ix2 i j)

variable (x : Vec Ideal S512x1024 .f32) (p a : Vec Ideal S512x512 .bf16) (g : Vec Ideal S1x1024 .f32)
  (gates : Vec Ideal S1024x2048 .bf16) (bp ba : Vec Ideal S512x1024 .bf16) (wo : Vec Ideal S1024x1024 .bf16)
  (g' : Vec Ideal S1x1024 .f32) (wq : Vec Ideal S1024x2048 .bf16) (r : Fin 512)

/-- A row of a block. -/
def rowOf {n k : ℕ} (x : (⟨2, ![n, k]⟩ : Shape).Idx → EReal) (r : Fin n) (j : Fin k) : EReal := x (ix2 r j)

theorem mixed_apply (j : Fin 1024) : k0_pay6 x g gates p bp a ba (ix2 r j)
    = mixed (blockWeights g gates bp ba wo g' wq) (rowOf x r) (rowOf p r) (rowOf a r) j := by
  pointwise [k0_pay6, k0_pay5]
  rfl

theorem hidden_apply (j : Fin 1024) : k0_pay1 (k0_pay5 x) (k0_pay6 x g gates p bp a ba) wo (ix2 r j)
    = hidden (blockWeights g gates bp ba wo g' wq) (rowOf x r) (rowOf p r) (rowOf a r) j := by
  pointwise [k0_pay1, k0_pay5]
  simp only [mixed_apply x p a g gates bp ba wo g' wq]
  rfl

theorem normed_apply (j : Fin 1024) : k0_pay2 (k0_pay5 x) (k0_pay6 x g gates p bp a ba) wo g' (ix2 r j)
    = hiddenNormed (blockWeights g gates bp ba wo g' wq) (rowOf x r) (rowOf p r) (rowOf a r) j := by
  pointwise [k0_pay2]
  simp only [hidden_apply x p a g gates bp ba wo g' wq]
  rfl

theorem normedT_apply (j : Fin 1024) : k0_pay3 (k0_pay5 x) (k0_pay6 x g gates p bp a ba) wo g' (ix2 j r)
    = hiddenNormed (blockWeights g gates bp ba wo g' wq) (rowOf x r) (rowOf p r) (rowOf a r) j := by
  pointwise [k0_pay3]
  exact normed_apply x p a g gates bp ba wo g' wq r j

theorem queries_apply (j : Fin 2048) : k0_pay4 (k0_pay5 x) (k0_pay6 x g gates p bp a ba) wo g' wq (ix2 r j)
    = queries (blockWeights g gates bp ba wo g' wq) (rowOf x r) (rowOf p r) (rowOf a r) j := by
  pointwise [k0_pay4]
  simp only [normed_apply x p a g gates bp ba wo g' wq]
  rfl

/-- A load of a whole block reads it. -/
theorem ld0 {e : EltTy} (x : Vec Ideal S512x1024 e) : View.ld x r0_0 = x := View.ld_unit_lit _ _ (by decide)

theorem ld1 {e : EltTy} (x : Vec Ideal S1x1024 e) : View.ld x r0_1 = x := View.ld_unit_lit _ _ (by decide)

theorem ld2 {e : EltTy} (x : Vec Ideal S1024x2048 e) : View.ld x r0_2 = x := View.ld_unit_lit _ _ (by decide)

theorem ld3 {e : EltTy} (x : Vec Ideal S512x512 e) : View.ld x r0_3 = x := View.ld_unit_lit _ _ (by decide)

theorem ld4 {e : EltTy} (x : Vec Ideal S1024x1024 e) : View.ld x r0_4 = x := View.ld_unit_lit _ _ (by decide)

theorem out10_eq : out0_10 x p a g gates bp ba wo g' wq = k0_pay1 (k0_pay5 x) (k0_pay6 x g gates p bp a ba) wo := by
  unfold_out out0_10
  rw [View.canon_cons_unit_lit _ _ _ (by decide)]
  rw [ld0 x, ld1 g, ld2 gates, ld3 p, ld3 a, ld0 bp, ld0 ba, ld4 wo]

/-- The block of the residual stream. -/
theorem out10_apply (i : S512x1024.Idx) : out0_10 x p a g gates bp ba wo g' wq i
    = hidden (blockWeights g gates bp ba wo g' wq) (rowOf x (i 0)) (rowOf p (i 0)) (rowOf a (i 0)) (i 1) := by
  rw [out10_eq]
  refine Eq.trans (congrArg _ ?_) (hidden_apply x p a g gates bp ba wo g' wq (i 0) (i 1))
  funext d; fin_cases d <;> rfl

theorem out11_eq : out0_11 x p a g gates bp ba wo g' wq = k0_pay3 (k0_pay5 x) (k0_pay6 x g gates p bp a ba) wo g' := by
  unfold_out out0_11
  rw [View.canon_cons_unit_lit _ _ _ (by decide)]
  rw [ld0 x, ld1 g, ld2 gates, ld3 p, ld3 a, ld0 bp, ld0 ba, ld4 wo, ld1 g']

/-- The block of its norm, the rows along the last axis. -/
theorem out11_apply (i : S1024x512.Idx) : out0_11 x p a g gates bp ba wo g' wq i
    = hiddenNormed (blockWeights g gates bp ba wo g' wq) (rowOf x (i 1)) (rowOf p (i 1)) (rowOf a (i 1)) (i 0) := by
  rw [out11_eq]
  refine Eq.trans (congrArg _ ?_) (normedT_apply x p a g gates bp ba wo g' wq (i 1) (i 0))
  funext d; fin_cases d <;> rfl

theorem out12_eq : out0_12 x p a g gates bp ba wo g' wq = k0_pay4 (k0_pay5 x) (k0_pay6 x g gates p bp a ba) wo g' wq := by
  unfold_out out0_12
  rw [View.canon_cons_unit_lit _ _ _ (by decide)]
  rw [ld0 x, ld1 g, ld2 gates, ld3 p, ld3 a, ld0 bp, ld0 ba, ld4 wo, ld1 g', ld2 wq]

/-- The block of the queries. -/
theorem out12_apply (i : S512x2048.Idx) : out0_12 x p a g gates bp ba wo g' wq i
    = queries (blockWeights g gates bp ba wo g' wq) (rowOf x (i 0)) (rowOf p (i 0)) (rowOf a (i 0)) (i 1) := by
  rw [out12_eq]
  refine Eq.trans (congrArg _ ?_) (queries_apply x p a g gates bp ba wo g' wq (i 0) (i 1))
  funext d; fin_cases d <;> rfl

end Cert.Layer

end
-- ==== Proof.MergeArrays.lean ====
/-
  The three arrays the merge writes, from the arrays it is called with.
-/
module

public import proofs.«01_k».proof.Proof.MergePayloads
public import proofs.«01_k».proof.Proof.Gen.Kernel2Ideal.Value

@[expose] public section

set_option maxRecDepth 16384
set_option backward.isDefEq.respectTransparency.types false

noncomputable section

namespace Cert.Layer

open Idealize.ShloMosaic Idealize.ShloMosaic.TcCoe Idealize.SL.Sem Idealize.ShloMosaic.Tactic
open Cert.Kernel2Ideal Cert.Kernel2Ideal.Gen

variable (m : (ℓ : Loc nD τ sig) → Buf (Elt Ideal) ℓ) (c : Dev nD)

/-- The blocks of the windows, at every point of the grid. -/
theorem merge_idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0]
    ∧ win0_10.index t = ![(grid0.coords t 0).val, 0]
    ∧ win0_11.index t = ![0, (grid0.coords t 0).val]
    ∧ win0_12.index t = ![(grid0.coords t 0).val, 0] :=
  (by decide +kernel : ∀ t : Fin grid0.N, _)

/-! ## The weights' blocks are the whole arrays -/

theorem whole3 (t : Fin cfg0.N) : iblk m c 3 t = V m c main_v11 := by
  funext y
  blk_simp [iblk, merge_idx t]
  blk_ext [merge_idx t]

theorem whole4 (t : Fin cfg0.N) : iblk m c 4 t = V m c main_v1 := by
  funext y
  blk_simp [iblk, merge_idx t]
  blk_ext [merge_idx t]

theorem whole5 (t : Fin cfg0.N) : iblk m c 5 t = V m c main_v2 := by
  funext y
  blk_simp [iblk, merge_idx t]
  blk_ext [merge_idx t]

theorem whole6 (t : Fin cfg0.N) : iblk m c 6 t = V m c main_v3 := by
  funext y
  blk_simp [iblk, merge_idx t]
  blk_ext [merge_idx t]

theorem whole7 (t : Fin cfg0.N) : iblk m c 7 t = V m c main_v4 := by
  funext y
  blk_simp [iblk, merge_idx t]
  blk_ext [merge_idx t]

theorem whole8 (t : Fin cfg0.N) : iblk m c 8 t = V m c main_v12 := by
  funext y
  blk_simp [iblk, merge_idx t]
  blk_ext [merge_idx t]

theorem whole9 (t : Fin cfg0.N) : iblk m c 9 t = V m c main_v5 := by
  funext y
  blk_simp [iblk, merge_idx t]
  blk_ext [merge_idx t]

/-- The weights, from the arrays the call takes. -/
def entryWeights : Weights := blockWeights (V m c main_v11) (V m c main_v1) (V m c main_v2) (V m c main_v3) (V m c main_v4)
  (V m c main_v12) (V m c main_v5)

theorem hidden_congr {W : Weights} {x x' : Fin 1024 → EReal} {p p' a a' : Fin 512 → EReal} {j j' : Fin 1024}
    (ex : ∀ i, x i = x' i) (ep : ∀ i, p i = p' i) (ea : ∀ i, a i = a' i) (ej : j = j') : hidden W x p a j = hidden W x' p' a' j' := by
  obtain rfl : x = x' := funext ex
  obtain rfl : p = p' := funext ep
  obtain rfl : a = a' := funext ea
  rw [ej]

/-- The residual stream. -/
theorem hidden_arr : (dats m 0 c).arrAt 10 cfg0.N = fun i : S16384x1024.Idx => hidden (entryWeights m c) (rowOf (V m c main_v6) (i 0))
    (rowOf (V m c main_v8) (i 0)) (rowOf (V m c main_v10) (i 0)) (i 1) := by
  refine (dats m 0 c).arrAt_eq_of_covers 10 _ (by decide +kernel) fun t hf y => ?_
  blk_simp
  rw [after0_10, out10_apply, whole3, whole4, whole5, whole6, whole7, whole8, whole9]
  refine hidden_congr (fun j => ?_) (fun j => ?_) (fun j => ?_) ?_
  · unfold rowOf
    blk_simp [iblk, merge_idx t]
    blk_ext [merge_idx t]
  · unfold rowOf
    blk_simp [iblk, merge_idx t]
    blk_ext [merge_idx t]
  · unfold rowOf
    blk_simp [iblk, merge_idx t]
    blk_ext [merge_idx t]
  · apply Fin.ext
    blk_simp [merge_idx t]

theorem hiddenNormed_congr {W : Weights} {x x' : Fin 1024 → EReal} {p p' a a' : Fin 512 → EReal} {j j' : Fin 1024}
    (ex : ∀ i, x i = x' i) (ep : ∀ i, p i = p' i) (ea : ∀ i, a i = a' i) (ej : j = j') : hiddenNormed W x p a j = hiddenNormed W x' p' a' j' := by
  obtain rfl : x = x' := funext ex
  obtain rfl : p = p' := funext ep
  obtain rfl : a = a' := funext ea
  rw [ej]

/-- Its norm, the rows along the last axis. -/
theorem normed_arr : (dats m 0 c).arrAt 11 cfg0.N = fun i : S1024x16384.Idx => hiddenNormed (entryWeights m c) (rowOf (V m c main_v6) (i 1))
    (rowOf (V m c main_v8) (i 1)) (rowOf (V m c main_v10) (i 1)) (i 0) := by
  refine (dats m 0 c).arrAt_eq_of_covers 11 _ (by decide +kernel) fun t hf y => ?_
  blk_simp
  rw [after0_11, out11_apply, whole3, whole4, whole5, whole6, whole7, whole8, whole9]
  refine hiddenNormed_congr (fun j => ?_) (fun j => ?_) (fun j => ?_) ?_
  · unfold rowOf
    blk_simp [iblk, merge_idx t]
    blk_ext [merge_idx t]
  · unfold rowOf
    blk_simp [iblk, merge_idx t]
    blk_ext [merge_idx t]
  · unfold rowOf
    blk_simp [iblk, merge_idx t]
    blk_ext [merge_idx t]
  · apply Fin.ext
    blk_simp [merge_idx t]

theorem queries_congr {W : Weights} {x x' : Fin 1024 → EReal} {p p' a a' : Fin 512 → EReal} {j j' : Fin 2048}
    (ex : ∀ i, x i = x' i) (ep : ∀ i, p i = p' i) (ea : ∀ i, a i = a' i) (ej : j = j') : queries W x p a j = queries W x' p' a' j' := by
  obtain rfl : x = x' := funext ex
  obtain rfl : p = p' := funext ep
  obtain rfl : a = a' := funext ea
  rw [ej]

/-- The queries. -/
theorem queries_arr : (dats m 0 c).arrAt 12 cfg0.N = fun i : S16384x2048.Idx => queries (entryWeights m c) (rowOf (V m c main_v6) (i 0))
    (rowOf (V m c main_v8) (i 0)) (rowOf (V m c main_v10) (i 0)) (i 1) := by
  refine (dats m 0 c).arrAt_eq_of_covers 12 _ (by decide +kernel) fun t hf y => ?_
  blk_simp
  rw [after0_12, out12_apply, whole3, whole4, whole5, whole6, whole7, whole8, whole9]
  refine queries_congr (fun j => ?_) (fun j => ?_) (fun j => ?_) ?_
  · unfold rowOf
    blk_simp [iblk, merge_idx t]
    blk_ext [merge_idx t]
  · unfold rowOf
    blk_simp [iblk, merge_idx t]
    blk_ext [merge_idx t]
  · unfold rowOf
    blk_simp [iblk, merge_idx t]
    blk_ext [merge_idx t]
  · apply Fin.ext
    blk_simp [merge_idx t]

end Cert.Layer

end
-- ==== Proof.MergeEntry.lean ====
/-
  What the host prepares for the merge, at one index, and the merge's results from the arguments.
-/
module

public import proofs.«01_k».proof.Proof.MergeArrays

@[expose] public section

set_option maxRecDepth 16384
set_option backward.isDefEq.respectTransparency.types false

noncomputable section

namespace Cert.Layer

open Idealize.ShloMosaic Idealize.ShloMosaic.TcCoe Idealize.SL.Sem Idealize.ShloMosaic.Tactic
open Cert.Kernel2Ideal Cert.Kernel2Ideal.Gen

variable (m : (ℓ : Loc nD τ sig) → Buf (Elt Ideal) ℓ) (c : Dev nD)

/-- The weights, from the layer's arrays: the gates are the input matrix's last columns. -/
def layerWeights (g : S1024.Idx → EReal) (w : S1024x4104.Idx → EReal) (bp ba : S512x1024.Idx → EReal)
    (wo : S1024x1024.Idx → EReal) (g' : S1024.Idx → EReal) (wq : S1024x2048.Idx → EReal) : Weights where
  g j := g (ix1 j)
  gateP i j := w (ix2 i ⟨2056 + j.val, by omega⟩)
  gateA i j := w (ix2 i ⟨3080 + j.val, by omega⟩)
  branchP i j := bp (ix2 i j)
  branchA i j := ba (ix2 i j)
  out i j := wo (ix2 i j)
  gNext j := g' (ix1 j)
  query i j := wq (ix2 i j)

/-- A row of a batched array. -/
def row {k : ℕ} (x : (⟨3, ![4, 4096, k]⟩ : Shape).Idx → EReal) (r : Fin 16384) (j : Fin k) : EReal := x (ix3 (batchOf r) (posOf r) j)

/-- The host's preparation of the gates. -/
def hostGates (w : FVec Ideal S1024x4104 .f32) : FVec Ideal S1024x2048 .bf16 :=
  truncf .bf16 (extractStridedSlice S1024x2048 ![0, 2056] w slices_S1024x4104_S1024x2048_0_2056) bitsLt_bf16_f32

/-- The host's preparation of a norm's weights. -/
def hostG (g : FVec Ideal S1024 .f32) : FVec Ideal S1x1024 .f32 := shapeCast S1x1024 g shapeCasts_S1024_S1x1024

/-- The host's preparation of the rows. -/
def hostX (x : FVec Ideal S4x4096x1024 .f32) : FVec Ideal S16384x1024 .f32 :=
  shapeCast S16384x1024 x shapeCasts_S4x4096x1024_S16384x1024

/-- The host's preparation of a branch. -/
def hostBranch (x : FVec Ideal S4x4096x512 .f32) : FVec Ideal S16384x512 .bf16 :=
  truncf .bf16 (shapeCast S16384x512 x shapeCasts_S4x4096x512_S16384x512) bitsLt_bf16_f32

theorem e_v1 : V m c main_v1 = hostGates (m ((c : Thread nD τ).loc main_arg4)) := by
  dsimp only [V, hostOps0]
  after_results
  try rfl

theorem e_v2 : V m c main_v2 = (m ((c : Thread nD τ).loc main_arg5) : FVec Ideal S512x1024 .f32) := by
  dsimp only [V, hostOps0]
  after_results
  try rfl

theorem e_v3 : V m c main_v3 = (m ((c : Thread nD τ).loc main_arg6) : FVec Ideal S512x1024 .f32) := by
  dsimp only [V, hostOps0]
  after_results
  try rfl

theorem e_v4 : V m c main_v4 = (m ((c : Thread nD τ).loc main_arg7) : FVec Ideal S1024x1024 .f32) := by
  dsimp only [V, hostOps0]
  after_results
  try rfl

theorem e_v5 : V m c main_v5 = (m ((c : Thread nD τ).loc main_arg9) : FVec Ideal S1024x2048 .f32) := by
  dsimp only [V, hostOps0]
  after_results
  try rfl

theorem e_v6 : V m c main_v6 = hostX (m ((c : Thread nD τ).loc main_arg0)) := by
  dsimp only [V, hostOps0]
  after_results
  try rfl

theorem e_v8 : V m c main_v8 = hostBranch (m ((c : Thread nD τ).loc main_arg1)) := by
  dsimp only [V, hostOps0]
  after_results
  try rfl

theorem e_v10 : V m c main_v10 = hostBranch (m ((c : Thread nD τ).loc main_arg2)) := by
  dsimp only [V, hostOps0]
  after_results
  try rfl

theorem e_v11 : V m c main_v11 = hostG (m ((c : Thread nD τ).loc main_arg3)) := by
  dsimp only [V, hostOps0]
  after_results
  try rfl

theorem e_v12 : V m c main_v12 = hostG (m ((c : Thread nD τ).loc main_arg8)) := by
  dsimp only [V, hostOps0]
  after_results
  try rfl

theorem hostX_row (x : FVec Ideal S4x4096x1024 .f32) (r : Fin 16384) : rowOf (hostX x) r = row x r := by
  funext j
  unfold rowOf row
  pointwise [hostX, batchOf, posOf]

theorem hostBranch_row (x : FVec Ideal S4x4096x512 .f32) (r : Fin 16384) : rowOf (hostBranch x) r = row x r := by
  funext j
  unfold rowOf row
  pointwise [hostBranch, batchOf, posOf]

theorem hostG_apply (g : FVec Ideal S1024 .f32) (j : Fin 1024) : hostG g (ix2 0 j) = g (ix1 j) := by
  pointwise [hostG]

theorem hostGates_apply (w : FVec Ideal S1024x4104 .f32) (i : Fin 1024) (j : Fin 2048) :
    hostGates w (ix2 i j) = w (ix2 i ⟨2056 + j.val, by omega⟩) := by
  pointwise [hostGates]

theorem weights_eq (g : FVec Ideal S1024 .f32) (w : FVec Ideal S1024x4104 .f32) (bp ba : FVec Ideal S512x1024 .f32)
    (wo : FVec Ideal S1024x1024 .f32) (g' : FVec Ideal S1024 .f32) (wq : FVec Ideal S1024x2048 .f32) :
    blockWeights (hostG g) (hostGates w) bp ba wo (hostG g') wq = layerWeights g w bp ba wo g' wq := by
  unfold blockWeights layerWeights
  simp only [hostG_apply, hostGates_apply]
  congr 1
  funext i j
  congr 2
  apply Fin.ext
  show 2056 + (1024 + j.val) = 3080 + j.val
  omega

/-- The weights, from the arguments. -/
def argWeights : Weights := layerWeights (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9))

theorem entryWeights_eq : entryWeights m c = argWeights m c := by
  unfold entryWeights argWeights
  rw [e_v1, e_v2, e_v3, e_v4, e_v5, e_v11, e_v12]
  exact weights_eq _ _ _ _ _ _ _

/-- The residual stream's array. -/
theorem hidden_value : (dats m 0 c).arrAt 10 cfg0.N = fun i : S16384x1024.Idx => hidden (argWeights m c)
    (row (m ((c : Thread nD τ).loc main_arg0)) (i 0)) (row (m ((c : Thread nD τ).loc main_arg1)) (i 0))
    (row (m ((c : Thread nD τ).loc main_arg2)) (i 0)) (i 1) := by
  rw [hidden_arr, entryWeights_eq, e_v6, e_v8, e_v10]
  funext i
  rw [hostX_row, hostBranch_row, hostBranch_row]

/-- Its norm's array. -/
theorem normed_value : (dats m 0 c).arrAt 11 cfg0.N = fun i : S1024x16384.Idx => hiddenNormed (argWeights m c)
    (row (m ((c : Thread nD τ).loc main_arg0)) (i 1)) (row (m ((c : Thread nD τ).loc main_arg1)) (i 1))
    (row (m ((c : Thread nD τ).loc main_arg2)) (i 1)) (i 0) := by
  rw [normed_arr, entryWeights_eq, e_v6, e_v8, e_v10]
  funext i
  rw [hostX_row, hostBranch_row, hostBranch_row]

/-- The queries' array. -/
theorem queries_value : (dats m 0 c).arrAt 12 cfg0.N = fun i : S16384x2048.Idx => queries (argWeights m c)
    (row (m ((c : Thread nD τ).loc main_arg0)) (i 0)) (row (m ((c : Thread nD τ).loc main_arg1)) (i 0))
    (row (m ((c : Thread nD τ).loc main_arg2)) (i 0)) (i 1) := by
  rw [queries_arr, entryWeights_eq, e_v6, e_v8, e_v10]
  funext i
  rw [hostX_row, hostBranch_row, hostBranch_row]

end Cert.Layer

end
-- ==== Proof.MergeRef.lean ====
/-
  The merge's reference at one index.
-/
module

public import proofs.«01_k».proof.Proof.MergeEntry
public import proofs.«01_k».proof.Proof.Gen.Reference2Ideal.Run
public import proofs.«01_k».proof.Proof.Gen.Reference2Ideal

@[expose] public section

set_option maxRecDepth 16384
set_option backward.isDefEq.respectTransparency.types false

noncomputable section

namespace Cert.Layer.Ref

open Idealize.ShloMosaic Idealize.ShloMosaic.TcCoe Idealize.SL.Sem
open Cert.Reference2Ideal Cert.Reference2Ideal.Gen

/-- The norm of every row. -/
def norm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The norm times the input matrix. -/
def projected (x : FVec Ideal S4x4096x1024 .f32) (g : FVec Ideal S1024 .f32) (w : FVec Ideal S1024x4104 .f32) : FVec Ideal S4x4096x4104 .f32 :=
  Host.dotGeneral dot_S4x4096x1024_S1024x4104_S4x4096x4104_2_0_01_1_n_n none (norm x g) w

/-- The sigmoid, of every element. -/
def sigmoid (x : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf x)))

/-- A branch behind its matrix. -/
def branch (p : FVec Ideal S4x4096x512 .f32) (w : FVec Ideal S512x1024 .f32) : FVec Ideal S4x4096x1024 .f32 :=
  Host.dotGeneral dot_S4x4096x512_S512x1024_S4x4096x1024_2_0_01_1_n_n none p w

/-- The gated sum. -/
def gated (pr : FVec Ideal S4x4096x4104 .f32) (p a : FVec Ideal S4x4096x1024 .f32) : FVec Ideal S4x4096x1024 .f32 :=
  addf (mulf (sigmoid (extractStridedSlice S4x4096x1024 ![0, 0, 2056] pr slices_S4x4096x4104_S4x4096x1024_0_0_2056)) p)
    (mulf (sigmoid (extractStridedSlice S4x4096x1024 ![0, 0, 3080] pr slices_S4x4096x4104_S4x4096x1024_0_0_3080)) a)

/-- The residual stream after the merge. -/
def stream (x mix : FVec Ideal S4x4096x1024 .f32) (wo : FVec Ideal S1024x1024 .f32) : FVec Ideal S4x4096x1024 .f32 :=
  addf x (Host.dotGeneral dot_S4x4096x1024_S1024x1024_S4x4096x1024_2_0_01_1_n_n none mix wo)

/-- The rows of the batches, one below the other. -/
def rows (h : FVec Ideal S4x4096x1024 .f32) : FVec Ideal S16384x1024 .f32 := shapeCast _ h shapeCasts_S4x4096x1024_S16384x1024

/-- The queries. -/
def query (h : FVec Ideal S16384x1024 .f32) (w : FVec Ideal S1024x2048 .f32) : FVec Ideal S16384x2048 .bf16 :=
  truncf .bf16 (Host.dotGeneral dot_S16384x1024_S1024x2048_S16384x2048_1_0_0_1_n_n none h w) bitsLt_bf16_f32

/-- The rows along the last axis. -/
def rowsT (h : FVec Ideal S16384x1024 .f32) : FVec Ideal S1024x16384 .bf16 :=
  truncf .bf16 (transpose S1024x16384 [1, 0] h transposes_S16384x1024_S1024x16384_1_0) bitsLt_bf16_f32

theorem norm_apply (x : FVec Ideal S4x4096x1024 .f32) (g : FVec Ideal S1024 .f32) (b : Fin 4) (s : Fin 4096) (j : Fin 1024) :
    norm x g (ix3 b s j) = normed (fun j => g (ix1 j)) (fun j => x (ix3 b s j)) j := by
  pointwise [norm]
  rfl

theorem projected_apply (x : FVec Ideal S4x4096x1024 .f32) (g : FVec Ideal S1024 .f32) (w : FVec Ideal S1024x4104 .f32)
    (b : Fin 4) (s : Fin 4096) (j : Fin 4104) :
    projected x g w (ix3 b s j) = ∑ i, norm x g (ix3 b s i) * w (ix2 i j) := by
  pointwise [projected]

theorem sigmoid_apply (x : FVec Ideal S4x4096x1024 .f32) (b : Fin 4) (s : Fin 4096) (j : Fin 1024) :
    sigmoid x (ix3 b s j) = Ideal.logistic (x (ix3 b s j)) := by
  pointwise [sigmoid]
  rfl

theorem branch_apply (p : FVec Ideal S4x4096x512 .f32) (w : FVec Ideal S512x1024 .f32) (b : Fin 4) (s : Fin 4096) (j : Fin 1024) :
    branch p w (ix3 b s j) = ∑ i, p (ix3 b s i) * w (ix2 i j) := by
  pointwise [branch]

theorem gated_apply (pr : FVec Ideal S4x4096x4104 .f32) (p a : FVec Ideal S4x4096x1024 .f32) (b : Fin 4) (s : Fin 4096) (j : Fin 1024) :
    gated pr p a (ix3 b s j) = Ideal.logistic (pr (ix3 b s ⟨2056 + j.val, by omega⟩)) * p (ix3 b s j)
      + Ideal.logistic (pr (ix3 b s ⟨3080 + j.val, by omega⟩)) * a (ix3 b s j) := by
  pointwise [gated]
  simp only [sigmoid_apply]
  pointwise

theorem stream_apply (x mix : FVec Ideal S4x4096x1024 .f32) (wo : FVec Ideal S1024x1024 .f32) (b : Fin 4) (s : Fin 4096) (j : Fin 1024) :
    stream x mix wo (ix3 b s j) = x (ix3 b s j) + ∑ i, mix (ix3 b s i) * wo (ix2 i j) := by
  pointwise [stream]

theorem rows_apply (h : FVec Ideal S4x4096x1024 .f32) (r : Fin 16384) (j : Fin 1024) : rows h (ix2 r j) = row h r j := by
  unfold row
  pointwise [rows, batchOf, posOf]

theorem query_apply (h : FVec Ideal S16384x1024 .f32) (w : FVec Ideal S1024x2048 .f32) (r : Fin 16384) (j : Fin 2048) :
    query h w (ix2 r j) = ∑ i, h (ix2 r i) * w (ix2 i j) := by
  pointwise [query]

theorem rowsT_apply (h : FVec Ideal S16384x1024 .f32) (r : Fin 16384) (j : Fin 1024) : rowsT h (ix2 j r) = h (ix2 r j) := by
  pointwise [rowsT]

variable (x : FVec Ideal S4x4096x1024 .f32) (p a : FVec Ideal S4x4096x512 .f32) (g : FVec Ideal S1024 .f32)
  (w : FVec Ideal S1024x4104 .f32) (bp ba : FVec Ideal S512x1024 .f32) (wo : FVec Ideal S1024x1024 .f32)
  (g' : FVec Ideal S1024 .f32) (wq : FVec Ideal S1024x2048 .f32)

/-- The residual stream, from the arguments. -/
def merged : FVec Ideal S4x4096x1024 .f32 := stream x (gated (projected x g w) (branch p bp) (branch a ba)) wo

theorem merged_apply (r : Fin 16384) (j : Fin 1024) : row (merged x p a g w bp ba wo) r j
    = hidden (layerWeights g w bp ba wo g' wq) (row x r) (row p r) (row a r) j := by
  unfold row merged
  simp only [stream_apply, gated_apply, projected_apply, branch_apply, norm_apply]
  rfl

theorem merged_norm_apply (r : Fin 16384) (j : Fin 1024) : row (norm (merged x p a g w bp ba wo) g') r j
    = hiddenNormed (layerWeights g w bp ba wo g' wq) (row x r) (row p r) (row a r) j := by
  have e : ∀ i, merged x p a g w bp ba wo (ix3 (batchOf r) (posOf r) i)
      = hidden (layerWeights g w bp ba wo g' wq) (row x r) (row p r) (row a r) i := merged_apply x p a g w bp ba wo g' wq r
  unfold row
  simp only [norm_apply, e]
  rfl

/-- The reference's residual stream. -/
theorem hidden_ref : rows (merged x p a g w bp ba wo)
    = fun i : S16384x1024.Idx => hidden (layerWeights g w bp ba wo g' wq) (row x (i 0)) (row p (i 0)) (row a (i 0)) (i 1) := by
  funext i
  refine Eq.trans (congrArg _ ?_) ((rows_apply _ (i 0) (i 1)).trans (merged_apply x p a g w bp ba wo g' wq (i 0) (i 1)))
  funext d; fin_cases d <;> rfl

/-- The reference's norm of it. -/
theorem normed_ref : rowsT (rows (norm (merged x p a g w bp ba wo) g'))
    = fun i : S1024x16384.Idx => hiddenNormed (layerWeights g w bp ba wo g' wq) (row x (i 1)) (row p (i 1)) (row a (i 1)) (i 0) := by
  funext i
  refine Eq.trans (congrArg _ ?_) ((rowsT_apply _ (i 1) (i 0)).trans ((rows_apply _ (i 1) (i 0)).trans
    (merged_norm_apply x p a g w bp ba wo g' wq (i 1) (i 0))))
  funext d; fin_cases d <;> rfl

/-- The reference's queries. -/
theorem queries_ref : query (rows (norm (merged x p a g w bp ba wo) g')) wq
    = fun i : S16384x2048.Idx => queries (layerWeights g w bp ba wo g' wq) (row x (i 0)) (row p (i 0)) (row a (i 0)) (i 1) := by
  funext i
  refine Eq.trans (congrArg _ ?_) ((query_apply _ _ (i 0) (i 1)).trans ?_)
  · funext d; fin_cases d <;> rfl
  · simp only [rows_apply, merged_norm_apply x p a g w bp ba wo g' wq]
    rfl

end Cert.Layer.Ref

end
-- ==== Proof.MergeValue.lean ====
/-
  The merge's certificate: the kernel and the reference end with the same residual stream, norm and queries.
-/
module

public import proofs.«01_k».proof.Defs
public import proofs.«01_k».proof.Proof.MergeRef

@[expose] public section

set_option backward.isDefEq.respectTransparency.types false

noncomputable section

namespace Cert.Layer

open Idealize.ShloMosaic Idealize.SL.Sem

/-- The reference's run, as the claims state it. -/
theorem merge_ref_frame : Cert.quiescent_Reference2Ideal (hReference2Ideal := Cert.Reference2Ideal.Gen.facts) := fun m g _ =>
  (θ_run _ _ _).mono (fun _ h => ⟨fun c => (h c).2.2.2, Idealize.ShloMosaic.sem_eq_zero_of_no_sems (by decide) _⟩) (Cert.Reference2Ideal.Value.run m g)

section
open Cert.Reference2Ideal Cert.Reference2Ideal.Gen Idealize.ShloMosaic.TcCoe

variable (m : (ℓ : Loc nD τ sig) → Buf (Elt Ideal) ℓ) (c : Dev nD)

theorem res1_eq : Value.res_main_v51 m c = Ref.rowsT (Ref.rows (Ref.norm (Ref.merged (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7))) (m ((c.tc : Thread nD τ).loc main_arg8)))) := rfl

theorem res2_eq : Value.res_main_v53 m c = Ref.query (Ref.rows (Ref.norm (Ref.merged (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7))) (m ((c.tc : Thread nD τ).loc main_arg8)))) (m ((c.tc : Thread nD τ).loc main_arg9)) := rfl
end

theorem merge_value : Cert.algebraic_Kernel2Ideal_Reference2Ideal (hKernel2Ideal := Cert.Kernel2Ideal.Gen.facts)
    (hReference2Ideal := Cert.Reference2Ideal.Gen.facts) := by
  intro m g m' g' _ agree
  refine ⟨fun c => _, fun c => _, fun c => _, (θ_run _ _ _).mono (fun r h c => ⟨(h c).1.trans (hidden_value m c),
    (h c).2.1.trans (normed_value m c), (h c).2.2.1.trans (queries_value m c), (h c).2.2.2⟩) (Cert.Kernel2Ideal.Value.run_blocks m g), ?_⟩
  refine (θ_run _ _ _).mono (fun r h c => ⟨(h c).1.trans ?_, (h c).2.1.trans ?_, (h c).2.2.1.trans ?_, (h c).2.2.2⟩)
    (Cert.Reference2Ideal.Value.run m' g')
  · obtain ⟨e0, e1, e2, e3, e4, e5, e6, e7, e8, e9⟩ := agree c
    rw [e0, e1, e2, e3, e4, e5, e6, e7]
    exact Ref.hidden_ref _ _ _ _ _ _ _ _ _ _
  · obtain ⟨e0, e1, e2, e3, e4, e5, e6, e7, e8, e9⟩ := agree c
    rw [res1_eq, e0, e1, e2, e3, e4, e5, e6, e7, e8]
    exact Ref.normed_ref _ _ _ _ _ _ _ _ _ _
  · obtain ⟨e0, e1, e2, e3, e4, e5, e6, e7, e8, e9⟩ := agree c
    rw [res2_eq, e0, e1, e2, e3, e4, e5, e6, e7, e8, e9]
    exact Ref.queries_ref _ _ _ _ _ _ _ _ _ _

end Cert.Layer

end
-- ==== Proof.Finite.lean ====
/-
  What a precondition says of its arguments.
-/
module

public import proofs.«01_k».proof.Defs
public import proofs.«01_k».proof.Proof.Payloads
public import Idealize.ShloMosaic.PureOps.Reduce

@[expose] public section

set_option backward.isDefEq.respectTransparency.types false

noncomputable section

namespace Cert.Finite

open Idealize.ShloMosaic Cert.Attn

/-- The comparison of an absolute value with plus infinity. -/
def small (x : EReal) : BitVec 1 :=
  FloatOps.cmpf (F := Ideal) (φ := .f32) .olt (FloatOps.absf (F := Ideal) (φ := .f32) x) (Ideal.ofBits FTy.f32 2139095040#32)

/-- A number whose absolute value is below plus infinity is real. -/
theorem real_of_small {x : EReal} (h : small x = 1#1) : ∃ r : ℝ, x = r := by
  induction x with
  | coe r => exact ⟨r, rfl⟩
  | bot => exfalso; revert h; unfold small; rw [ofBits_posInf]; simp [pointwise]; show ¬BitVec.ofBool (decide (max ⊥ (-⊥) < (⊤ : EReal))) = 1#1; simp
  | top => exfalso; revert h; unfold small; rw [ofBits_posInf]; simp [pointwise]; show ¬BitVec.ofBool (decide (max ⊤ (-⊤) < (⊤ : EReal))) = 1#1; simp

theorem and_ones {a b : BitVec 1} (h : IntOp.andi a b = 1#1) : a = 1#1 ∧ b = 1#1 := by
  revert a b; decide

/-- If all of a set's bits together are one, each is. -/
theorem fold_ones {ι : Type} (s : Finset ι) (f : ι → BitVec 1) (h : s.fold IntOp.andi 1#1 f = 1#1) : ∀ i ∈ s, f i = 1#1 := by
  classical
  induction s using Finset.induction with
  | empty => intro i hi; simp at hi
  | insert a s ha ih =>
    rw [Finset.fold_insert ha] at h
    intro i hi
    rcases Finset.mem_insert.mp hi with rfl | hi
    · exact (and_ones h).1
    · exact ih (and_ones h).2 i hi

/-- If all bits of an array together are one, each is. -/
theorem reduce_ones {s t : Shape} {dims : List (Fin s.rank)} (x : IVec s 1) (u : IVec ⟨0, ![]⟩ 1) (hu : u = fun _ => 1#1) (hr : s.ReducesTo dims t) (h0) (j : t.Idx)
    (all : ∀ i, hr.drop i = j) (h : Host.reduce IntOp.andi x u hr h0 j = 1#1) (i : s.Idx) : x i = 1#1 := by
  rw [Host.reduce_eq_fold] at h
  subst hu
  exact fold_ones _ _ h i (by simp [all i])

/-- If all absolute values of an array are below plus infinity, its numbers are real. -/
theorem all_real {s : Shape} {dims : List (Fin s.rank)} (x : FVec Ideal s .f32) (hb : Shape.BroadcastsInDim ⟨0, ![]⟩ s ![])
    (hr : s.ReducesTo dims ⟨0, ![]⟩) (h0) (j : Shape.Idx ⟨0, ![]⟩)
    (h : Host.reduce IntOp.andi (cmpf .olt (Host.absf x) (broadcastInDim s ![] hb (constant (F := Ideal) ⟨0, ![]⟩ .f32 0x7F800000#32)))
      (constantI ⟨0, ![]⟩ 1 1#1) hr h0 j = 1#1) (i : s.Idx) : ∃ r : ℝ, x i = r :=
  real_of_small (reduce_ones _ _ rfl hr h0 j (fun _ => funext fun d => Fin.elim0 d) h i)

/-- The side conditions of the rows' precondition. -/
theorem rows_facts : Cert.Pre_finite_rows.Facts := ⟨by decide, by decide, by decide, by decide, by decide, by decide, by decide⟩

/-- The side conditions of the samples' precondition. -/
theorem samples_facts : Cert.Pre_finite_samples.Facts := ⟨by decide, by decide, by decide, by decide, by decide, by decide, by decide⟩

section
open Cert.Pre_finite_rows

/-- What the rows' precondition says of the arguments. -/
theorem finite_rows (x : S4x4096x1024.Idx → EReal) (g : S1024.Idx → EReal) (w : S1024x4104.Idx → EReal) (b : S8.Idx → EReal)
    (q k : S64.Idx → EReal) (h : @fn rows_facts Ideal _ x g w b q k = fun _ => 1#1) :
    (∀ i, ∃ r : ℝ, x i = r) ∧ (∀ i, ∃ r : ℝ, g i = r) ∧ ∀ i, ∃ r : ℝ, w i = r := by
  have e := and_ones (congrFun h ix0)
  exact ⟨all_real x _ _ _ _ (and_ones e.1).1, all_real g _ _ _ _ (and_ones e.1).2, all_real w _ _ _ _ e.2⟩
end

section
open Cert.Pre_finite_samples

/-- What the samples' precondition says of the arguments. -/
theorem finite_samples (x : S128x8x1024.Idx → EReal) (u : S128x15x512.Idx → EReal) (g : S1024.Idx → EReal) (w : S1024x4104.Idx → EReal)
    (b : S8.Idx → EReal) (q k : S64.Idx → EReal) (h : @fn samples_facts Ideal _ x u g w b q k = fun _ => 1#1) :
    (∀ i, ∃ r : ℝ, x i = r) ∧ (∀ i, ∃ r : ℝ, g i = r) ∧ ∀ i, ∃ r : ℝ, w i = r := by
  have e := and_ones (congrFun h ix0)
  exact ⟨all_real x _ _ _ _ (and_ones e.1).1, all_real g _ _ _ _ (and_ones e.1).2, all_real w _ _ _ _ e.2⟩
end

end Cert.Finite

end
-- ==== Proof.ProjectRows.lean ====
/-
  The input projection's mathematics on one row: the normed row times the input matrix, the norm of a head's 64
  features, and the logarithm of a sigmoid.
-/
module

public import proofs.«01_k».proof.Proof.Rows

@[expose] public section

noncomputable section

namespace Cert.Layer

open Idealize.ShloMosaic

/-- The normed row times the input matrix. -/
def features {n : ℕ} (g : Fin 1024 → EReal) (w : Fin 1024 → Fin n → EReal) (x : Fin 1024 → EReal) (j : Fin n) : EReal :=
  ∑ i, normed g x i * w i j

/-- 512 consecutive features. -/
def cols {n : ℕ} (o : ℕ) (h : o + 512 ≤ n) (f : Fin n → EReal) (j : Fin 512) : EReal := f ⟨o + j.val, by omega⟩

/-- Feature `l` of head `h`, the heads side by side. -/
def headFeat (h : Fin 8) (l : Fin 64) : Fin 512 := ⟨64 * h.val + l.val, by omega⟩

/-- The head of a feature. -/
def headIdx (j : Fin 512) : Fin 8 := ⟨j.val / 64, by omega⟩

/-- The place of a feature in its head. -/
def laneIdx (j : Fin 512) : Fin 64 := ⟨j.val % 64, by omega⟩

/-- The reciprocal root of the mean square of a head's features. -/
def headScale (q : Fin 512 → EReal) (h : Fin 8) : EReal :=
  Ideal.rsqrt (Ideal.div (∑ l, q (headFeat h l) * q (headFeat h l)) (Ideal.ofBits FTy.f32 0x42800000#32)
    + Ideal.ofBits FTy.f32 0x358637BD#32)

/-- Heads side by side, each divided by the root of its mean square, and weighted. -/
def headNormed (q : Fin 512 → EReal) (g : Fin 64 → EReal) (j : Fin 512) : EReal :=
  q j * headScale q (headIdx j) * g (laneIdx j)

/-- The logarithm of the sigmoid. -/
def logSigmoid (z : EReal) : EReal := min z 0 - Ideal.log1p (Ideal.exp (0 - max z (-z)))

/-! ## Real rows -/

theorem bits64 : Ideal.ofBits FTy.f32 0x42800000#32 = ((64 : ℝ) : EReal) := by
  simp [Ideal.ofBits, Ideal.ieee]
  rw [← EReal.coe_mul]
  norm_num

theorem bits64inv : Ideal.ofBits FTy.f32 0x3C800000#32 = ((1 / 64 : ℝ) : EReal) := by
  simp [Ideal.ofBits, Ideal.ieee]
  rw [← EReal.coe_mul]
  norm_num

theorem bits1024 : Ideal.ofBits FTy.f32 0x44800000#32 = ((1024 : ℝ) : EReal) := by
  simp [Ideal.ofBits, Ideal.ieee]
  rw [← EReal.coe_mul]
  norm_num

theorem bitsEps : ∃ e : ℝ, 0 < e ∧ Ideal.ofBits FTy.f32 0x358637BD#32 = (e : EReal) := by
  refine ⟨8796093 * (2 ^ 43)⁻¹, by positivity, ?_⟩
  simp [Ideal.ofBits, Ideal.ieee]

theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe (a : ℝ) (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.mpr ha.le), if_neg ha.ne']

/-- The norm of a real row, with real weights, is real. -/
theorem normed_real {g x : Fin 1024 → EReal} (hg : ∀ i, ∃ r : ℝ, g i = r) (hx : ∀ i, ∃ r : ℝ, x i = r) (j : Fin 1024) :
    ∃ r : ℝ, normed g x j = r := by
  choose g' hg using hg
  choose x' hx using hx
  obtain ⟨e, he, hb⟩ := bitsEps
  unfold normed
  simp only [hg, hx, bits1024, hb, ← EReal.coe_mul, ← coe_sum]
  rw [div_coe _ _ (by norm_num), ← EReal.coe_add, rsqrt_coe, ← EReal.coe_mul, ← EReal.coe_mul]
  · exact ⟨_, rfl⟩
  · have : 0 ≤ ∑ i, x' i * x' i := Finset.sum_nonneg fun i _ => mul_self_nonneg _
    positivity

/-- So are its features, behind a real matrix. -/
theorem features_real {n : ℕ} {g x : Fin 1024 → EReal} {w : Fin 1024 → Fin n → EReal} (hg : ∀ i, ∃ r : ℝ, g i = r)
    (hw : ∀ i j, ∃ r : ℝ, w i j = r) (hx : ∀ i, ∃ r : ℝ, x i = r) (j : Fin n) : ∃ r : ℝ, features g w x j = r := by
  have hn := normed_real hg hx
  choose n' hn using hn
  choose w' hw using hw
  unfold features
  simp only [hn, hw, ← EReal.coe_mul, ← coe_sum]
  exact ⟨_, rfl⟩

/-- The features of a head, among all of them. -/
theorem sum_head (f : Fin 512 → ℝ) (h : Fin 8) : (∑ i, f i * if headIdx i = h then 1 else 0) = ∑ l, f (headFeat h l) := by
  simp only [mul_ite, mul_one, mul_zero]
  rw [← Finset.sum_filter]
  symm
  refine Finset.sum_bij (fun l _ => headFeat h l) (fun l _ => ?_) (fun l _ l' _ e => ?_) (fun i hi => ?_) fun _ _ => rfl
  · rw [Finset.mem_filter]
    refine ⟨Finset.mem_univ _, Fin.ext ?_⟩
    show (64 * h.val + l.val) / 64 = h.val
    omega
  · have : 64 * h.val + l.val = 64 * h.val + l'.val := congrArg Fin.val e
    exact Fin.ext (by omega)
  · obtain rfl := (Finset.mem_filter.mp hi).2
    refine ⟨laneIdx i, Finset.mem_univ _, Fin.ext ?_⟩
    show 64 * (i.val / 64) + i.val % 64 = i.val
    omega

/-- The mean square of a head, from the squares and the remainders of their rounding, both multiplied by the matrix
    that marks the features of one head: the remainders are zero. -/
theorem split_scale {q : Fin 512 → EReal} (hq : ∀ i, ∃ r : ℝ, q i = r) (j : Fin 512) :
    Ideal.rsqrt (((∑ i, q i * q i * (if headIdx i = headIdx j then 1 else 0))
        + ∑ i, (q i * q i - q i * q i) * (if headIdx i = headIdx j then 1 else 0)) * Ideal.ofBits FTy.f32 0x3C800000#32
      + Ideal.ofBits FTy.f32 0x358637BD#32) = headScale q (headIdx j) := by
  choose q' hq using hq
  have one : ∀ i, (if headIdx i = headIdx j then (1 : EReal) else 0) = ((if headIdx i = headIdx j then 1 else 0 : ℝ) : EReal) := by
    intro i
    split <;> simp
  unfold headScale
  congr 2
  simp only [hq, one, ← EReal.coe_mul, ← EReal.coe_sub, ← coe_sum, sub_self, zero_mul, bits64, bits64inv, ← EReal.coe_add]
  rw [div_coe _ _ (by norm_num), sum_head (fun i => q' i * q' i)]
  congr 1
  simp only [Finset.sum_const_zero]
  ring

theorem log1p_exp_coe (a : ℝ) : Ideal.log1p (Ideal.exp (a : EReal)) = ((Real.log (1 + Real.exp a) : ℝ) : EReal) := by
  show Ideal.log (1 + ((Real.exp a : ℝ) : EReal)) = _
  rw [← EReal.coe_one, ← EReal.coe_add]
  show (if 1 + Real.exp a ≤ 0 then (⊥ : EReal) else (Real.log (1 + Real.exp a) : ℝ)) = _
  rw [if_neg (not_le.mpr (by positivity))]

/-- The logarithm of the sigmoid as minus the softplus of the negated argument, at a real argument. -/
theorem softplus_eq_coe (z : ℝ) :
    -(max (-(z : EReal)) 0 + Ideal.log1p (Ideal.exp (-(max (-(z : EReal) - 0) (-(-(z : EReal) - 0)))))) = logSigmoid z := by
  have m : max (z : EReal) (-(z : EReal)) = ((max z (-z) : ℝ) : EReal) := by
    rw [EReal.coe_strictMono.monotone.map_max, EReal.coe_neg]
  have n : -(max (-(z : EReal) - 0) (-(-(z : EReal) - 0))) = ((-max z (-z) : ℝ) : EReal) := by
    rw [sub_zero, neg_neg, max_comm, m, EReal.coe_neg]
  have n' : 0 - max (z : EReal) (-(z : EReal)) = ((-max z (-z) : ℝ) : EReal) := by rw [m, zero_sub, EReal.coe_neg]
  have a : max (-(z : EReal)) 0 = ((max (-z) 0 : ℝ) : EReal) := by
    rw [EReal.coe_strictMono.monotone.map_max, EReal.coe_neg, EReal.coe_zero]
  have b : min (z : EReal) 0 = ((min z 0 : ℝ) : EReal) := by
    rw [EReal.coe_strictMono.monotone.map_min, EReal.coe_zero]
  unfold logSigmoid
  rw [n, n', log1p_exp_coe, a, b, ← EReal.coe_add, ← EReal.coe_neg, ← EReal.coe_sub]
  congr 1
  have : max (-z) 0 = -min z 0 := by
    rcases le_total z 0 with h | h
    · rw [min_eq_left h, max_eq_left (by linarith)]
    · rw [min_eq_right h, max_eq_right (by linarith), neg_zero]
  rw [this]
  ring

theorem log1p_zero : Ideal.log1p 0 = 0 := by
  show Ideal.log (1 + 0) = 0
  rw [add_zero, ← EReal.coe_one]
  show (if (1 : ℝ) ≤ 0 then (⊥ : EReal) else (Real.log 1 : ℝ)) = 0
  rw [if_neg (by norm_num), Real.log_one, EReal.coe_zero]

theorem exp_bot : Ideal.exp ⊥ = 0 := rfl

/-- The same at any argument. -/
theorem softplus_eq (z : EReal) :
    -(max (-z) 0 + Ideal.log1p (Ideal.exp (-(max (-z - 0) (-(-z - 0)))))) = logSigmoid z := by
  induction z with
  | coe z => exact softplus_eq_coe z
  | bot => simp [logSigmoid, exp_bot, log1p_zero]
  | top => simp [logSigmoid, exp_bot, log1p_zero]

end Cert.Layer

end
-- ==== Proof.ProjectPayloads.lean ====
/-
  The projection's body: the seven blocks it leaves, row by row.
-/
module

public import proofs.«01_k».proof.Proof.ProjectRows
public import proofs.«01_k».proof.Proof.Gen.Kernel3Ideal.Frame
public import proofs.«01_k».proof.Proof.Gen.Kernel3Ideal
public import Idealize.ShloMosaic.Lib.Pipeline.ValueKit
public import Idealize.ShloMosaic.Lib.Tactic

@[expose] public section

set_option maxRecDepth 16384
set_option backward.isDefEq.respectTransparency.types false

noncomputable section

namespace Cert.Layer.Project

open Idealize.ShloMosaic Idealize.ShloMosaic.TcCoe Idealize.SL.Sem Idealize.ShloMosaic.Tactic
open Cert.Kernel3Ideal Cert.Kernel3Ideal.Gen

variable (x : Vec Ideal S512x1024 .f32) (g : Vec Ideal S1x1024 .f32) (w : Vec Ideal S1024x2176 .bf16)
  (bf : Vec Ideal S1x128 .f32) (qg kg : Vec Ideal S1x512 .f32) (G : Vec Ideal S512x512 .bf16) (r : Fin 512)

/-- A row's features, from the blocks. -/
def blockFeatures : Fin 2176 → EReal := features (fun j => g (ix2 0 j)) (fun i j => w (ix2 i j)) (fun j => x (ix2 r j))

theorem features_apply (j : Fin 2176) : k0_pay3 x g w (ix2 r j) = blockFeatures x g w r j := by
  pointwise [k0_pay3]
  rfl

theorem u_apply (j : Fin 512) : k0_pay4 x g w (ix2 r j) = cols 0 (by decide) (blockFeatures x g w r) j := by
  pointwise [k0_pay4]
  rw [features_apply]
  unfold cols
  congr 2
  simp

theorem k_apply (j : Fin 512) : k0_pay5 x g w (ix2 r j) = cols 1024 (by decide) (blockFeatures x g w r) j := by
  pointwise [k0_pay5]
  rw [features_apply]
  rfl

theorem v_apply (j : Fin 512) : k0_pay6 x g w (ix2 r j) = cols 1536 (by decide) (blockFeatures x g w r) j := by
  pointwise [k0_pay6]
  rw [features_apply]
  rfl

/-- The block of queries. -/
def qBlock : FVec Ideal S512x512 .f32 := extractStridedSlice S512x512 ![0, 512] (k0_pay3 x g w) slices_S512x2176_o0_512_S512x512

theorem q_apply (j : Fin 512) : qBlock x g w (ix2 r j) = cols 512 (by decide) (blockFeatures x g w r) j := by
  pointwise [qBlock]
  rw [features_apply]
  rfl

/-- A block of heads, each divided by the root of its mean square. -/
def scaled (q : FVec Ideal S512x512 .f32) (G : FVec Ideal S512x512 .bf16) : FVec Ideal S512x512 .f32 :=
  mulf q (rsqrt (addf (mulf (addf (matmul dot_S512x512_S512x512_S512x512_1_0_0_1_n_n none (truncf .bf16 (mulf q q) bitsLt_bf16_f32) G (constant S512x512 .f32 0x00000000#32))
    (matmul dot_S512x512_S512x512_S512x512_1_0_0_1_n_n none (truncf .bf16 (subf (mulf q q) (extf .f32 (truncf .bf16 (mulf q q) bitsLt_bf16_f32) bitsLt_bf16_f32)) bitsLt_bf16_f32) G (constant S512x512 .f32 0x00000000#32)))
    (broadcast S512x512 (Scalar.ofBits .f32 0x3C800000#32))) (broadcast S512x512 (Scalar.ofBits .f32 0x358637BD#32))))

theorem pay9_eq : k0_pay9 x g w G = scaled (qBlock x g w) (k0_pay8 G) := rfl

theorem pay10_eq (k : FVec Ideal S512x512 .f32) (G : FVec Ideal S512x512 .bf16) : k0_pay10 k G kg
    = mulf (scaled k G) (broadcastTo S512x512 (shapeCast S1x512 kg shapeCasts_S1x512_S1x512) broadcasts_S1x512_S512x512) := rfl

/-- The matrix that marks the features of one head. -/
def marks (G : S512x512.Idx → EReal) : Prop := ∀ i j, G (ix2 i j) = if headIdx i = headIdx j then 1 else 0

theorem scaled_apply (q : FVec Ideal S512x512 .f32) (G : FVec Ideal S512x512 .bf16) (hG : marks G)
    (hq : ∀ i, ∃ y : ℝ, q (ix2 r i) = y) (j : Fin 512) :
    scaled q G (ix2 r j) = q (ix2 r j) * headScale (fun i => q (ix2 r i)) (headIdx j) := by
  rw [← split_scale hq j]
  pointwise [scaled]
  simp only [hG _ _]

theorem marks8 (hG : marks G) : marks (k0_pay8 G) := fun i j => by
  refine Eq.trans ?_ (hG i j)
  pointwise [k0_pay8]

/-- The weights of one head, repeated for every head. -/
def tiles (a : S1x512.Idx → EReal) (a' : Fin 64 → EReal) : Prop := ∀ j, a (ix2 0 j) = a' (laneIdx j)

theorem qb_apply (hG : marks G) {q' : Fin 64 → EReal} (tq : tiles qg q')
    (real : ∀ j, ∃ y : ℝ, cols 512 (by decide) (blockFeatures x g w r) j = y) (j : Fin 512) :
    k0_pay11 (k0_pay9 x g w G) qg (ix2 r j)
      = headNormed (cols 512 (by decide) (blockFeatures x g w r)) q' j * Ideal.ofBits FTy.f32 0x3E000000#32 := by
  pointwise [k0_pay11]
  rw [pay9_eq, scaled_apply r _ _ (marks8 G hG) (fun i => by rw [q_apply]; exact real _), tq j]
  simp only [q_apply]
  rfl

theorem k_normed (hG : marks G) {k' : Fin 64 → EReal} (tk : tiles kg k')
    (real : ∀ j, ∃ y : ℝ, cols 1024 (by decide) (blockFeatures x g w r) j = y) (j : Fin 512) :
    k0_pay10 (k0_pay5 x g w) (k0_pay8 G) kg (ix2 r j) = headNormed (cols 1024 (by decide) (blockFeatures x g w r)) k' j := by
  rw [pay10_eq]
  pointwise
  rw [scaled_apply r _ _ (marks8 G hG) (fun i => by rw [k_apply]; exact real _), tk j]
  simp only [k_apply]
  rfl

theorem kb_apply (hG : marks G) {k' : Fin 64 → EReal} (tk : tiles kg k')
    (real : ∀ j, ∃ y : ℝ, cols 1024 (by decide) (blockFeatures x g w r) j = y) (j : Fin 512) :
    k0_pay12 (k0_pay5 x g w) (k0_pay8 G) kg (ix2 r j) = headNormed (cols 1024 (by decide) (blockFeatures x g w r)) k' j := by
  pointwise [k0_pay12]
  exact k_normed x g w kg G r hG tk real j

theorem kT_apply (hG : marks G) {k' : Fin 64 → EReal} (tk : tiles kg k')
    (real : ∀ j, ∃ y : ℝ, cols 1024 (by decide) (blockFeatures x g w r) j = y) (j : Fin 512) :
    k0_pay13 (k0_pay5 x g w) (k0_pay8 G) kg (ix3 0 j r) = headNormed (cols 1024 (by decide) (blockFeatures x g w r)) k' j := by
  pointwise [k0_pay13]
  exact k_normed x g w kg G r hG tk real j

theorem vT_apply (j : Fin 512) : k0_pay15 (k0_pay6 x g w) (ix3 0 j r) = cols 1536 (by decide) (blockFeatures x g w r) j := by
  pointwise [k0_pay15, k0_pay14]
  exact v_apply x g w r j

theorem vTb_apply (j : Fin 512) : k0_pay1 (k0_pay14 (k0_pay6 x g w)) (ix3 0 j r) = cols 1536 (by decide) (blockFeatures x g w r) j := by
  pointwise [k0_pay1, k0_pay14]
  exact v_apply x g w r j

/-- A row's forget gates: the logarithms of the sigmoids. -/
def gates {n : ℕ} (hn : 2056 ≤ n) (f : Fin n → EReal) (b : Fin 8 → EReal) (h : Fin 8) : EReal :=
  logSigmoid (f ⟨2048 + h.val, by omega⟩ + b h)

theorem gates_apply {b : Fin 8 → EReal} (hb : ∀ h : Fin 8, bf (ix2 0 ⟨h.val, by omega⟩) = b h) (h : Fin 8) :
    k0_pay2 (k0_pay7 x g w) bf (ix2 r h) = gates (by decide) (blockFeatures x g w r) b h := by
  pointwise [k0_pay2, k0_pay7]
  rw [features_apply]
  unfold gates logSigmoid
  rw [← hb h]
  simp only [zero_sub]
  rfl

/-! ## The blocks -/

/-- A load of a whole block reads it. -/
theorem ld0 {e : EltTy} (x : Vec Ideal S512x1024 e) : View.ld x r0_0 = x := View.ld_unit_lit _ _ (by decide)

theorem ld1 {e : EltTy} (x : Vec Ideal S1x1024 e) : View.ld x r0_1 = x := View.ld_unit_lit _ _ (by decide)

theorem ld2 {e : EltTy} (x : Vec Ideal S1024x2176 e) : View.ld x r0_2 = x := View.ld_unit_lit _ _ (by decide)

theorem ld3 {e : EltTy} (x : Vec Ideal S512x512 e) : View.ld x r0_3 = x := View.ld_unit_lit _ _ (by decide)

theorem ld4 {e : EltTy} (x : Vec Ideal S1x512 e) : View.ld x r0_4 = x := View.ld_unit_lit _ _ (by decide)

theorem ld6 {e : EltTy} (x : Vec Ideal S1x128 e) : View.ld x r0_6 = x := View.ld_unit_lit _ _ (by decide)

theorem out7_eq : out0_7 x g w bf qg kg G = k0_pay4 x g w := by
  unfold_out out0_7
  rw [View.canon_cons_unit_lit _ _ _ (by decide), ld0 x, ld1 g, ld2 w]

theorem out8_eq : out0_8 x g w bf qg kg G = k0_pay11 (k0_pay9 x g w G) qg := by
  unfold_out out0_8
  rw [View.canon_cons_unit_lit _ _ _ (by decide), ld0 x, ld1 g, ld2 w, ld3 G, ld4 qg]

theorem out9_eq : out0_9 x g w bf qg kg G = k0_pay13 (k0_pay5 x g w) (k0_pay8 G) kg := by
  unfold_out out0_9
  rw [View.canon_cons_unit_lit _ _ _ (by decide), ld0 x, ld1 g, ld2 w, ld3 G, ld4 kg]

theorem out10_eq : out0_10 x g w bf qg kg G = k0_pay12 (k0_pay5 x g w) (k0_pay8 G) kg := by
  unfold_out out0_10
  rw [View.canon_cons_unit_lit _ _ _ (by decide), ld0 x, ld1 g, ld2 w, ld3 G, ld4 kg]

theorem out11_eq : out0_11 x g w bf qg kg G = k0_pay15 (k0_pay6 x g w) := by
  unfold_out out0_11
  rw [View.canon_cons_unit_lit _ _ _ (by decide), ld0 x, ld1 g, ld2 w]

theorem out12_eq : out0_12 x g w bf qg kg G = k0_pay1 (k0_pay14 (k0_pay6 x g w)) := by
  unfold_out out0_12
  rw [View.canon_cons_unit_lit _ _ _ (by decide), ld0 x, ld1 g, ld2 w]

theorem out13_eq : out0_13 x g w bf qg kg G = k0_pay2 (k0_pay7 x g w) bf := by
  unfold_out out0_13
  rw [View.canon_cons_unit_lit _ _ _ (by decide), ld0 x, ld1 g, ld2 w, ld6 bf]

end Cert.Layer.Project

end
-- ==== Proof.ProjectArrays.lean ====
/-
  The seven arrays the projection writes, from the arrays it is called with.
-/
module

public import proofs.«01_k».proof.Proof.ProjectPayloads

@[expose] public section

set_option maxRecDepth 16384
set_option backward.isDefEq.respectTransparency.types false

noncomputable section

namespace Cert.Layer.Project

open Idealize.ShloMosaic Idealize.ShloMosaic.TcCoe Idealize.SL.Sem Idealize.ShloMosaic.Tactic
open Cert.Kernel3Ideal Cert.Kernel3Ideal.Gen

variable (m : (ℓ : Loc nD τ sig) → Buf (Elt Ideal) ℓ) (c : Dev nD)

/-- The blocks of the windows, at every point of the grid. -/
theorem project_idx : ∀ t : Fin cfg0.N, win0_0.index t = ![(grid0.coords t 0).val, 0]
    ∧ win0_1.index t = ![0, 0] ∧ win0_2.index t = ![0, 0] ∧ win0_3.index t = ![0, 0] ∧ win0_4.index t = ![0, 0]
    ∧ win0_5.index t = ![0, 0] ∧ win0_6.index t = ![0, 0]
    ∧ win0_7.index t = ![(grid0.coords t 0).val, 0]
    ∧ win0_8.index t = ![(grid0.coords t 0).val, 0]
    ∧ win0_9.index t = ![(grid0.coords t 0).val / 8, 0, (grid0.coords t 0).val % 8]
    ∧ win0_10.index t = ![(grid0.coords t 0).val, 0]
    ∧ win0_11.index t = ![(grid0.coords t 0).val / 8, 0, (grid0.coords t 0).val % 8]
    ∧ win0_12.index t = ![(grid0.coords t 0).val / 8, 0, (grid0.coords t 0).val % 8]
    ∧ win0_13.index t = ![(grid0.coords t 0).val, 0] :=
  (by decide +kernel : ∀ t : Fin grid0.N, _)

theorem coord_lt : ∀ t : Fin cfg0.N, (grid0.coords t 0).val < 32 := (by decide +kernel : ∀ t : Fin grid0.N, _)

/-! ## The weights' blocks are the whole arrays -/

theorem whole1 (t : Fin cfg0.N) : iblk m c 1 t = V m c main_v24 := by
  funext y
  blk_simp [iblk, project_idx t]
  blk_ext [project_idx t]

theorem whole2 (t : Fin cfg0.N) : iblk m c 2 t = V m c main_v3 := by
  funext y
  blk_simp [iblk, project_idx t]
  blk_ext [project_idx t]

theorem whole3 (t : Fin cfg0.N) : iblk m c 3 t = V m c main_v6 := by
  funext y
  blk_simp [iblk, project_idx t]
  blk_ext [project_idx t]

theorem whole4 (t : Fin cfg0.N) : iblk m c 4 t = V m c main_v10 := by
  funext y
  blk_simp [iblk, project_idx t]
  blk_ext [project_idx t]

theorem whole5 (t : Fin cfg0.N) : iblk m c 5 t = V m c main_v14 := by
  funext y
  blk_simp [iblk, project_idx t]
  blk_ext [project_idx t]

theorem whole6 (t : Fin cfg0.N) : iblk m c 6 t = V m c main_v22 := by
  funext y
  blk_simp [iblk, project_idx t]
  blk_ext [project_idx t]

/-- A row's features, from the arrays the call takes. -/
def entryFeatures (r : Fin 16384) : Fin 2176 → EReal :=
  features (fun j => V m c main_v24 (ix2 0 j)) (fun i j => V m c main_v3 (ix2 i j)) (fun j => V m c main_v23 (ix2 r j))

/-- The row a point of the grid works on. -/
def rowAt (t : Fin cfg0.N) (r : Fin 512) : Fin 16384 := ⟨(grid0.coords t 0).val * 512 + r.val, by have := coord_lt t; omega⟩

/-- The row of a batch and a position. -/
def rowIx (b : Fin 4) (s : Fin 4096) : Fin 16384 := ⟨b.val * 4096 + s.val, by omega⟩

theorem blockFeatures_eq (t : Fin cfg0.N) (r : Fin 512) :
    blockFeatures (iblk m c 0 t) (iblk m c 1 t) (iblk m c 2 t) r = entryFeatures m c (rowAt t r) := by
  rw [whole1, whole2]
  unfold blockFeatures entryFeatures
  refine congrArg (features _ _) (funext fun j => ?_)
  unfold rowAt
  blk_simp [iblk, project_idx t]
  blk_ext [project_idx t]

/-- The pooling inputs of a row. -/
def uAt (r : Fin 16384) (j : Fin 512) : EReal := cols 0 (by decide) (entryFeatures m c r) j

/-- The queries of a row, normed by head. -/
def qAt (q' : Fin 64 → EReal) (r : Fin 16384) (j : Fin 512) : EReal :=
  headNormed (cols 512 (by decide) (entryFeatures m c r)) q' j * Ideal.ofBits FTy.f32 0x3E000000#32

/-- The keys of a row, normed by head. -/
def kAt (k' : Fin 64 → EReal) (r : Fin 16384) (j : Fin 512) : EReal := headNormed (cols 1024 (by decide) (entryFeatures m c r)) k' j

/-- The values of a row. -/
def vAt (r : Fin 16384) (j : Fin 512) : EReal := cols 1536 (by decide) (entryFeatures m c r) j

/-- The log forget gates of a row. -/
def gatesAt (b : Fin 8 → EReal) (r : Fin 16384) (h : Fin 8) : EReal := gates (by decide) (entryFeatures m c r) b h

/-- The pooling inputs' array. -/
theorem u_arr : (dats m 0 c).arrAt 7 cfg0.N = fun i : S16384x512.Idx => uAt m c (i 0) (i 1) := by
  refine (dats m 0 c).arrAt_eq_of_covers 7 _ (by decide +kernel) fun t hf y => ?_
  blk_simp
  rw [after0_7, out7_eq]
  refine (Eq.trans (congrArg _ ?_) (u_apply _ _ _ (y 0) (y 1))).trans ?_
  · funext d; fin_cases d <;> rfl
  · rw [blockFeatures_eq]
    refine congr (congrArg (uAt m c) (Fin.ext ?_)) (Fin.ext ?_)
    · unfold rowAt
      blk_simp [project_idx t]
    · blk_simp [project_idx t]

/-- The values' array, the positions along the last axis. -/
theorem v_arr : (dats m 0 c).arrAt 11 cfg0.N = fun i : S4x512x4096.Idx => vAt m c (rowIx (i 0) (i 2)) (i 1) := by
  refine (dats m 0 c).arrAt_eq_of_covers 11 _ (by decide +kernel) fun t hf y => ?_
  blk_simp
  rw [after0_11, out11_eq]
  refine (Eq.trans (congrArg _ ?_) (vT_apply _ _ _ (y 2) (y 1))).trans ?_
  · funext d; fin_cases d
    · exact Subsingleton.elim (α := Fin 1) _ _
    · rfl
    · rfl
  · rw [blockFeatures_eq]
    refine congr (congrArg (vAt m c) (Fin.ext ?_)) (Fin.ext ?_)
    · unfold rowAt rowIx
      blk_simp [project_idx t]
      show (grid0.coords t 0).val * 512 + (y 2).val = (grid0.coords t 0).val / 8 * 4096 + ((grid0.coords t 0).val % 8 * 512 + (y 2).val)
      omega
    · blk_simp [project_idx t]

/-- The same in the narrower format. -/
theorem vb_arr : (dats m 0 c).arrAt 12 cfg0.N = fun i : S4x512x4096.Idx => vAt m c (rowIx (i 0) (i 2)) (i 1) := by
  refine (dats m 0 c).arrAt_eq_of_covers 12 _ (by decide +kernel) fun t hf y => ?_
  blk_simp
  rw [after0_12, out12_eq]
  refine (Eq.trans (congrArg _ ?_) (vTb_apply _ _ _ (y 2) (y 1))).trans ?_
  · funext d; fin_cases d
    · exact Subsingleton.elim (α := Fin 1) _ _
    · rfl
    · rfl
  · rw [blockFeatures_eq]
    refine congr (congrArg (vAt m c) (Fin.ext ?_)) (Fin.ext ?_)
    · unfold rowAt rowIx
      blk_simp [project_idx t]
      show (grid0.coords t 0).val * 512 + (y 2).val = (grid0.coords t 0).val / 8 * 4096 + ((grid0.coords t 0).val % 8 * 512 + (y 2).val)
      omega
    · blk_simp [project_idx t]

/-- The queries' array. -/
theorem qb_arr (hG : marks (V m c main_v22)) {q' : Fin 64 → EReal} (tq : tiles (V m c main_v10) q')
    (real : ∀ r j, ∃ y : ℝ, cols 512 (by decide) (entryFeatures m c r) j = y) :
    (dats m 0 c).arrAt 8 cfg0.N = fun i : S16384x512.Idx => qAt m c q' (i 0) (i 1) := by
  refine (dats m 0 c).arrAt_eq_of_covers 8 _ (by decide +kernel) fun t hf y => ?_
  blk_simp
  rw [after0_8, out8_eq]
  refine (Eq.trans (congrArg _ ?_) (qb_apply _ _ _ _ _ (y 0) (by rw [whole6]; exact hG) (by rw [whole4]; exact tq)
    (fun j => by rw [blockFeatures_eq]; exact real _ j) (y 1))).trans ?_
  · funext d; fin_cases d <;> rfl
  · rw [blockFeatures_eq]
    show qAt m c q' _ _ = qAt m c q' _ _
    refine congr (congrArg (qAt m c q') (Fin.ext ?_)) (Fin.ext ?_)
    · unfold rowAt
      blk_simp [project_idx t]
    · blk_simp [project_idx t]

/-- The keys' array, the positions along the last axis. -/
theorem k_arr (hG : marks (V m c main_v22)) {k' : Fin 64 → EReal} (tk : tiles (V m c main_v14) k')
    (real : ∀ r j, ∃ y : ℝ, cols 1024 (by decide) (entryFeatures m c r) j = y) :
    (dats m 0 c).arrAt 9 cfg0.N = fun i : S4x512x4096.Idx => kAt m c k' (rowIx (i 0) (i 2)) (i 1) := by
  refine (dats m 0 c).arrAt_eq_of_covers 9 _ (by decide +kernel) fun t hf y => ?_
  blk_simp
  rw [after0_9, out9_eq]
  refine (Eq.trans (congrArg _ ?_) (kT_apply _ _ _ _ _ (y 2) (by rw [whole6]; exact hG) (by rw [whole5]; exact tk)
    (fun j => by rw [blockFeatures_eq]; exact real _ j) (y 1))).trans ?_
  · funext d; fin_cases d
    · exact Subsingleton.elim (α := Fin 1) _ _
    · rfl
    · rfl
  · rw [blockFeatures_eq]
    refine congr (congrArg (kAt m c k') (Fin.ext ?_)) (Fin.ext ?_)
    · unfold rowAt rowIx
      blk_simp [project_idx t]
      show (grid0.coords t 0).val * 512 + (y 2).val = (grid0.coords t 0).val / 8 * 4096 + ((grid0.coords t 0).val % 8 * 512 + (y 2).val)
      omega
    · blk_simp [project_idx t]

/-- The keys' array, row by row. -/
theorem kb_arr (hG : marks (V m c main_v22)) {k' : Fin 64 → EReal} (tk : tiles (V m c main_v14) k')
    (real : ∀ r j, ∃ y : ℝ, cols 1024 (by decide) (entryFeatures m c r) j = y) :
    (dats m 0 c).arrAt 10 cfg0.N = fun i : S16384x512.Idx => kAt m c k' (i 0) (i 1) := by
  refine (dats m 0 c).arrAt_eq_of_covers 10 _ (by decide +kernel) fun t hf y => ?_
  blk_simp
  rw [after0_10, out10_eq]
  refine (Eq.trans (congrArg _ ?_) (kb_apply _ _ _ _ _ (y 0) (by rw [whole6]; exact hG) (by rw [whole5]; exact tk)
    (fun j => by rw [blockFeatures_eq]; exact real _ j) (y 1))).trans ?_
  · funext d; fin_cases d <;> rfl
  · rw [blockFeatures_eq]
    refine congr (congrArg (kAt m c k') (Fin.ext ?_)) (Fin.ext ?_)
    · unfold rowAt
      blk_simp [project_idx t]
    · blk_simp [project_idx t]

/-- The log forget gates' array. -/
theorem gates_arr {b : Fin 8 → EReal} (hb : ∀ h : Fin 8, V m c main_v6 (ix2 0 ⟨h.val, by omega⟩) = b h) :
    (dats m 0 c).arrAt 13 cfg0.N = fun i : S16384x8.Idx => gatesAt m c b (i 0) (i 1) := by
  refine (dats m 0 c).arrAt_eq_of_covers 13 _ (by decide +kernel) fun t hf y => ?_
  blk_simp
  rw [after0_13, out13_eq]
  refine (Eq.trans (congrArg _ ?_) (gates_apply _ _ _ _ (y 0) (b := b) (fun h => by rw [whole3]; exact hb h) (y 1))).trans ?_
  · funext d; fin_cases d <;> rfl
  · rw [blockFeatures_eq]
    show gatesAt m c b _ _ = gatesAt m c b _ _
    refine congr (congrArg (gatesAt m c b) (Fin.ext ?_)) (Fin.ext ?_)
    · unfold rowAt
      blk_simp [project_idx t]
    · blk_simp [project_idx t]

end Cert.Layer.Project

end
-- ==== Proof.ProjectEntry.lean ====
/-
  What the host prepares for the projection, at one index.
-/
module

public import proofs.«01_k».proof.Proof.ProjectArrays

@[expose] public section

set_option maxRecDepth 16384
set_option backward.isDefEq.respectTransparency.types false

noncomputable section

namespace Cert.Layer.Project

open Idealize.ShloMosaic Idealize.ShloMosaic.TcCoe Idealize.SL.Sem Idealize.ShloMosaic.Tactic
open Cert.Kernel3Ideal Cert.Kernel3Ideal.Gen

variable (m : (ℓ : Loc nD τ sig) → Buf (Elt Ideal) ℓ) (c : Dev nD)

/-- The host's preparation of the matrix: its first columns, and zeros. -/
def hostW (w : FVec Ideal S1024x4104 .f32) : FVec Ideal S1024x2176 .bf16 :=
  truncf .bf16 (concatenate S1024x2176 1 [⟨S1024x2056, extractStridedSlice S1024x2056 ![0, 0] w slices_S1024x4104_S1024x2056_0_0⟩,
    ⟨S1024x120, broadcastInDim S1024x120 ![] bcast_S_S1024x120 (constant S_ .f32 0x00000000#32)⟩] concatenates_S1024x2056_S1024x120_S1024x2176_d1) bitsLt_bf16_f32

/-- The host's preparation of the forget gates' bias. -/
def hostB (b : FVec Ideal S8 .f32) : FVec Ideal S1x128 .f32 :=
  shapeCast S1x128 (concatenate S128 0 [⟨S8, b⟩, ⟨S120, broadcastInDim S120 ![] bcast_S_S120 (constant S_ .f32 0x00000000#32)⟩] concatenates_S8_S120_S128_d0) shapeCasts_S128_S1x128

/-- The host's preparation of a head's weights. -/
def hostTile (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512

/-- The host's preparation of the norm's weights. -/
def hostG (g : FVec Ideal S1024 .f32) : FVec Ideal S1x1024 .f32 := shapeCast S1x1024 g shapeCasts_S1024_S1x1024

/-- The host's preparation of the rows. -/
def hostX (x : FVec Ideal S4x4096x1024 .f32) : FVec Ideal S16384x1024 .f32 :=
  shapeCast S16384x1024 x shapeCasts_S4x4096x1024_S16384x1024

/-- The features' numbers. -/
def lanes : IVec S512 32 := iotaInDim S512 32 0

/-- A constant at every feature. -/
def every (n : BitVec 32) : IVec S512 32 := broadcastInDim S512 ![] bcast_S_S512 (constantI S_ 32 n)

/-- The numbers of the features' heads. -/
def heads : IVec S512 32 :=
  select (andi (cmpi .ne (signi lanes) (broadcastInDim S512 ![] bcast_S_S512 (signi (constantI S_ 32 64#32))))
      (cmpi .ne (Host.remsi lanes (every 64#32)) (every 0#32)))
    (subi (Host.divsi lanes (every 64#32)) (every 1#32)) (Host.divsi lanes (every 64#32))

/-- The matrix that marks the features of one head. -/
def hostMarks : FVec Ideal S512x512 .bf16 :=
  uitofp .bf16 (cmpi .eq (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem e_v3 : V m c main_v3 = hostW (m ((c : Thread nD τ).loc main_arg2)) := by
  dsimp only [V, V0, hostOps0, hostOps0_1, hostOps0_2, List.flatten, List.append]
  after_results
  try rfl

theorem e_v6 : V m c main_v6 = hostB (m ((c : Thread nD τ).loc main_arg3)) := by
  dsimp only [V, V0, hostOps0, hostOps0_1, hostOps0_2, List.flatten, List.append]
  after_results
  try rfl

theorem e_v10 : V m c main_v10 = hostTile (m ((c : Thread nD τ).loc main_arg4)) := by
  dsimp only [V, V0, hostOps0, hostOps0_1, hostOps0_2, List.flatten, List.append]
  after_results
  try rfl

theorem e_v14 : V m c main_v14 = hostTile (m ((c : Thread nD τ).loc main_arg5)) := by
  dsimp only [V, V0, hostOps0, hostOps0_1, hostOps0_2, List.flatten, List.append]
  after_results
  try rfl

theorem e_v22 : V m c main_v22 = hostMarks := by
  dsimp only [V, V0, hostOps0, hostOps0_1, hostOps0_2, List.flatten, List.append]
  after_results
  try rfl

theorem e_v23 : V m c main_v23 = hostX (m ((c : Thread nD τ).loc main_arg0)) := by
  dsimp only [V, V0, hostOps0, hostOps0_1, hostOps0_2, List.flatten, List.append]
  after_results
  try rfl

theorem e_v24 : V m c main_v24 = hostG (m ((c : Thread nD τ).loc main_arg1)) := by
  dsimp only [V, V0, hostOps0, hostOps0_1, hostOps0_2, List.flatten, List.append]
  after_results
  try rfl

theorem hostW_apply (w : FVec Ideal S1024x4104 .f32) (i : Fin 1024) (j : Fin 2056) :
    hostW w (ix2 i ⟨j.val, by omega⟩) = w (ix2 i ⟨j.val, by omega⟩) := by
  pointwise [hostW]

theorem hostB_apply (b : FVec Ideal S8 .f32) (h : Fin 8) : hostB b (ix2 0 ⟨h.val, by omega⟩) = b (ix1 h) := by
  pointwise [hostB]

theorem hostTile_apply (g : FVec Ideal S64 .f32) : tiles (hostTile g) fun l => g (ix1 l) := fun j => by
  pointwise [hostTile]
  rfl

theorem hostG_apply (g : FVec Ideal S1024 .f32) (j : Fin 1024) : hostG g (ix2 0 j) = g (ix1 j) := by
  pointwise [hostG]

theorem hostX_apply (x : FVec Ideal S4x4096x1024 .f32) (r : Fin 16384) (j : Fin 1024) :
    hostX x (ix2 r j) = x (ix3 (batchOf r) (posOf r) j) := by
  pointwise [hostX, batchOf, posOf]

theorem heads_apply (j : Fin 512) : heads (ix1 j) = BitVec.ofNat 32 (j.val / 64) := by
  pointwise [heads, lanes, every]
  revert j
  decide +kernel

theorem heads_same : ∀ a b : Fin 8, IntOp.cmpi CmpIPredicate.eq (BitVec.ofNat 32 a.val) (BitVec.ofNat 32 b.val)
    = if a = b then 1#1 else 0#1 := by
  decide +kernel

theorem marks_apply : marks hostMarks := fun i j => by
  pointwise [hostMarks]
  simp only [heads_apply]
  refine (congrArg (FloatOps.uitofp (F := Ideal) FTy.bf16) (heads_same (headIdx i) (headIdx j))).trans ?_
  split
  · show ((((1#1 : BitVec 1).toNat : ℕ) : ℝ) : EReal) = 1
    simp
  · show ((((0#1 : BitVec 1).toNat : ℕ) : ℝ) : EReal) = 0
    simp

/-- The features of a row, from the arguments. -/
def argFeatures (x : S4x4096x1024.Idx → EReal) (g : S1024.Idx → EReal) (w : S1024x4104.Idx → EReal) (b : Fin 4) (s : Fin 4096) :
    Fin 4104 → EReal := features (fun j => g (ix1 j)) (fun i j => w (ix2 i j)) (fun j => x (ix3 b s j))

/-- The features of a row, from the arrays the call takes, are those from the arguments. -/
theorem entry_features (r : Fin 16384) (j : Fin 2056) : entryFeatures m c r ⟨j.val, by omega⟩
    = argFeatures (m ((c : Thread nD τ).loc main_arg0)) (m ((c : Thread nD τ).loc main_arg1)) (m ((c : Thread nD τ).loc main_arg2))
      (batchOf r) (posOf r) ⟨j.val, by omega⟩ := by
  unfold entryFeatures argFeatures features
  rw [e_v3, e_v23, e_v24]
  simp only [hostW_apply, hostX_apply, hostG_apply]

theorem entry_cols (o : ℕ) (h : o + 512 ≤ 2056) (r : Fin 16384) : cols o (by omega) (entryFeatures m c r)
    = cols o (by omega) (argFeatures (m ((c : Thread nD τ).loc main_arg0)) (m ((c : Thread nD τ).loc main_arg1))
      (m ((c : Thread nD τ).loc main_arg2)) (batchOf r) (posOf r)) :=
  funext fun j => entry_features m c r ⟨o + j.val, by omega⟩

end Cert.Layer.Project

end
-- ==== Proof.ProjectRun.lean ====
/-
  The projection's run: its seven results, as functions of the arguments.
-/
module

public import proofs.«01_k».proof.Proof.ProjectEntry

@[expose] public section

set_option maxRecDepth 16384
set_option backward.isDefEq.respectTransparency.types false

noncomputable section

namespace Cert.Layer.Project

open Idealize.ShloMosaic Idealize.ShloMosaic.TcCoe Idealize.SL.Sem Idealize.ShloMosaic.Tactic
open Cert.Kernel3Ideal Cert.Kernel3Ideal.Gen

/-! ## The results -/

section
variable (x : S4x4096x1024.Idx → EReal) (g : S1024.Idx → EReal) (w : S1024x4104.Idx → EReal) (b : S8.Idx → EReal)
  (q k : S64.Idx → EReal)

/-- A head's weights by lane. -/
def lane (q : S64.Idx → EReal) (l : Fin 64) : EReal := q (ix1 l)

/-- The pooling inputs. -/
def uOf (i : S16384x512.Idx) : EReal := cols 0 (by decide) (argFeatures x g w (batchOf (i 0)) (posOf (i 0))) (i 1)

/-- The queries, normed by head and scaled. -/
def qOf (i : S16384x512.Idx) : EReal :=
  headNormed (cols 512 (by decide) (argFeatures x g w (batchOf (i 0)) (posOf (i 0)))) (lane q) (i 1) * Ideal.ofBits FTy.f32 0x3E000000#32

/-- The keys, normed by head, row by row. -/
def kRowOf (i : S16384x512.Idx) : EReal :=
  headNormed (cols 1024 (by decide) (argFeatures x g w (batchOf (i 0)) (posOf (i 0)))) (lane k) (i 1)

/-- The keys, normed by head. -/
def kOf (i : S4x4096x8x64.Idx) : EReal :=
  headNormed (cols 1024 (by decide) (argFeatures x g w (i 0) (i 1))) (lane k) (headFeat (i 2) (i 3))

/-- The values. -/
def vOf (i : S4x4096x8x64.Idx) : EReal := cols 1536 (by decide) (argFeatures x g w (i 0) (i 1)) (headFeat (i 2) (i 3))

/-- The values, the positions last. -/
def vColOf (i : S4x512x4096.Idx) : EReal := cols 1536 (by decide) (argFeatures x g w (i 0) (i 2)) (i 1)

/-- The log forget gates. -/
def gatesOf (i : S4x4096x8.Idx) : EReal := gates (by decide) (argFeatures x g w (i 0) (i 1)) (fun h => b (ix1 h)) (i 2)
end

/-! ## The host's operations after the call -/

/-- Columns to heads, the positions in front. -/
def byHead (f : FVec Ideal S4x512x4096 .f32) : FVec Ideal S4x4096x8x64 .f32 :=
  transpose S4x4096x8x64 [0, 3, 1, 2] (shapeCast S4x8x64x4096 f shapeCasts_S4x512x4096_S4x8x64x4096) transposes_S4x8x64x4096_S4x4096x8x64_0_3_1_2

/-- Rows to batches and positions. -/
def byBatch (f : FVec Ideal S16384x8 .f32) : FVec Ideal S4x4096x8 .f32 := shapeCast S4x4096x8 f shapeCasts_S16384x8_S4x4096x8

theorem byHead_apply (f : FVec Ideal S4x512x4096 .f32) (b : Fin 4) (s : Fin 4096) (h : Fin 8) (l : Fin 64) :
    byHead f (ix4 b s h l) = f (ix3 b (headFeat h l) s) := by
  pointwise [byHead]
  refine congrArg (fun j => f (ix3 b j s)) (Fin.ext ?_)
  show h.val * 64 + l.val = 64 * h.val + l.val
  omega

theorem byBatch_apply (f : FVec Ideal S16384x8 .f32) (b : Fin 4) (s : Fin 4096) (h : Fin 8) :
    byBatch f (ix3 b s h) = f (ix2 (rowIx b s) h) := by
  pointwise [byBatch]
  rfl

theorem batchOf_rowIx (b : Fin 4) (s : Fin 4096) : batchOf (rowIx b s) = b := Fin.ext (by simp only [batchOf, rowIx]; omega)

theorem posOf_rowIx (b : Fin 4) (s : Fin 4096) : posOf (rowIx b s) = s := Fin.ext (by simp only [posOf, rowIx]; omega)

variable (m : (ℓ : Loc nD τ sig) → Buf (Elt Ideal) ℓ) (c : Dev nD)

/-- A window's array, when the call has ended. -/
theorem after_arr (w : Fin cfg0.W) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr spec0 (by decide +kernel) c (V0 m c) _ w

theorem tail_k : Pipeline.afterTail₀ cfgs (dats m) 0 (V0 m) [hostOps1] c main_v27 = byHead ((dats m 0 c).arrAt 9 cfg0.N) := by
  unfold Pipeline.afterTail₀
  dsimp only [hostOps1, List.flatten, List.append]
  after_results
  exact congrArg byHead (after_arr m c 9)

theorem tail_v : Pipeline.afterTail₀ cfgs (dats m) 0 (V0 m) [hostOps1] c main_v29 = byHead ((dats m 0 c).arrAt 11 cfg0.N) := by
  unfold Pipeline.afterTail₀
  dsimp only [hostOps1, List.flatten, List.append]
  after_results
  exact congrArg byHead (after_arr m c 11)

theorem tail_gates : Pipeline.afterTail₀ cfgs (dats m) 0 (V0 m) [hostOps1] c main_v30 = byBatch ((dats m 0 c).arrAt 13 cfg0.N) := by
  unfold Pipeline.afterTail₀
  dsimp only [hostOps1, List.flatten, List.append]
  after_results
  exact congrArg byBatch (after_arr m c 13)

/-! ## The seven results -/

/-- The features of the rows, from the arguments of a run. -/
def runFeatures (b : Fin 4) (s : Fin 4096) : Fin 4104 → EReal :=
  argFeatures (m ((c : Thread nD τ).loc main_arg0)) (m ((c : Thread nD τ).loc main_arg1)) (m ((c : Thread nD τ).loc main_arg2)) b s

theorem run_cols (o : ℕ) (h : o + 512 ≤ 2056) (r : Fin 16384) : cols o (by omega) (entryFeatures m c r)
    = cols o (by omega) (runFeatures m c (batchOf r) (posOf r)) := entry_cols m c o h r

theorem run_real (real : ∀ b s j, ∃ y : ℝ, runFeatures m c b s j = y) (o : ℕ) (h : o + 512 ≤ 2056) (r : Fin 16384) (j : Fin 512) :
    ∃ y : ℝ, cols o (by omega) (entryFeatures m c r) j = y := by
  rw [run_cols m c o h]
  exact real _ _ _

theorem marks_run : marks (V m c main_v22) := by rw [e_v22]; exact marks_apply

theorem tiles_q : tiles (V m c main_v10) (lane (m ((c : Thread nD τ).loc main_arg4))) := by rw [e_v10]; exact hostTile_apply _

theorem tiles_k : tiles (V m c main_v14) (lane (m ((c : Thread nD τ).loc main_arg5))) := by rw [e_v14]; exact hostTile_apply _

theorem bias_run (h : Fin 8) : V m c main_v6 (ix2 0 ⟨h.val, by omega⟩) = m ((c : Thread nD τ).loc main_arg3) (ix1 h) := by
  rw [e_v6]; exact hostB_apply _ h

theorem k_at (k' : Fin 64 → EReal) (r : Fin 16384) (j : Fin 512) :
    kAt m c k' r j = headNormed (cols 1024 (by decide) (runFeatures m c (batchOf r) (posOf r))) k' j := by
  unfold kAt
  rw [run_cols m c 1024 (by decide)]

theorem v_at (r : Fin 16384) (j : Fin 512) :
    vAt m c r j = cols 1536 (by decide) (runFeatures m c (batchOf r) (posOf r)) j := by
  unfold vAt
  rw [run_cols m c 1536 (by decide)]

theorem u_run : (dats m 0 c).arrAt 7 cfg0.N
    = uOf (m ((c : Thread nD τ).loc main_arg0)) (m ((c : Thread nD τ).loc main_arg1)) (m ((c : Thread nD τ).loc main_arg2)) := by
  rw [u_arr]
  funext i
  exact congrFun (run_cols m c 0 (by decide) (i 0)) (i 1)

theorem vCol_run : (dats m 0 c).arrAt 12 cfg0.N
    = vColOf (m ((c : Thread nD τ).loc main_arg0)) (m ((c : Thread nD τ).loc main_arg1)) (m ((c : Thread nD τ).loc main_arg2)) := by
  rw [vb_arr]
  funext i
  refine (v_at m c (rowIx (i 0) (i 2)) (i 1)).trans ?_
  rw [batchOf_rowIx, posOf_rowIx]
  rfl

theorem v_run : byHead ((dats m 0 c).arrAt 11 cfg0.N)
    = vOf (m ((c : Thread nD τ).loc main_arg0)) (m ((c : Thread nD τ).loc main_arg1)) (m ((c : Thread nD τ).loc main_arg2)) := by
  rw [v_arr]
  funext i
  refine (Eq.trans (congrArg _ ?_) (byHead_apply _ (i 0) (i 1) (i 2) (i 3))).trans
    ((v_at m c (rowIx (i 0) (i 1)) (headFeat (i 2) (i 3))).trans ?_)
  · funext d; fin_cases d <;> rfl
  · rw [batchOf_rowIx, posOf_rowIx]
    rfl

theorem gates_run : byBatch ((dats m 0 c).arrAt 13 cfg0.N)
    = gatesOf (m ((c : Thread nD τ).loc main_arg0)) (m ((c : Thread nD τ).loc main_arg1)) (m ((c : Thread nD τ).loc main_arg2))
      (m ((c : Thread nD τ).loc main_arg3)) := by
  rw [gates_arr m c (bias_run m c)]
  funext i
  refine (Eq.trans (congrArg _ ?_) (byBatch_apply _ (i 0) (i 1) (i 2))).trans
    (Eq.trans (b := gatesAt m c (fun h => m ((c : Thread nD τ).loc main_arg3) (ix1 h)) (rowIx (i 0) (i 1)) (i 2)) rfl ?_)
  · funext d; fin_cases d <;> rfl
  · refine congrArg (fun f => logSigmoid (f + m ((c : Thread nD τ).loc main_arg3) (ix1 (i 2))))
      ((entry_features m c (rowIx (i 0) (i 1)) ⟨2048 + (i 2).val, by have : (i 2).val < 8 := (i 2).isLt; omega⟩).trans ?_)
    rw [batchOf_rowIx, posOf_rowIx]

variable (real : ∀ b s j, ∃ y : ℝ, runFeatures m c b s j = y)
include real

theorem q_run : (dats m 0 c).arrAt 8 cfg0.N
    = qOf (m ((c : Thread nD τ).loc main_arg0)) (m ((c : Thread nD τ).loc main_arg1)) (m ((c : Thread nD τ).loc main_arg2))
      (m ((c : Thread nD τ).loc main_arg4)) := by
  rw [qb_arr m c (marks_run m c) (tiles_q m c) (run_real m c real 512 (by decide))]
  funext i
  show qAt m c _ (i 0) (i 1) = _
  unfold qAt
  rw [run_cols m c 512 (by decide)]
  rfl

theorem kRow_run : (dats m 0 c).arrAt 10 cfg0.N
    = kRowOf (m ((c : Thread nD τ).loc main_arg0)) (m ((c : Thread nD τ).loc main_arg1)) (m ((c : Thread nD τ).loc main_arg2))
      (m ((c : Thread nD τ).loc main_arg5)) := by
  rw [kb_arr m c (marks_run m c) (tiles_k m c) (run_real m c real 1024 (by decide))]
  funext i
  exact k_at m c _ (i 0) (i 1)

theorem k_run : byHead ((dats m 0 c).arrAt 9 cfg0.N)
    = kOf (m ((c : Thread nD τ).loc main_arg0)) (m ((c : Thread nD τ).loc main_arg1)) (m ((c : Thread nD τ).loc main_arg2))
      (m ((c : Thread nD τ).loc main_arg5)) := by
  rw [k_arr m c (marks_run m c) (tiles_k m c) (run_real m c real 1024 (by decide))]
  funext i
  refine (Eq.trans (congrArg _ ?_) (byHead_apply _ (i 0) (i 1) (i 2) (i 3))).trans
    ((k_at m c _ (rowIx (i 0) (i 1)) (headFeat (i 2) (i 3))).trans ?_)
  · funext d; fin_cases d <;> rfl
  · rw [batchOf_rowIx, posOf_rowIx]
    rfl

omit real

/-- The run, with the values of the seven results. -/
theorem project_run (ρ : Dev nD → PrngReg) (real : ∀ c b s j, ∃ y : ℝ, runFeatures m c b s j = y) :
    θ_run defs (onTc (τ := τ) (main (F := Ideal))) ⟨m, fun _ => 0, ρ⟩ (fun r => ∀ c : Dev nD,
      r.2.mem ((c.tc : Thread nD τ).loc main_v25_0)
        = uOf (m ((c : Thread nD τ).loc main_arg0)) (m ((c : Thread nD τ).loc main_arg1)) (m ((c : Thread nD τ).loc main_arg2))
      ∧ r.2.mem ((c.tc : Thread nD τ).loc main_v25_1)
        = qOf (m ((c : Thread nD τ).loc main_arg0)) (m ((c : Thread nD τ).loc main_arg1)) (m ((c : Thread nD τ).loc main_arg2))
          (m ((c : Thread nD τ).loc main_arg4))
      ∧ r.2.mem ((c.tc : Thread nD τ).loc main_v27)
        = kOf (m ((c : Thread nD τ).loc main_arg0)) (m ((c : Thread nD τ).loc main_arg1)) (m ((c : Thread nD τ).loc main_arg2))
          (m ((c : Thread nD τ).loc main_arg5))
      ∧ r.2.mem ((c.tc : Thread nD τ).loc main_v25_3)
        = kRowOf (m ((c : Thread nD τ).loc main_arg0)) (m ((c : Thread nD τ).loc main_arg1)) (m ((c : Thread nD τ).loc main_arg2))
          (m ((c : Thread nD τ).loc main_arg5))
      ∧ r.2.mem ((c.tc : Thread nD τ).loc main_v29)
        = vOf (m ((c : Thread nD τ).loc main_arg0)) (m ((c : Thread nD τ).loc main_arg1)) (m ((c : Thread nD τ).loc main_arg2))
      ∧ r.2.mem ((c.tc : Thread nD τ).loc main_v25_5)
        = vColOf (m ((c : Thread nD τ).loc main_arg0)) (m ((c : Thread nD τ).loc main_arg1)) (m ((c : Thread nD τ).loc main_arg2))
      ∧ r.2.mem ((c.tc : Thread nD τ).loc main_v30)
        = gatesOf (m ((c : Thread nD τ).loc main_arg0)) (m ((c : Thread nD τ).loc main_arg1)) (m ((c : Thread nD τ).loc main_arg2))
          (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  have out := fun w => (h c).1 w
  have rest := fun b hb hn => (h c).2 b (Pipeline.mem_restRefs_of b hb hn)
  exact ⟨(out 7).trans (u_run m c), (out 8).trans (q_run m c (real c)),
    (rest main_v27 (by decide) (by decide)).trans ((tail_k m c).trans (k_run m c (real c))),
    (out 10).trans (kRow_run m c (real c)),
    (rest main_v29 (by decide) (by decide)).trans ((tail_v m c).trans (v_run m c)),
    (out 12).trans (vCol_run m c),
    (rest main_v30 (by decide) (by decide)).trans ((tail_gates m c).trans (gates_run m c)),
    (rest main_arg0 (by decide) (by decide)).trans (W_main_arg0 m (dats m) c),
    (rest main_arg1 (by decide) (by decide)).trans (W_main_arg1 m (dats m) c),
    (rest main_arg2 (by decide) (by decide)).trans (W_main_arg2 m (dats m) c),
    (rest main_arg3 (by decide) (by decide)).trans (W_main_arg3 m (dats m) c),
    (rest main_arg4 (by decide) (by decide)).trans (W_main_arg4 m (dats m) c),
    (rest main_arg5 (by decide) (by decide)).trans (W_main_arg5 m (dats m) c)⟩

end Cert.Layer.Project

end
-- ==== Proof.ProjectRef.lean ====
/-
  The projection's reference at one index.
-/
module

public import proofs.«01_k».proof.Proof.ProjectRun
public import proofs.«01_k».proof.Proof.MergeRef
public import proofs.«01_k».proof.Proof.Gen.Reference3Ideal.Run
public import proofs.«01_k».proof.Proof.Gen.Reference3Ideal

@[expose] public section

set_option maxRecDepth 16384
set_option backward.isDefEq.respectTransparency.types false

noncomputable section

namespace Cert.Layer.ProjectRef

open Idealize.ShloMosaic Idealize.ShloMosaic.TcCoe Idealize.SL.Sem Cert.Layer.Project
open Cert.Reference3Ideal Cert.Reference3Ideal.Gen

/-- 512 features of every row. -/
def slice (o : ℕ) (p : FVec Ideal S4x4096x4104 .f32) (h : Shape.Slices S4x4096x4104 ![0, 0, o] S4x4096x512) : FVec Ideal S4x4096x512 .f32 :=
  extractStridedSlice S4x4096x512 ![0, 0, o] p h

/-- Features by head. -/
def split (f : FVec Ideal S4x4096x512 .f32) : FVec Ideal S4x4096x8x64 .f32 := shapeCast _ f shapeCasts_S4x4096x512_S4x4096x8x64

/-- The norm of every head. -/
def headNorm (f : FVec Ideal S4x4096x8x64 .f32) (g : FVec Ideal S64 .f32) : FVec Ideal S4x4096x8x64 .f32 :=
  mulf (mulf f (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf f f) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))

/-- The queries' scale. -/
def scaled (f : FVec Ideal S4x4096x8x64 .f32) : FVec Ideal S4x4096x8x64 .f32 :=
  mulf f (broadcastInDim S4x4096x8x64 ![] bcast_S_S4x4096x8x64 (constant S_ .f32 0x3E000000#32))

/-- Heads side by side, rows of the batches below each other. -/
def joined (f : FVec Ideal S4x4096x8x64 .f32) : FVec Ideal S16384x512 .bf16 :=
  truncf .bf16 (shapeCast S16384x512 f shapeCasts_S4x4096x8x64_S16384x512) bitsLt_bf16_f32

/-- Rows of the batches below each other. -/
def below (f : FVec Ideal S4x4096x512 .f32) : FVec Ideal S16384x512 .f32 := shapeCast _ f shapeCasts_S4x4096x512_S16384x512

/-- The positions last. -/
def turned (f : FVec Ideal S4x4096x512 .f32) : FVec Ideal S4x512x4096 .bf16 :=
  truncf .bf16 (transpose S4x512x4096 [0, 2, 1] f transposes_S4x4096x512_S4x512x4096_0_2_1) bitsLt_bf16_f32

/-- A zero for every gate. -/
def zeros : FVec Ideal S4x4096x8 .f32 := broadcastInDim S4x4096x8 ![] bcast_S_S4x4096x8 (constant S_ .f32 0x00000000#32)

/-- The forget gates before their sigmoid, with the sign turned. -/
def minusForget (p : FVec Ideal S4x4096x4104 .f32) (b : FVec Ideal S8 .f32) : FVec Ideal S4x4096x8 .f32 :=
  Host.negf (addf (extractStridedSlice S4x4096x8 ![0, 0, 2048] p slices_S4x4096x4104_S4x4096x8_0_0_2048) (broadcastInDim S4x4096x8 ![0, 1, 2] bcast_S1x1x8_S4x4096x8_0_1_2 (broadcastInDim S1x1x8 ![2] bcast_S8_S1x1x8_2 b)))

/-- The logarithm of the sum of one and the exponential. -/
def softplus (z : FVec Ideal S4x4096x8 .f32) : FVec Ideal S4x4096x8 .f32 :=
  select (cmpf .une (subf z zeros) (subf z zeros)) (addf z zeros)
    (addf (maximumf z zeros) (Host.log1p (Host.exp (Host.negf (Host.absf (subf z zeros))))))

theorem slice_apply (o : ℕ) (ho : o + 512 ≤ 4104) (p : FVec Ideal S4x4096x4104 .f32) (h) (b : Fin 4) (s : Fin 4096) (j : Fin 512) :
    slice o p h (ix3 b s j) = cols o ho (fun j => p (ix3 b s j)) j := by
  pointwise [slice]
  rfl

theorem split_apply (f : FVec Ideal S4x4096x512 .f32) (b : Fin 4) (s : Fin 4096) (h : Fin 8) (l : Fin 64) :
    split f (ix4 b s h l) = f (ix3 b s (headFeat h l)) := by
  pointwise [split]
  refine congrArg (fun j => f (ix3 b s j)) (Fin.ext ?_)
  show h.val * 64 + l.val = 64 * h.val + l.val
  omega

theorem headNorm_apply (f : FVec Ideal S4x4096x8x64 .f32) (g : FVec Ideal S64 .f32) (b : Fin 4) (s : Fin 4096) (h : Fin 8) (l : Fin 64) :
    headNorm f g (ix4 b s h l) = f (ix4 b s h l) * Ideal.rsqrt (Ideal.div (∑ k, f (ix4 b s h k) * f (ix4 b s h k)) (Ideal.ofBits FTy.f32 0x42800000#32)
      + Ideal.ofBits FTy.f32 0x358637BD#32) * g (ix1 l) := by
  pointwise [headNorm]

theorem scaled_apply (f : FVec Ideal S4x4096x8x64 .f32) (b : Fin 4) (s : Fin 4096) (h : Fin 8) (l : Fin 64) :
    scaled f (ix4 b s h l) = f (ix4 b s h l) * Ideal.ofBits FTy.f32 0x3E000000#32 := by
  pointwise [scaled]

theorem joined_apply (f : FVec Ideal S4x4096x8x64 .f32) (r : Fin 16384) (j : Fin 512) :
    joined f (ix2 r j) = f (ix4 (batchOf r) (posOf r) (headIdx j) (laneIdx j)) := by
  pointwise [joined, batchOf, posOf, headIdx, laneIdx]

theorem below_apply (f : FVec Ideal S4x4096x512 .f32) (r : Fin 16384) (j : Fin 512) :
    below f (ix2 r j) = f (ix3 (batchOf r) (posOf r) j) := by
  pointwise [below, batchOf, posOf]

theorem turned_apply (f : FVec Ideal S4x4096x512 .f32) (b : Fin 4) (s : Fin 4096) (j : Fin 512) :
    turned f (ix3 b j s) = f (ix3 b s j) := by
  pointwise [turned]

theorem minusForget_apply (p : FVec Ideal S4x4096x4104 .f32) (v : FVec Ideal S8 .f32) (b : Fin 4) (s : Fin 4096) (h : Fin 8) :
    minusForget p v (ix3 b s h) = -(p (ix3 b s ⟨2048 + h.val, by omega⟩) + v (ix1 h)) := by
  pointwise [minusForget]

theorem softplus_apply (z : FVec Ideal S4x4096x8 .f32) (b : Fin 4) (s : Fin 4096) (h : Fin 8) :
    softplus z (ix3 b s h) = max (z (ix3 b s h)) 0
      + Ideal.log1p (Ideal.exp (-(max (z (ix3 b s h) - 0) (-(z (ix3 b s h) - 0))))) := by
  pointwise [softplus, zeros]
  rw [if_neg (not_not_intro rfl)]
  rfl

/-! ## The seven results -/

variable (x : FVec Ideal S4x4096x1024 .f32) (g : FVec Ideal S1024 .f32) (w : FVec Ideal S1024x4104 .f32) (v : FVec Ideal S8 .f32)
  (q k : FVec Ideal S64 .f32)

theorem projected_features (b : Fin 4) (s : Fin 4096) (j : Fin 4104) : Ref.projected x g w (ix3 b s j) = argFeatures x g w b s j := by
  rw [Ref.projected_apply]
  simp only [Ref.norm_apply]
  rfl

/-- 512 features of every row, from the arguments. -/
theorem slice_features (o : ℕ) (ho : o + 512 ≤ 4104) (h) (b : Fin 4) (s : Fin 4096) (j : Fin 512) :
    slice o (Ref.projected x g w) h (ix3 b s j) = cols o ho (argFeatures x g w b s) j :=
  (slice_apply o ho _ h b s j).trans (projected_features x g w b s _)

/-- The norm of every head, from the arguments. -/
theorem headNorm_features (o : ℕ) (ho : o + 512 ≤ 4104) (hs) (b : Fin 4) (s : Fin 4096) (h : Fin 8) (l : Fin 64) :
    headNorm (split (slice o (Ref.projected x g w) hs)) q (ix4 b s h l)
      = headNormed (cols o ho (argFeatures x g w b s)) (lane q) (headFeat h l) := by
  have eh : headIdx (headFeat h l) = h := Fin.ext (by show (64 * h.val + l.val) / 64 = h.val; omega)
  have el : laneIdx (headFeat h l) = l := Fin.ext (by show (64 * h.val + l.val) % 64 = l.val; omega)
  rw [headNorm_apply]
  simp only [split_apply, slice_features x g w o ho]
  unfold headNormed headScale lane
  rw [eh, el]

theorem headFeat_idx (j : Fin 512) : headFeat (headIdx j) (laneIdx j) = j :=
  Fin.ext (by show 64 * (j.val / 64) + j.val % 64 = j.val; omega)

theorem u_ref (h) : below (slice 0 (Ref.projected x g w) h) = uOf x g w := by
  funext i
  refine (Eq.trans (congrArg _ ?_) (below_apply _ (i 0) (i 1))).trans (slice_features x g w 0 (by decide) h _ _ _)
  funext d; fin_cases d <;> rfl

theorem q_ref (h) : joined (scaled (headNorm (split (slice 512 (Ref.projected x g w) h)) q)) = qOf x g w q := by
  funext i
  refine (Eq.trans (congrArg _ ?_) (joined_apply _ (i 0) (i 1))).trans ((scaled_apply _ _ _ _ _).trans ?_)
  · funext d; fin_cases d <;> rfl
  · rw [headNorm_features x g w q 512 (by decide), headFeat_idx]
    rfl

theorem k_ref (h) : headNorm (split (slice 1024 (Ref.projected x g w) h)) k = kOf x g w k := by
  funext i
  refine (Eq.trans (congrArg _ ?_) (headNorm_features x g w k 1024 (by decide) h (i 0) (i 1) (i 2) (i 3)))
  funext d; fin_cases d <;> rfl

theorem kRow_ref (h) : joined (headNorm (split (slice 1024 (Ref.projected x g w) h)) k) = kRowOf x g w k := by
  funext i
  refine (Eq.trans (congrArg _ ?_) (joined_apply _ (i 0) (i 1))).trans ?_
  · funext d; fin_cases d <;> rfl
  · rw [headNorm_features x g w k 1024 (by decide), headFeat_idx]
    rfl

theorem v_ref (h) : split (slice 1536 (Ref.projected x g w) h) = vOf x g w := by
  funext i
  refine (Eq.trans (congrArg _ ?_) (split_apply _ (i 0) (i 1) (i 2) (i 3))).trans (slice_features x g w 1536 (by decide) h _ _ _)
  funext d; fin_cases d <;> rfl

theorem vCol_ref (h) : turned (slice 1536 (Ref.projected x g w) h) = vColOf x g w := by
  funext i
  refine (Eq.trans (congrArg _ ?_) (turned_apply _ (i 0) (i 2) (i 1))).trans (slice_features x g w 1536 (by decide) h _ _ _)
  funext d; fin_cases d <;> rfl

theorem gates_ref : Host.negf (softplus (minusForget (Ref.projected x g w) v)) = gatesOf x g w v := by
  funext i
  refine Eq.trans (b := -(softplus (minusForget (Ref.projected x g w) v) (ix3 (i 0) (i 1) (i 2)))) ?_ ?_
  · exact congrArg (fun i => -(softplus (minusForget (Ref.projected x g w) v) i)) (by funext d; fin_cases d <;> rfl)
  · rw [softplus_apply, minusForget_apply, projected_features]
    exact softplus_eq _

end Cert.Layer.ProjectRef

end
-- ==== Proof.ProjectValue.lean ====
/-
  The projection's certificate: the kernel and the reference end with the same seven results.
-/
module

public import proofs.«01_k».proof.Defs
public import proofs.«01_k».proof.Proof.ProjectRef
public import proofs.«01_k».proof.Proof.Finite

@[expose] public section

set_option backward.isDefEq.respectTransparency.types false

noncomputable section

namespace Cert.Layer

open Idealize.ShloMosaic Idealize.SL.Sem Cert.Finite

/-- The reference's run, as the claims state it. -/
theorem project_ref_frame : Cert.quiescent_Reference3Ideal (hReference3Ideal := Cert.Reference3Ideal.Gen.facts) := fun m g _ =>
  (θ_run _ _ _).mono (fun _ h => ⟨fun c => (h c).2.2.2.2.2.2.2, Idealize.ShloMosaic.sem_eq_zero_of_no_sems (by decide) _⟩) (Cert.Reference3Ideal.Value.run m g)

section
open Cert.Reference3Ideal Cert.Reference3Ideal.Gen Idealize.ShloMosaic.TcCoe

variable (m : (ℓ : Loc nD τ sig) → Buf (Elt Ideal) ℓ) (c : Dev nD)

theorem gates_eq : Value.res_main_v48 m c = Host.negf (ProjectRef.softplus (ProjectRef.minusForget
    (Ref.projected (m ((c.tc : Thread nD τ).loc main_arg0)) (m ((c.tc : Thread nD τ).loc main_arg1)) (m ((c.tc : Thread nD τ).loc main_arg2)))
    (m ((c.tc : Thread nD τ).loc main_arg3)))) := rfl
end

theorem project_value : Cert.algebraic_Kernel3Ideal_Reference3Ideal_pre_finite_rows (hKernel3Ideal := Cert.Kernel3Ideal.Gen.facts)
    (hReference3Ideal := Cert.Reference3Ideal.Gen.facts) (hPre_finite_rows := rows_facts) := by
  intro m g m' g' pre agree
  have fin := fun c => finite_rows _ _ _ _ _ _ (pre c)
  have real : ∀ c b s j, ∃ y : ℝ, Project.runFeatures m c b s j = y := fun c b s j =>
    features_real (fun i => (fin c).2.1 (ix1 i)) (fun i j => (fin c).2.2 (ix2 i j)) (fun i => (fin c).1 (ix3 b s i)) j
  refine ⟨fun c => _, fun c => _, fun c => _, fun c => _, fun c => _, fun c => _, fun c => _, Project.project_run m g real, ?_⟩
  refine (θ_run _ _ _).mono (fun r h c => ?_) (Cert.Reference3Ideal.Value.run m' g')
  obtain ⟨e0, e1, e2, e3, e4, e5⟩ := agree c
  obtain ⟨h0, h1, h2, h3, h4, h5, h6, rest⟩ := h c
  refine ⟨h0.trans ?_, h1.trans ?_, h2.trans ?_, h3.trans ?_, h4.trans ?_, h5.trans ?_, h6.trans ?_, rest⟩
  · rw [e0, e1, e2]
    exact ProjectRef.u_ref _ _ _ _
  · rw [e0, e1, e2, e4]
    exact ProjectRef.q_ref _ _ _ _ _
  · rw [e0, e1, e2, e5]
    exact ProjectRef.k_ref _ _ _ _ _
  · rw [e0, e1, e2, e5]
    exact ProjectRef.kRow_ref _ _ _ _ _
  · rw [e0, e1, e2]
    exact ProjectRef.v_ref _ _ _ _
  · rw [e0, e1, e2]
    exact ProjectRef.vCol_ref _ _ _ _
  · rw [gates_eq, e0, e1, e2, e3]
    exact ProjectRef.gates_ref _ _ _ _

end Cert.Layer

end
-- ==== Proof.SamplePayloads.lean ====
/-
  The samples' projection: the blocks its body leaves are those of the prompt's, but for the transposes of the keys and
  the values, which it does not make.
-/
module

public import proofs.«01_k».proof.Proof.ProjectPayloads
public import proofs.«01_k».proof.Proof.Gen.Kernel4Ideal.Frame
public import proofs.«01_k».proof.Proof.Gen.Kernel4Ideal

@[expose] public section

set_option maxRecDepth 16384
set_option backward.isDefEq.respectTransparency.types false

noncomputable section

namespace Cert.Layer.Sample

open Idealize.ShloMosaic Idealize.ShloMosaic.TcCoe Idealize.SL.Sem Idealize.ShloMosaic.Tactic Cert.Layer.Project
open Cert.Kernel4Ideal Cert.Kernel4Ideal.Gen

variable (x : Vec Ideal S512x1024 .f32) (g : Vec Ideal S1x1024 .f32) (w : Vec Ideal S1024x2176 .bf16)
  (bf : Vec Ideal S1x128 .f32) (qg kg : Vec Ideal S1x512 .f32) (G : Vec Ideal S512x512 .bf16)

/-- A load of a whole block reads it. -/
theorem ld0 {e : EltTy} (x : Vec Ideal S512x1024 e) : View.ld x r0_0 = x := View.ld_unit_lit _ _ (by decide)

theorem ld1 {e : EltTy} (x : Vec Ideal S1x1024 e) : View.ld x r0_1 = x := View.ld_unit_lit _ _ (by decide)

theorem ld2 {e : EltTy} (x : Vec Ideal S1024x2176 e) : View.ld x r0_2 = x := View.ld_unit_lit _ _ (by decide)

theorem ld3 {e : EltTy} (x : Vec Ideal S512x512 e) : View.ld x r0_3 = x := View.ld_unit_lit _ _ (by decide)

theorem ld4 {e : EltTy} (x : Vec Ideal S1x512 e) : View.ld x r0_4 = x := View.ld_unit_lit _ _ (by decide)

theorem ld5 {e : EltTy} (x : Vec Ideal S1x128 e) : View.ld x r0_5 = x := View.ld_unit_lit _ _ (by decide)

/-- The pooling inputs: the prompt's. -/
theorem out7_eq : out0_7 x g w bf qg kg G = Cert.Kernel3Ideal.Gen.k0_pay4 x g w := by
  unfold_out out0_7
  rw [View.canon_cons_unit_lit _ _ _ (by decide), ld0 x, ld1 g, ld2 w]
  rfl

/-- The queries: the prompt's. -/
theorem out8_eq : out0_8 x g w bf qg kg G = Cert.Kernel3Ideal.Gen.k0_pay11 (Cert.Kernel3Ideal.Gen.k0_pay9 x g w G) qg := by
  unfold_out out0_8
  rw [View.canon_cons_unit_lit _ _ _ (by decide), ld0 x, ld1 g, ld2 w, ld3 G, ld4 qg]
  rfl

/-- The keys: the prompt's before their transpose. -/
theorem out9_eq : out0_9 x g w bf qg kg G
    = Cert.Kernel3Ideal.Gen.k0_pay10 (Cert.Kernel3Ideal.Gen.k0_pay5 x g w) (Cert.Kernel3Ideal.Gen.k0_pay8 G) kg := by
  unfold_out out0_9
  rw [View.canon_cons_unit_lit _ _ _ (by decide), ld0 x, ld1 g, ld2 w, ld3 G, ld4 kg]
  rfl

/-- The values: the prompt's before their transpose. -/
theorem out11_eq : out0_11 x g w bf qg kg G = Cert.Kernel3Ideal.Gen.k0_pay6 x g w := by
  unfold_out out0_11
  rw [View.canon_cons_unit_lit _ _ _ (by decide), ld0 x, ld1 g, ld2 w]
  rfl

/-- The log forget gates: the prompt's. -/
theorem out13_eq : out0_13 x g w bf qg kg G = Cert.Kernel3Ideal.Gen.k0_pay2 (Cert.Kernel3Ideal.Gen.k0_pay7 x g w) bf := by
  unfold_out out0_13
  rw [View.canon_cons_unit_lit _ _ _ (by decide), ld0 x, ld1 g, ld2 w, ld5 bf]
  rfl

end Cert.Layer.Sample

end
-- ==== Proof.SampleArrays.lean ====
/-
  The arrays the samples' projection writes, from the arrays it is called with.
-/
module

public import proofs.«01_k».proof.Proof.SamplePayloads

@[expose] public section

set_option maxRecDepth 16384
set_option backward.isDefEq.respectTransparency.types false

noncomputable section

namespace Cert.Layer.Sample

open Idealize.ShloMosaic Idealize.ShloMosaic.TcCoe Idealize.SL.Sem Idealize.ShloMosaic.Tactic Cert.Layer.Project
open Cert.Kernel4Ideal Cert.Kernel4Ideal.Gen

variable (m : (ℓ : Loc nD τ sig) → Buf (Elt Ideal) ℓ) (c : Dev nD)

/-- The blocks of the windows, at every point of the grid. -/
theorem sample_idx : ∀ t : Fin cfg0.N, win0_0.index t = ![(grid0.coords t 0).val, 0]
    ∧ win0_1.index t = ![0, 0] ∧ win0_2.index t = ![0, 0] ∧ win0_3.index t = ![0, 0] ∧ win0_4.index t = ![0, 0]
    ∧ win0_5.index t = ![0, 0] ∧ win0_6.index t = ![0, 0]
    ∧ win0_7.index t = ![(grid0.coords t 0).val, 0]
    ∧ win0_8.index t = ![(grid0.coords t 0).val, 0]
    ∧ win0_9.index t = ![(grid0.coords t 0).val, 0]
    ∧ win0_11.index t = ![(grid0.coords t 0).val, 0]
    ∧ win0_13.index t = ![(grid0.coords t 0).val, 0] :=
  (by decide +kernel : ∀ t : Fin grid0.N, _)

theorem coord_lt : ∀ t : Fin cfg0.N, (grid0.coords t 0).val < 2 := (by decide +kernel : ∀ t : Fin grid0.N, _)

/-! ## The weights' blocks are the whole arrays -/

theorem whole1 (t : Fin cfg0.N) : iblk m c 1 t = V m c main_v24 := by
  funext y
  blk_simp [iblk, sample_idx t]
  blk_ext [sample_idx t]

theorem whole2 (t : Fin cfg0.N) : iblk m c 2 t = V m c main_v3 := by
  funext y
  blk_simp [iblk, sample_idx t]
  blk_ext [sample_idx t]

theorem whole3 (t : Fin cfg0.N) : iblk m c 3 t = V m c main_v6 := by
  funext y
  blk_simp [iblk, sample_idx t]
  blk_ext [sample_idx t]

theorem whole4 (t : Fin cfg0.N) : iblk m c 4 t = V m c main_v10 := by
  funext y
  blk_simp [iblk, sample_idx t]
  blk_ext [sample_idx t]

theorem whole5 (t : Fin cfg0.N) : iblk m c 5 t = V m c main_v14 := by
  funext y
  blk_simp [iblk, sample_idx t]
  blk_ext [sample_idx t]

theorem whole6 (t : Fin cfg0.N) : iblk m c 6 t = V m c main_v22 := by
  funext y
  blk_simp [iblk, sample_idx t]
  blk_ext [sample_idx t]

/-- A row's features, from the arrays the call takes. -/
def entryFeatures (r : Fin 1024) : Fin 2176 → EReal :=
  features (fun j => V m c main_v24 (ix2 0 j)) (fun i j => V m c main_v3 (ix2 i j)) (fun j => V m c main_v23 (ix2 r j))

/-- The row a point of the grid works on. -/
def rowAt (t : Fin cfg0.N) (r : Fin 512) : Fin 1024 := ⟨(grid0.coords t 0).val * 512 + r.val, by have := coord_lt t; omega⟩

theorem blockFeatures_eq (t : Fin cfg0.N) (r : Fin 512) :
    blockFeatures (iblk m c 0 t) (iblk m c 1 t) (iblk m c 2 t) r = entryFeatures m c (rowAt t r) := by
  rw [whole1, whole2]
  unfold blockFeatures entryFeatures
  refine congrArg (features _ _) (funext fun j => ?_)
  unfold rowAt
  blk_simp [iblk, sample_idx t]
  blk_ext [sample_idx t]

/-- The pooling inputs of a row. -/
def uAt (r : Fin 1024) (j : Fin 512) : EReal := cols 0 (by decide) (entryFeatures m c r) j

/-- The queries of a row, normed by head. -/
def qAt (q' : Fin 64 → EReal) (r : Fin 1024) (j : Fin 512) : EReal :=
  headNormed (cols 512 (by decide) (entryFeatures m c r)) q' j * Ideal.ofBits FTy.f32 0x3E000000#32

/-- The keys of a row, normed by head. -/
def kAt (k' : Fin 64 → EReal) (r : Fin 1024) (j : Fin 512) : EReal := headNormed (cols 1024 (by decide) (entryFeatures m c r)) k' j

/-- The values of a row. -/
def vAt (r : Fin 1024) (j : Fin 512) : EReal := cols 1536 (by decide) (entryFeatures m c r) j

/-- The log forget gates of a row. -/
def gatesAt (b : Fin 8 → EReal) (r : Fin 1024) (h : Fin 8) : EReal := gates (by decide) (entryFeatures m c r) b h

/-- The pooling inputs' array. -/
theorem u_arr : (dats m 0 c).arrAt 7 cfg0.N = fun i : S1024x512.Idx => uAt m c (i 0) (i 1) := by
  refine (dats m 0 c).arrAt_eq_of_covers 7 _ (by decide +kernel) fun t hf y => ?_
  blk_simp
  rw [after0_7, out7_eq]
  refine (Eq.trans (congrArg _ ?_) (u_apply _ _ _ (y 0) (y 1))).trans ?_
  · funext d; fin_cases d <;> rfl
  · rw [blockFeatures_eq]
    show uAt m c _ _ = uAt m c _ _
    refine congr (congrArg (uAt m c) (Fin.ext ?_)) (Fin.ext ?_)
    · unfold rowAt
      blk_simp [sample_idx t]
    · blk_simp [sample_idx t]

/-- The values' array. -/
theorem v_arr : (dats m 0 c).arrAt 11 cfg0.N = fun i : S1024x512.Idx => vAt m c (i 0) (i 1) := by
  refine (dats m 0 c).arrAt_eq_of_covers 11 _ (by decide +kernel) fun t hf y => ?_
  blk_simp
  rw [after0_11, out11_eq]
  refine (Eq.trans (congrArg _ ?_) (v_apply _ _ _ (y 0) (y 1))).trans ?_
  · funext d; fin_cases d <;> rfl
  · rw [blockFeatures_eq]
    show vAt m c _ _ = vAt m c _ _
    refine congr (congrArg (vAt m c) (Fin.ext ?_)) (Fin.ext ?_)
    · unfold rowAt
      blk_simp [sample_idx t]
    · blk_simp [sample_idx t]

/-- The queries' array. -/
theorem qb_arr (hG : marks (V m c main_v22)) {q' : Fin 64 → EReal} (tq : tiles (V m c main_v10) q')
    (real : ∀ r j, ∃ y : ℝ, cols 512 (by decide) (entryFeatures m c r) j = y) : (dats m 0 c).arrAt 8 cfg0.N = fun i : S1024x512.Idx => qAt m c q' (i 0) (i 1) := by
  refine (dats m 0 c).arrAt_eq_of_covers 8 _ (by decide +kernel) fun t hf y => ?_
  blk_simp
  rw [after0_8, out8_eq]
  refine (Eq.trans (congrArg _ ?_) (qb_apply _ _ _ _ _ (y 0) (by rw [whole6]; exact hG) (by rw [whole4]; exact tq)
    (fun j => by rw [blockFeatures_eq]; exact real _ j) (y 1))).trans ?_
  · funext d; fin_cases d <;> rfl
  · rw [blockFeatures_eq]
    show qAt m c q' _ _ = qAt m c q' _ _
    refine congr (congrArg (qAt m c q') (Fin.ext ?_)) (Fin.ext ?_)
    · unfold rowAt
      blk_simp [sample_idx t]
    · blk_simp [sample_idx t]

/-- The keys' array. -/
theorem k_arr (hG : marks (V m c main_v22)) {k' : Fin 64 → EReal} (tk : tiles (V m c main_v14) k')
    (real : ∀ r j, ∃ y : ℝ, cols 1024 (by decide) (entryFeatures m c r) j = y) : (dats m 0 c).arrAt 9 cfg0.N = fun i : S1024x512.Idx => kAt m c k' (i 0) (i 1) := by
  refine (dats m 0 c).arrAt_eq_of_covers 9 _ (by decide +kernel) fun t hf y => ?_
  blk_simp
  rw [after0_9, out9_eq]
  refine (Eq.trans (congrArg _ ?_) (k_normed _ _ _ _ _ (y 0) (by rw [whole6]; exact hG) (by rw [whole5]; exact tk)
    (fun j => by rw [blockFeatures_eq]; exact real _ j) (y 1))).trans ?_
  · funext d; fin_cases d <;> rfl
  · rw [blockFeatures_eq]
    show kAt m c k' _ _ = kAt m c k' _ _
    refine congr (congrArg (kAt m c k') (Fin.ext ?_)) (Fin.ext ?_)
    · unfold rowAt
      blk_simp [sample_idx t]
    · blk_simp [sample_idx t]

/-- The log forget gates' array. -/
theorem gates_arr {b : Fin 8 → EReal} (hb : ∀ h : Fin 8, V m c main_v6 (ix2 0 ⟨h.val, by omega⟩) = b h) : (dats m 0 c).arrAt 13 cfg0.N = fun i : S1024x8.Idx => gatesAt m c b (i 0) (i 1) := by
  refine (dats m 0 c).arrAt_eq_of_covers 13 _ (by decide +kernel) fun t hf y => ?_
  blk_simp
  rw [after0_13, out13_eq]
  refine (Eq.trans (congrArg _ ?_) (gates_apply _ _ _ _ (y 0) (b := b) (fun h => by rw [whole3]; exact hb h) (y 1))).trans ?_
  · funext d; fin_cases d <;> rfl
  · rw [blockFeatures_eq]
    show gatesAt m c b _ _ = gatesAt m c b _ _
    refine congr (congrArg (gatesAt m c b) (Fin.ext ?_)) (Fin.ext ?_)
    · unfold rowAt
      blk_simp [sample_idx t]
    · blk_simp [sample_idx t]

end Cert.Layer.Sample

end
-- ==== Proof.SampleEntry.lean ====
/-
  What the host prepares for the samples' projection, at one index.
-/
module

public import proofs.«01_k».proof.Proof.SampleArrays
public import proofs.«01_k».proof.Proof.ProjectRun

@[expose] public section

set_option maxRecDepth 16384
set_option backward.isDefEq.respectTransparency.types false

noncomputable section

namespace Cert.Layer.Sample

open Idealize.ShloMosaic Idealize.ShloMosaic.TcCoe Idealize.SL.Sem Idealize.ShloMosaic.Tactic Cert.Layer.Project
open Cert.Kernel4Ideal Cert.Kernel4Ideal.Gen

variable (m : (ℓ : Loc nD τ sig) → Buf (Elt Ideal) ℓ) (c : Dev nD)

/-- The sample of a row. -/
def batchOf (r : Fin 1024) : Fin 128 := ⟨r.val / 8, by omega⟩

/-- The position of a row in its sample. -/
def posOf (r : Fin 1024) : Fin 8 := ⟨r.val % 8, by omega⟩

/-- The row of a sample and a position. -/
def rowIx (b : Fin 128) (s : Fin 8) : Fin 1024 := ⟨b.val * 8 + s.val, by omega⟩

theorem batchOf_rowIx (b : Fin 128) (s : Fin 8) : batchOf (rowIx b s) = b := Fin.ext (by simp only [batchOf, rowIx]; omega)

theorem posOf_rowIx (b : Fin 128) (s : Fin 8) : posOf (rowIx b s) = s := Fin.ext (by simp only [posOf, rowIx]; omega)

/-- The host's preparation of the rows. -/
def hostX (x : FVec Ideal S128x8x1024 .f32) : FVec Ideal S1024x1024 .f32 := shapeCast S1024x1024 x shapeCasts_S128x8x1024_S1024x1024

theorem hostX_apply (x : FVec Ideal S128x8x1024 .f32) (r : Fin 1024) (j : Fin 1024) :
    hostX x (ix2 r j) = x (ix3 (batchOf r) (posOf r) j) := by
  pointwise [hostX, batchOf, posOf]

theorem e_v3 : V m c main_v3 = hostW (m ((c : Thread nD τ).loc main_arg3)) := by
  dsimp only [V, V0, hostOps0, hostOps0_1, hostOps0_2, List.flatten, List.append]
  after_results
  try rfl

theorem e_v6 : V m c main_v6 = hostB (m ((c : Thread nD τ).loc main_arg4)) := by
  dsimp only [V, V0, hostOps0, hostOps0_1, hostOps0_2, List.flatten, List.append]
  after_results
  try rfl

theorem e_v10 : V m c main_v10 = hostTile (m ((c : Thread nD τ).loc main_arg5)) := by
  dsimp only [V, V0, hostOps0, hostOps0_1, hostOps0_2, List.flatten, List.append]
  after_results
  try rfl

theorem e_v14 : V m c main_v14 = hostTile (m ((c : Thread nD τ).loc main_arg6)) := by
  dsimp only [V, V0, hostOps0, hostOps0_1, hostOps0_2, List.flatten, List.append]
  after_results
  try rfl

theorem e_v22 : V m c main_v22 = hostMarks := by
  dsimp only [V, V0, hostOps0, hostOps0_1, hostOps0_2, List.flatten, List.append]
  after_results
  try rfl

theorem e_v23 : V m c main_v23 = hostX (m ((c : Thread nD τ).loc main_arg0)) := by
  dsimp only [V, V0, hostOps0, hostOps0_1, hostOps0_2, List.flatten, List.append]
  after_results
  try rfl

theorem e_v24 : V m c main_v24 = hostG (m ((c : Thread nD τ).loc main_arg2)) := by
  dsimp only [V, V0, hostOps0, hostOps0_1, hostOps0_2, List.flatten, List.append]
  after_results
  try rfl

/-- The features of a row, from the arguments. -/
def argFeatures (x : S128x8x1024.Idx → EReal) (g : S1024.Idx → EReal) (w : S1024x4104.Idx → EReal) (b : Fin 128) (s : Fin 8) :
    Fin 4104 → EReal := features (fun j => g (ix1 j)) (fun i j => w (ix2 i j)) (fun j => x (ix3 b s j))

/-- The features of a row, from the arguments of a run. -/
def runFeatures (b : Fin 128) (s : Fin 8) : Fin 4104 → EReal :=
  argFeatures (m ((c : Thread nD τ).loc main_arg0)) (m ((c : Thread nD τ).loc main_arg2)) (m ((c : Thread nD τ).loc main_arg3)) b s

/-- The features of a row, from the arrays the call takes, are those from the arguments. -/
theorem entry_features (r : Fin 1024) (j : Fin 2056) : entryFeatures m c r ⟨j.val, by omega⟩
    = runFeatures m c (batchOf r) (posOf r) ⟨j.val, by omega⟩ := by
  unfold entryFeatures runFeatures argFeatures features
  rw [e_v3, e_v23, e_v24]
  simp only [hostW_apply, hostX_apply, hostG_apply]

theorem run_cols (o : ℕ) (h : o + 512 ≤ 2056) (r : Fin 1024) : cols o (by omega) (entryFeatures m c r)
    = cols o (by omega) (runFeatures m c (batchOf r) (posOf r)) :=
  funext fun j => entry_features m c r ⟨o + j.val, by omega⟩

end Cert.Layer.Sample

end
-- ==== Proof.SampleRun.lean ====
/-
  The samples' projection's run: its six results, as functions of the arguments.
-/
module

public import proofs.«01_k».proof.Proof.SampleEntry

@[expose] public section

set_option maxRecDepth 16384
set_option backward.isDefEq.respectTransparency.types false

noncomputable section

namespace Cert.Layer.Sample

open Idealize.ShloMosaic Idealize.ShloMosaic.TcCoe Idealize.SL.Sem Idealize.ShloMosaic.Tactic Cert.Layer.Project
open Cert.Kernel4Ideal Cert.Kernel4Ideal.Gen

/-! ## The results -/

section
variable (x : S128x8x1024.Idx → EReal) (g : S1024.Idx → EReal) (w : S1024x4104.Idx → EReal) (b : S8.Idx → EReal)
  (q k : S64.Idx → EReal)

/-- The pooling inputs. -/
def uOf (i : S128x8x512.Idx) : EReal := cols 0 (by decide) (argFeatures x g w (i 0) (i 1)) (i 2)

/-- The queries, normed by head and scaled. -/
def qOf (i : S128x8x512.Idx) : EReal :=
  headNormed (cols 512 (by decide) (argFeatures x g w (i 0) (i 1))) (lane q) (i 2) * Ideal.ofBits FTy.f32 0x3E000000#32

/-- The keys, normed by head. -/
def kOf (i : S128x8x8x64.Idx) : EReal :=
  headNormed (cols 1024 (by decide) (argFeatures x g w (i 0) (i 1))) (lane k) (headFeat (i 2) (i 3))

/-- The values. -/
def vOf (i : S128x8x8x64.Idx) : EReal := cols 1536 (by decide) (argFeatures x g w (i 0) (i 1)) (headFeat (i 2) (i 3))

/-- The log forget gates. -/
def gatesOf (i : S128x8x8.Idx) : EReal := gates (by decide) (argFeatures x g w (i 0) (i 1)) (fun h => b (ix1 h)) (i 2)
end

/-- The last 15 pooling inputs, of those before and the new ones. -/
def latest (p : FVec Ideal S128x15x512 .f32) (u : FVec Ideal S128x8x512 .f32) : FVec Ideal S128x15x512 .f32 :=
  extractStridedSlice S128x15x512 ![0, 8, 0] (concatenate S128x23x512 1 [⟨S128x15x512, p⟩, ⟨S128x8x512, u⟩]
    concatenates_S128x15x512_S128x8x512_S128x23x512_d1) slices_S128x23x512_S128x15x512_0_8_0

/-! ## The host's operations after the call -/

/-- Rows to samples and positions. -/
def byPos {e : EltTy} (f : Vec Ideal S1024x512 e) : Vec Ideal S128x8x512 e := shapeCast S128x8x512 f shapeCasts_S1024x512_S128x8x512

/-- Rows to samples and positions, columns to heads. -/
def byHead (f : FVec Ideal S1024x512 .f32) : FVec Ideal S128x8x8x64 .f32 := shapeCast S128x8x8x64 f shapeCasts_S1024x512_S128x8x8x64

/-- Rows of gates to samples and positions. -/
def byBatch (f : FVec Ideal S1024x8 .f32) : FVec Ideal S128x8x8 .f32 := shapeCast S128x8x8 f shapeCasts_S1024x8_S128x8x8

theorem byPos_apply {e : EltTy} (f : Vec Ideal S1024x512 e) (b : Fin 128) (s : Fin 8) (j : Fin 512) :
    byPos f (ix3 b s j) = f (ix2 (rowIx b s) j) := by
  pointwise [byPos]
  rfl

theorem byHead_apply (f : FVec Ideal S1024x512 .f32) (b : Fin 128) (s : Fin 8) (h : Fin 8) (l : Fin 64) :
    byHead f (ix4 b s h l) = f (ix2 (rowIx b s) (headFeat h l)) := by
  pointwise [byHead]
  refine congrArg (fun j => f (ix2 (rowIx b s) j)) (Fin.ext ?_)
  show h.val * 64 + l.val = 64 * h.val + l.val
  omega

theorem byBatch_apply (f : FVec Ideal S1024x8 .f32) (b : Fin 128) (s : Fin 8) (h : Fin 8) :
    byBatch f (ix3 b s h) = f (ix2 (rowIx b s) h) := by
  pointwise [byBatch]
  rfl

variable (m : (ℓ : Loc nD τ sig) → Buf (Elt Ideal) ℓ) (c : Dev nD)

/-- A window's array, when the call has ended. -/
theorem after_arr (w : Fin cfg0.W) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr spec0 (by decide +kernel) c (V0 m c) _ w

theorem tail_u : Pipeline.afterTail₀ cfgs (dats m) 0 (V0 m) [hostOps1] c main_v26 = byPos ((dats m 0 c).arrAt 7 cfg0.N) := by
  unfold Pipeline.afterTail₀
  dsimp only [hostOps1, List.flatten, List.append]
  after_results
  exact congrArg byPos (after_arr m c 7)

theorem tail_q : Pipeline.afterTail₀ cfgs (dats m) 0 (V0 m) [hostOps1] c main_v29 = byPos ((dats m 0 c).arrAt 8 cfg0.N) := by
  unfold Pipeline.afterTail₀
  dsimp only [hostOps1, List.flatten, List.append]
  after_results
  exact congrArg byPos (after_arr m c 8)

theorem tail_k : Pipeline.afterTail₀ cfgs (dats m) 0 (V0 m) [hostOps1] c main_v30 = byHead ((dats m 0 c).arrAt 9 cfg0.N) := by
  unfold Pipeline.afterTail₀
  dsimp only [hostOps1, List.flatten, List.append]
  after_results
  exact congrArg byHead (after_arr m c 9)

theorem tail_v : Pipeline.afterTail₀ cfgs (dats m) 0 (V0 m) [hostOps1] c main_v31 = byHead ((dats m 0 c).arrAt 11 cfg0.N) := by
  unfold Pipeline.afterTail₀
  dsimp only [hostOps1, List.flatten, List.append]
  after_results
  exact congrArg byHead (after_arr m c 11)

theorem tail_gates : Pipeline.afterTail₀ cfgs (dats m) 0 (V0 m) [hostOps1] c main_v32 = byBatch ((dats m 0 c).arrAt 13 cfg0.N) := by
  unfold Pipeline.afterTail₀
  dsimp only [hostOps1, List.flatten, List.append]
  after_results
  exact congrArg byBatch (after_arr m c 13)

/-- The first state is no array of the call. -/
theorem state_kept : Pipeline.withArrays (cfgs 0).spec c (V0 m c) (fun w => (dats m 0 c).arrAt w (cfgs 0).N)
    main_arg1 = m ((c : Thread nD τ).loc main_arg1) := W_main_arg1 m (dats m) c

theorem tail_hist : Pipeline.afterTail₀ cfgs (dats m) 0 (V0 m) [hostOps1] c main_v28
    = latest (m ((c : Thread nD τ).loc main_arg1)) (byPos ((dats m 0 c).arrAt 7 cfg0.N)) := by
  unfold Pipeline.afterTail₀
  dsimp only [hostOps1, List.flatten, List.append]
  after_results
  have e := congrArg₂ (fun p u => latest p (byPos (e := .f32) u)) (state_kept m c) (after_arr m c 7)
  exact e

/-! ## The arrays, from the arguments -/

theorem run_real (real : ∀ b s j, ∃ y : ℝ, runFeatures m c b s j = y) (o : ℕ) (h : o + 512 ≤ 2056) (r : Fin 1024) (j : Fin 512) :
    ∃ y : ℝ, cols o (by omega) (entryFeatures m c r) j = y := by
  rw [run_cols m c o h]
  exact real _ _ _

theorem marks_run : marks (V m c main_v22) := by rw [e_v22]; exact marks_apply

theorem tiles_q : tiles (V m c main_v10) (lane (m ((c : Thread nD τ).loc main_arg5))) := by rw [e_v10]; exact hostTile_apply _

theorem tiles_k : tiles (V m c main_v14) (lane (m ((c : Thread nD τ).loc main_arg6))) := by rw [e_v14]; exact hostTile_apply _

theorem bias_run (h : Fin 8) : V m c main_v6 (ix2 0 ⟨h.val, by omega⟩) = m ((c : Thread nD τ).loc main_arg4) (ix1 h) := by
  rw [e_v6]; exact hostB_apply _ h

theorem u_run : byPos (e := .f32) ((dats m 0 c).arrAt 7 cfg0.N)
    = uOf (m ((c : Thread nD τ).loc main_arg0)) (m ((c : Thread nD τ).loc main_arg2)) (m ((c : Thread nD τ).loc main_arg3)) := by
  rw [u_arr]
  funext i
  refine (Eq.trans (congrArg _ ?_) (byPos_apply _ (i 0) (i 1) (i 2))).trans
    ((congrFun (run_cols m c 0 (by decide) (rowIx (i 0) (i 1))) (i 2)).trans ?_)
  · funext d; fin_cases d <;> rfl
  · rw [batchOf_rowIx, posOf_rowIx]
    rfl

theorem v_run : byHead ((dats m 0 c).arrAt 11 cfg0.N)
    = vOf (m ((c : Thread nD τ).loc main_arg0)) (m ((c : Thread nD τ).loc main_arg2)) (m ((c : Thread nD τ).loc main_arg3)) := by
  rw [v_arr]
  funext i
  refine (Eq.trans (congrArg _ ?_) (byHead_apply _ (i 0) (i 1) (i 2) (i 3))).trans
    ((congrFun (run_cols m c 1536 (by decide) (rowIx (i 0) (i 1))) (headFeat (i 2) (i 3))).trans ?_)
  · funext d; fin_cases d <;> rfl
  · rw [batchOf_rowIx, posOf_rowIx]
    rfl

theorem gates_run : byBatch ((dats m 0 c).arrAt 13 cfg0.N)
    = gatesOf (m ((c : Thread nD τ).loc main_arg0)) (m ((c : Thread nD τ).loc main_arg2)) (m ((c : Thread nD τ).loc main_arg3))
      (m ((c : Thread nD τ).loc main_arg4)) := by
  rw [gates_arr m c (bias_run m c)]
  funext i
  refine (Eq.trans (congrArg _ ?_) (byBatch_apply _ (i 0) (i 1) (i 2))).trans
    (Eq.trans (b := gatesAt m c (fun h => m ((c : Thread nD τ).loc main_arg4) (ix1 h)) (rowIx (i 0) (i 1)) (i 2)) rfl ?_)
  · funext d; fin_cases d <;> rfl
  · refine congrArg (fun f => logSigmoid (f + m ((c : Thread nD τ).loc main_arg4) (ix1 (i 2))))
      ((entry_features m c (rowIx (i 0) (i 1)) ⟨2048 + (i 2).val, by have : (i 2).val < 8 := (i 2).isLt; omega⟩).trans ?_)
    rw [batchOf_rowIx, posOf_rowIx]
    rfl

variable (real : ∀ b s j, ∃ y : ℝ, runFeatures m c b s j = y)
include real

theorem q_run : byPos (e := .bf16) ((dats m 0 c).arrAt 8 cfg0.N)
    = qOf (m ((c : Thread nD τ).loc main_arg0)) (m ((c : Thread nD τ).loc main_arg2)) (m ((c : Thread nD τ).loc main_arg3))
      (m ((c : Thread nD τ).loc main_arg5)) := by
  rw [qb_arr m c (marks_run m c) (tiles_q m c) (run_real m c real 512 (by decide))]
  funext i
  refine (Eq.trans (congrArg _ ?_) (byPos_apply _ (i 0) (i 1) (i 2))).trans ?_
  · funext d; fin_cases d <;> rfl
  · show qAt m c _ (rowIx (i 0) (i 1)) (i 2) = _
    unfold qAt
    rw [run_cols m c 512 (by decide), batchOf_rowIx, posOf_rowIx]
    rfl

theorem k_run : byHead ((dats m 0 c).arrAt 9 cfg0.N)
    = kOf (m ((c : Thread nD τ).loc main_arg0)) (m ((c : Thread nD τ).loc main_arg2)) (m ((c : Thread nD τ).loc main_arg3))
      (m ((c : Thread nD τ).loc main_arg6)) := by
  rw [k_arr m c (marks_run m c) (tiles_k m c) (run_real m c real 1024 (by decide))]
  funext i
  refine (Eq.trans (congrArg _ ?_) (byHead_apply _ (i 0) (i 1) (i 2) (i 3))).trans ?_
  · funext d; fin_cases d <;> rfl
  · show kAt m c _ (rowIx (i 0) (i 1)) (headFeat (i 2) (i 3)) = _
    unfold kAt
    rw [run_cols m c 1024 (by decide), batchOf_rowIx, posOf_rowIx]
    rfl

omit real

/-- The run, with the values of the six results. -/
theorem sample_run (ρ : Dev nD → PrngReg) (real : ∀ c b s j, ∃ y : ℝ, runFeatures m c b s j = y) :
    θ_run defs (onTc (τ := τ) (main (F := Ideal))) ⟨m, fun _ => 0, ρ⟩ (fun r => ∀ c : Dev nD,
      r.2.mem ((c.tc : Thread nD τ).loc main_v26)
        = uOf (m ((c : Thread nD τ).loc main_arg0)) (m ((c : Thread nD τ).loc main_arg2)) (m ((c : Thread nD τ).loc main_arg3))
      ∧ r.2.mem ((c.tc : Thread nD τ).loc main_v29)
        = qOf (m ((c : Thread nD τ).loc main_arg0)) (m ((c : Thread nD τ).loc main_arg2)) (m ((c : Thread nD τ).loc main_arg3)) (m ((c : Thread nD τ).loc main_arg5))
      ∧ r.2.mem ((c.tc : Thread nD τ).loc main_v30)
        = kOf (m ((c : Thread nD τ).loc main_arg0)) (m ((c : Thread nD τ).loc main_arg2)) (m ((c : Thread nD τ).loc main_arg3)) (m ((c : Thread nD τ).loc main_arg6))
      ∧ r.2.mem ((c.tc : Thread nD τ).loc main_v31)
        = vOf (m ((c : Thread nD τ).loc main_arg0)) (m ((c : Thread nD τ).loc main_arg2)) (m ((c : Thread nD τ).loc main_arg3))
      ∧ r.2.mem ((c.tc : Thread nD τ).loc main_v32)
        = gatesOf (m ((c : Thread nD τ).loc main_arg0)) (m ((c : Thread nD τ).loc main_arg2)) (m ((c : Thread nD τ).loc main_arg3)) (m ((c : Thread nD τ).loc main_arg4))
      ∧ r.2.mem ((c.tc : Thread nD τ).loc main_v28)
        = latest (m ((c : Thread nD τ).loc main_arg1)) (uOf (m ((c : Thread nD τ).loc main_arg0)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (run_main m ρ)
  have rest := fun b hb hn => (h c).2 b (Pipeline.mem_restRefs_of b hb hn)
  exact ⟨(rest main_v26 (by decide) (by decide)).trans ((tail_u m c).trans (u_run m c)),
    (rest main_v29 (by decide) (by decide)).trans ((tail_q m c).trans (q_run m c (real c))),
    (rest main_v30 (by decide) (by decide)).trans ((tail_k m c).trans (k_run m c (real c))),
    (rest main_v31 (by decide) (by decide)).trans ((tail_v m c).trans (v_run m c)),
    (rest main_v32 (by decide) (by decide)).trans ((tail_gates m c).trans (gates_run m c)),
    (rest main_v28 (by decide) (by decide)).trans ((tail_hist m c).trans (congrArg (latest _) (u_run m c))),
    (rest main_arg0 (by decide) (by decide)).trans (W_main_arg0 m (dats m) c),
    (rest main_arg1 (by decide) (by decide)).trans (W_main_arg1 m (dats m) c),
    (rest main_arg2 (by decide) (by decide)).trans (W_main_arg2 m (dats m) c),
    (rest main_arg3 (by decide) (by decide)).trans (W_main_arg3 m (dats m) c),
    (rest main_arg4 (by decide) (by decide)).trans (W_main_arg4 m (dats m) c),
    (rest main_arg5 (by decide) (by decide)).trans (W_main_arg5 m (dats m) c),
    (rest main_arg6 (by decide) (by decide)).trans (W_main_arg6 m (dats m) c)⟩

end Cert.Layer.Sample

end
-- ==== Proof.SampleRef.lean ====
/-
  The samples' projection's reference at one index.
-/
module

public import proofs.«01_k».proof.Proof.SampleRun
public import proofs.«01_k».proof.Proof.ProjectRef
public import proofs.«01_k».proof.Proof.Gen.Reference4Ideal.Run
public import proofs.«01_k».proof.Proof.Gen.Reference4Ideal

@[expose] public section

set_option maxRecDepth 16384
set_option backward.isDefEq.respectTransparency.types false

noncomputable section

namespace Cert.Layer.SampleRef

open Idealize.ShloMosaic Idealize.ShloMosaic.TcCoe Idealize.SL.Sem Idealize.ShloMosaic.Tactic Cert.Layer.Sample
open Cert.Layer.Project (tiles lane gates)
open Cert.Reference4Ideal Cert.Reference4Ideal.Gen

/-- The norm of every row. -/
def norm (x : FVec Ideal S128x8x1024 .f32) (g : FVec Ideal S1024 .f32) : FVec Ideal S128x8x1024 .f32 :=
  mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))

/-- The norm times the input matrix. -/
def projected (x : FVec Ideal S128x8x1024 .f32) (g : FVec Ideal S1024 .f32) (w : FVec Ideal S1024x4104 .f32) : FVec Ideal S128x8x4104 .f32 :=
  Host.dotGeneral dot_S128x8x1024_S1024x4104_S128x8x4104_2_0_01_1_n_n none (norm x g) w

/-- 512 features of every row. -/
def slice (o : ℕ) (p : FVec Ideal S128x8x4104 .f32) (h : Shape.Slices S128x8x4104 ![0, 0, o] S128x8x512) : FVec Ideal S128x8x512 .f32 :=
  extractStridedSlice S128x8x512 ![0, 0, o] p h

/-- Features by head. -/
def split (f : FVec Ideal S128x8x512 .f32) : FVec Ideal S128x8x8x64 .f32 := shapeCast _ f shapeCasts_S128x8x512_S128x8x8x64

/-- The norm of every head. -/
def headNorm (f : FVec Ideal S128x8x8x64 .f32) (g : FVec Ideal S64 .f32) : FVec Ideal S128x8x8x64 .f32 :=
  mulf (mulf f (broadcastInDim S128x8x8x64 ![0, 1, 2, 3] bcast_S128x8x8x1_S128x8x8x64_0_1_2_3 (Host.rsqrt (addf (Host.divf (broadcastInDim S128x8x8x1 ![0, 1, 2] bcast_S128x8x8_S128x8x8x1_0_1_2 (Host.reduceAdd (mulf f f) (constant S_ .f32 0x00000000#32) reducesTo_S128x8x8x64_S128x8x8_d3 h_S_)) (broadcastInDim S128x8x8x1 ![] bcast_S_S128x8x8x1 (constant S_ .f32 0x42800000#32))) (broadcastInDim S128x8x8x1 ![] bcast_S_S128x8x8x1 (constant S_ .f32 0x358637BD#32)))))) (broadcastInDim S128x8x8x64 ![0, 1, 2, 3] bcast_S1x1x1x64_S128x8x8x64_0_1_2_3 (broadcastInDim S1x1x1x64 ![3] bcast_S64_S1x1x1x64_3 g))

/-- The queries' scale. -/
def scaled (f : FVec Ideal S128x8x8x64 .f32) : FVec Ideal S128x8x8x64 .f32 :=
  mulf f (broadcastInDim S128x8x8x64 ![] bcast_S_S128x8x8x64 (constant S_ .f32 0x3E000000#32))

/-- Heads side by side. -/
def joined (f : FVec Ideal S128x8x8x64 .f32) : FVec Ideal S128x8x512 .bf16 :=
  truncf .bf16 (shapeCast S128x8x512 f shapeCasts_S128x8x8x64_S128x8x512) bitsLt_bf16_f32

/-- A zero for every gate. -/
def zeros : FVec Ideal S128x8x8 .f32 := broadcastInDim S128x8x8 ![] bcast_S_S128x8x8 (constant S_ .f32 0x00000000#32)

/-- The forget gates before their sigmoid, with the sign turned. -/
def minusForget (p : FVec Ideal S128x8x4104 .f32) (b : FVec Ideal S8 .f32) : FVec Ideal S128x8x8 .f32 :=
  Host.negf (addf (extractStridedSlice S128x8x8 ![0, 0, 2048] p slices_S128x8x4104_S128x8x8_0_0_2048) (broadcastInDim S128x8x8 ![0, 1, 2] bcast_S1x1x8_S128x8x8_0_1_2 (broadcastInDim S1x1x8 ![2] bcast_S8_S1x1x8_2 b)))

/-- The logarithm of the sum of one and the exponential. -/
def softplus (z : FVec Ideal S128x8x8 .f32) : FVec Ideal S128x8x8 .f32 :=
  select (cmpf .une (subf z zeros) (subf z zeros)) (addf z zeros)
    (addf (maximumf z zeros) (Host.log1p (Host.exp (Host.negf (Host.absf (subf z zeros))))))

theorem norm_apply (x : FVec Ideal S128x8x1024 .f32) (g : FVec Ideal S1024 .f32) (b : Fin 128) (s : Fin 8) (j : Fin 1024) :
    norm x g (ix3 b s j) = normed (fun j => g (ix1 j)) (fun j => x (ix3 b s j)) j := by
  pointwise [norm]
  rfl

theorem projected_apply (x : FVec Ideal S128x8x1024 .f32) (g : FVec Ideal S1024 .f32) (w : FVec Ideal S1024x4104 .f32)
    (b : Fin 128) (s : Fin 8) (j : Fin 4104) :
    projected x g w (ix3 b s j) = ∑ i, norm x g (ix3 b s i) * w (ix2 i j) := by
  pointwise [projected]

theorem slice_apply (o : ℕ) (ho : o + 512 ≤ 4104) (p : FVec Ideal S128x8x4104 .f32) (h) (b : Fin 128) (s : Fin 8) (j : Fin 512) :
    slice o p h (ix3 b s j) = cols o ho (fun j => p (ix3 b s j)) j := by
  pointwise [slice]
  rfl

theorem split_apply (f : FVec Ideal S128x8x512 .f32) (b : Fin 128) (s : Fin 8) (h : Fin 8) (l : Fin 64) :
    split f (ix4 b s h l) = f (ix3 b s (headFeat h l)) := by
  pointwise [split]
  refine congrArg (fun j => f (ix3 b s j)) (Fin.ext ?_)
  show h.val * 64 + l.val = 64 * h.val + l.val
  omega

theorem headNorm_apply (f : FVec Ideal S128x8x8x64 .f32) (g : FVec Ideal S64 .f32) (b : Fin 128) (s : Fin 8) (h : Fin 8) (l : Fin 64) :
    headNorm f g (ix4 b s h l) = f (ix4 b s h l) * Ideal.rsqrt (Ideal.div (∑ k, f (ix4 b s h k) * f (ix4 b s h k)) (Ideal.ofBits FTy.f32 0x42800000#32)
      + Ideal.ofBits FTy.f32 0x358637BD#32) * g (ix1 l) := by
  pointwise [headNorm]

theorem scaled_apply (f : FVec Ideal S128x8x8x64 .f32) (b : Fin 128) (s : Fin 8) (h : Fin 8) (l : Fin 64) :
    scaled f (ix4 b s h l) = f (ix4 b s h l) * Ideal.ofBits FTy.f32 0x3E000000#32 := by
  pointwise [scaled]

theorem joined_apply (f : FVec Ideal S128x8x8x64 .f32) (b : Fin 128) (s : Fin 8) (j : Fin 512) :
    joined f (ix3 b s j) = f (ix4 b s (headIdx j) (laneIdx j)) := by
  pointwise [joined, headIdx, laneIdx]

theorem minusForget_apply (p : FVec Ideal S128x8x4104 .f32) (v : FVec Ideal S8 .f32) (b : Fin 128) (s : Fin 8) (h : Fin 8) :
    minusForget p v (ix3 b s h) = -(p (ix3 b s ⟨2048 + h.val, by omega⟩) + v (ix1 h)) := by
  pointwise [minusForget]

theorem softplus_apply (z : FVec Ideal S128x8x8 .f32) (b : Fin 128) (s : Fin 8) (h : Fin 8) :
    softplus z (ix3 b s h) = max (z (ix3 b s h)) 0
      + Ideal.log1p (Ideal.exp (-(max (z (ix3 b s h) - 0) (-(z (ix3 b s h) - 0))))) := by
  pointwise [softplus, zeros]
  rw [if_neg (not_not_intro rfl)]
  rfl

/-! ## The results -/

variable (x : FVec Ideal S128x8x1024 .f32) (g : FVec Ideal S1024 .f32) (w : FVec Ideal S1024x4104 .f32) (v : FVec Ideal S8 .f32)
  (q k : FVec Ideal S64 .f32)

theorem projected_features (b : Fin 128) (s : Fin 8) (j : Fin 4104) : projected x g w (ix3 b s j) = argFeatures x g w b s j := by
  rw [projected_apply]
  simp only [norm_apply]
  rfl

/-- 512 features of every row, from the arguments. -/
theorem slice_features (o : ℕ) (ho : o + 512 ≤ 4104) (h) (b : Fin 128) (s : Fin 8) (j : Fin 512) :
    slice o (projected x g w) h (ix3 b s j) = cols o ho (argFeatures x g w b s) j :=
  (slice_apply o ho _ h b s j).trans (projected_features x g w b s _)

/-- The norm of every head, from the arguments. -/
theorem headNorm_features (o : ℕ) (ho : o + 512 ≤ 4104) (hs) (b : Fin 128) (s : Fin 8) (h : Fin 8) (l : Fin 64) :
    headNorm (split (slice o (projected x g w) hs)) q (ix4 b s h l)
      = headNormed (cols o ho (argFeatures x g w b s)) (lane q) (headFeat h l) := by
  have eh : headIdx (headFeat h l) = h := Fin.ext (by show (64 * h.val + l.val) / 64 = h.val; omega)
  have el : laneIdx (headFeat h l) = l := Fin.ext (by show (64 * h.val + l.val) % 64 = l.val; omega)
  rw [headNorm_apply]
  simp only [split_apply, slice_features x g w o ho]
  unfold headNormed headScale lane
  rw [eh, el]

theorem u_ref (h) : slice 0 (projected x g w) h = uOf x g w := by
  funext i
  refine (Eq.trans (congrArg _ ?_) (slice_features x g w 0 (by decide) h (i 0) (i 1) (i 2)))
  funext d; fin_cases d <;> rfl

theorem q_ref (h) : joined (scaled (headNorm (split (slice 512 (projected x g w) h)) q)) = qOf x g w q := by
  funext i
  refine (Eq.trans (congrArg _ ?_) (joined_apply _ (i 0) (i 1) (i 2))).trans ((scaled_apply _ _ _ _ _).trans ?_)
  · funext d; fin_cases d <;> rfl
  · rw [headNorm_features x g w q 512 (by decide), ProjectRef.headFeat_idx]
    rfl

theorem k_ref (h) : headNorm (split (slice 1024 (projected x g w) h)) k = kOf x g w k := by
  funext i
  refine (Eq.trans (congrArg _ ?_) (headNorm_features x g w k 1024 (by decide) h (i 0) (i 1) (i 2) (i 3)))
  funext d; fin_cases d <;> rfl

theorem v_ref (h) : split (slice 1536 (projected x g w) h) = vOf x g w := by
  funext i
  refine (Eq.trans (congrArg _ ?_) (split_apply _ (i 0) (i 1) (i 2) (i 3))).trans (slice_features x g w 1536 (by decide) h _ _ _)
  funext d; fin_cases d <;> rfl

theorem gates_ref : Host.negf (softplus (minusForget (projected x g w) v)) = gatesOf x g w v := by
  funext i
  refine Eq.trans (b := -(softplus (minusForget (projected x g w) v) (ix3 (i 0) (i 1) (i 2)))) ?_ ?_
  · exact congrArg (fun i => -(softplus (minusForget (projected x g w) v) i)) (by funext d; fin_cases d <;> rfl)
  · rw [softplus_apply, minusForget_apply, projected_features]
    exact softplus_eq _

end Cert.Layer.SampleRef

end
-- ==== Proof.SampleValue.lean ====
/-
  The samples' projection's certificate: the kernel and the reference end with the same six results.
-/
module

public import proofs.«01_k».proof.Defs
public import proofs.«01_k».proof.Proof.SampleRef
public import proofs.«01_k».proof.Proof.Finite

@[expose] public section

set_option backward.isDefEq.respectTransparency.types false

noncomputable section

namespace Cert.Layer

open Idealize.ShloMosaic Idealize.SL.Sem Cert.Finite

/-- The reference's run, as the claims state it. -/
theorem sample_ref_frame : Cert.quiescent_Reference4Ideal (hReference4Ideal := Cert.Reference4Ideal.Gen.facts) := fun m g _ =>
  (θ_run _ _ _).mono (fun _ h => ⟨fun c => (h c).2.2.2.2.2.2, Idealize.ShloMosaic.sem_eq_zero_of_no_sems (by decide) _⟩) (Cert.Reference4Ideal.Value.run m g)

section
open Cert.Reference4Ideal Cert.Reference4Ideal.Gen Idealize.ShloMosaic.TcCoe

variable (m : (ℓ : Loc nD τ sig) → Buf (Elt Ideal) ℓ) (c : Dev nD)

theorem sample_gates_eq : Value.res_main_v48 m c = Host.negf (SampleRef.softplus (SampleRef.minusForget
    (SampleRef.projected (m ((c.tc : Thread nD τ).loc main_arg0)) (m ((c.tc : Thread nD τ).loc main_arg2)) (m ((c.tc : Thread nD τ).loc main_arg3)))
    (m ((c.tc : Thread nD τ).loc main_arg4)))) := rfl
end

theorem sample_value : Cert.algebraic_Kernel4Ideal_Reference4Ideal_pre_finite_samples (hKernel4Ideal := Cert.Kernel4Ideal.Gen.facts)
    (hReference4Ideal := Cert.Reference4Ideal.Gen.facts) (hPre_finite_samples := samples_facts) := by
  intro m g m' g' pre agree
  have fin := fun c => finite_samples _ _ _ _ _ _ _ (pre c)
  have real : ∀ c b s j, ∃ y : ℝ, Sample.runFeatures m c b s j = y := fun c b s j =>
    features_real (fun i => (fin c).2.1 (ix1 i)) (fun i j => (fin c).2.2 (ix2 i j)) (fun i => (fin c).1 (ix3 b s i)) j
  refine ⟨fun c => _, fun c => _, fun c => _, fun c => _, fun c => _, fun c => _, Sample.sample_run m g real, ?_⟩
  refine (θ_run _ _ _).mono (fun r h c => ?_) (Cert.Reference4Ideal.Value.run m' g')
  obtain ⟨e0, e1, e2, e3, e4, e5, e6⟩ := agree c
  obtain ⟨h0, h1, h2, h3, h4, h5, rest⟩ := h c
  refine ⟨h0.trans ?_, h1.trans ?_, h2.trans ?_, h3.trans ?_, h4.trans ?_, h5.trans ?_, rest⟩
  · rw [e0, e2, e3]
    exact SampleRef.u_ref _ _ _ _
  · rw [e0, e2, e3, e5]
    exact SampleRef.q_ref _ _ _ _ _
  · rw [e0, e2, e3, e6]
    exact SampleRef.k_ref _ _ _ _ _
  · rw [e0, e2, e3]
    exact SampleRef.v_ref _ _ _ _
  · rw [sample_gates_eq, e0, e2, e3, e4]
    exact SampleRef.gates_ref _ _ _ _
  · rw [e0, e1, e2, e3]
    exact congrArg (Sample.latest _) (SampleRef.u_ref _ _ _ _)

end Cert.Layer

end
-- ==== Proof.PoolBody.lean ====
/-
  The pooling's body: what it leaves in the block of its result, in the history's block and in the rows it carries to
  the next tile, from the rows before the tile and the tile.
-/
module

public import proofs.«01_k».proof.Proof.Gen.Kernel5Ideal.Frame
public import proofs.«01_k».proof.Proof.Gen.Kernel5Ideal
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.WritesUnit

@[expose] public section

set_option maxRecDepth 16384
set_option backward.isDefEq.respectTransparency.types false

noncomputable section

namespace Cert.Layer.Pool

open Idealize.ShloMosaic Idealize.ShloMosaic.TcCoe Idealize.SL.Sem Idealize.ShloMosaic.Tactic
open Cert.Kernel5Ideal Cert.Kernel5Ideal.Gen

/-! ## The rows the body reads -/

/-- The 16 rows before a tile, and behind them the tile. -/
def ext (h : S528x512.Idx → EReal) (u : S1x512x512.Idx → EReal) : Vec Ideal S528x512 .f32 := fun y =>
  if (y 0).val < 16 then h y else u (ix3 0 ⟨(y 0).val - 16, by have : (y 0).val < 528 := (y 0).isLt; omega⟩ (y 1))

/-- Behind the 16 rows the tile. -/
theorem ext_tile (h : S528x512.Idx → EReal) (u : S1x512x512.Idx → EReal) (r : Fin 528) (hr : 16 ≤ r.val) (l : Fin 512) :
    ext h u (ix2 r l) = u (ix3 0 ⟨r.val - 16, by omega⟩ l) := by
  unfold ext
  exact if_neg (by show ¬ r.val < 16; omega)

theorem pay6_apply (u : Vec Ideal S1x512x512 .f32) (r : Fin 512) (j : Fin 512) : k0_pay6 u (ix2 r j) = u (ix3 0 r j) := by
  pointwise [k0_pay6, k0_pay5]

theorem pay4_apply (r : Fin 16) (j : Fin 512) : k0_pay4 (F := Ideal) (ix2 r j) = 0 := by
  pointwise [k0_pay4]

section
variable {sg : RefSig} (v : View sg .tc .vmem S528x512 .f32)

/-- A row of the tile, once the tile is stored. -/
theorem read_stored (f : v.ty.Contents (Elt Ideal)) (u : Vec Ideal S1x512x512 .f32) (inb) (L) (y : S528x512.Idx) (hy : 16 ≤ (y 0).val) :
    v.read (Elt Ideal) (v.writes (Elt Ideal) f (⟨Rect.unit ![16, 0] ![512, 512] inb, k0_pay6 u⟩ :: L)) y
      = u (ix3 0 ⟨(y 0).val - 16, by have : (y 0).val < 528 := (y 0).isLt; omega⟩ (y 1)) := by
  have lt : (y 0).val < 528 := (y 0).isLt
  have e := View.read_writes_cons_rows_of_mem v f inb (k0_pay6 u) L y (ix2 (⟨(y 0).val - 16, by omega⟩ : Fin 512) (y 1)) rfl
    (show (y 0).val = 16 + ((y 0).val - 16) by omega) rfl
  exact e.trans (pay6_apply u _ _)

/-- The scratch once the tile is stored. -/
theorem read_tile (f : v.ty.Contents (Elt Ideal)) (u : Vec Ideal S1x512x512 .f32) (inb) :
    v.read (Elt Ideal) (v.writes (Elt Ideal) f [⟨Rect.unit ![16, 0] ![512, 512] inb, k0_pay6 u⟩]) = ext (v.read (Elt Ideal) f) u := by
  funext y
  by_cases hy : (y 0).val < 16
  · rw [View.read_writes_cons_rows_of_not_mem v f inb (k0_pay6 u) [] y rfl rfl (Or.inl hy), ext, if_pos hy]
    rfl
  · rw [read_stored v f u inb [] y (by omega), ext, if_neg hy]

/-- The scratch once zeros and then the tile are stored. -/
theorem read_first (f : v.ty.Contents (Elt Ideal)) (u : Vec Ideal S1x512x512 .f32) (inb inb') :
    v.read (Elt Ideal) (v.writes (Elt Ideal) f [⟨Rect.unit ![16, 0] ![512, 512] inb, k0_pay6 u⟩, ⟨Rect.unit ![0, 0] ![16, 512] inb', k0_pay4 (F := Ideal)⟩])
      = ext (fun _ => 0) u := by
  funext y
  by_cases hy : (y 0).val < 16
  · rw [View.read_writes_cons_rows_of_not_mem v f inb (k0_pay6 u) _ y rfl rfl (Or.inl hy), ext, if_pos hy]
    have e := View.read_writes_cons_rows_of_mem v f inb' (k0_pay4 (F := Ideal)) [] y (ix2 (⟨(y 0).val, hy⟩ : Fin 16) (y 1)) rfl
      (show (y 0).val = 0 + (y 0).val by omega) rfl
    exact e.trans (pay4_apply _ _)
  · rw [read_stored v f u inb _ y (by omega), ext, if_neg hy]

/-- A load of the scratch then. -/
theorem load_first (u : Vec Ideal S1x512x512 .f32) (inb inb') (r : Rect S528x512) :
    v.readCov [⟨Rect.unit ![16, 0] ![512, 512] inb, k0_pay6 u⟩, ⟨Rect.unit ![0, 0] ![16, 512] inb', k0_pay4 (F := Ideal)⟩] r.toLoadRect
      = View.ld (ext (fun _ => 0) u) r :=
  funext fun x => congrFun (read_first v v.junk u inb inb') (r.toLoadRect.idx x)

/-- The tile's last 16 rows, read back. -/
theorem read_tail (u : Vec Ideal S1x512x512 .f32) (inb inb') (L) (r : Fin 16) (j : Fin 512) :
    v.readCov (⟨Rect.unit ![16, 0] ![512, 512] inb, k0_pay6 u⟩ :: L) (Rect.unit (s := S528x512) ![512, 0] ![16, 512] inb').toLoadRect (ix2 r j)
      = u (ix3 0 ⟨496 + r.val, by omega⟩ j) := by
  refine (read_stored v v.junk u inb L _ (show 16 ≤ 512 + 1 * r.val by omega)).trans (congrArg u ?_)
  funext d; fin_cases d
  · rfl
  · exact Fin.ext (show 512 + 1 * r.val - 16 = 496 + r.val by omega)
  · exact Fin.ext (show 0 + 1 * j.val = j.val by omega)

end

/-! ## A group's features -/

/-- A row of the tile, among the rows the body reads. -/
def tileRow (r : Fin 512) : Fin 528 := ⟨16 + r.val, by omega⟩

/-- The sum of the rows up to a row of the tile. -/
def windowed (E : S528x512.Idx → EReal) (w : ℕ) (r l : Fin 512) : EReal :=
  ∑ d ∈ Finset.range w, E (ix2 ⟨16 - d + r.val, by omega⟩ l)

/-- How many rows a window holds at a position. -/
def counted (p w : BitVec 32) : EReal := FloatOps.sitofp (F := Ideal) .f32 (IntOp.minsi (IntOp.addi p 1#32) w)

/-- The position of a row of a tile. -/
def posOf (i : grid0.Coords) (r : Fin 512) : BitVec 32 := IntOp.addi (Scalar.muli (BitVec.ofNat 32 (i 1).val) 512#32) (BitVec.ofNat 32 r.val)

/-- A feature of a group, by its matrix, its window and where its features start. -/
def groupOut (i : grid0.Coords) (E : S528x512.Idx → EReal) (w : S4x128x128.Idx → EReal) (s : S1x512.Idx → EReal) (g : Fin 4) (n o : ℕ)
    (ho : o + 128 ≤ 512) (r : Fin 512) (j : Fin 128) : EReal :=
  (∑ x : Fin 128, (Ideal.div (windowed E n r ⟨o + x.val, by omega⟩) (counted (posOf i r) (BitVec.ofNat 32 n))
      - E (ix2 ⟨16 + r.val, by omega⟩ ⟨o + x.val, by omega⟩)) * w (ix3 g x j)) * s (ix2 0 ⟨o + j.val, by omega⟩)

section
variable (i : grid0.Coords) (E : Vec Ideal S528x512 .f32) (u : Vec Ideal S1x512x512 .f32) (w : Vec Ideal S4x128x128 .bf16) (s : Vec Ideal S1x512 .f32)

/-- What the body stores for the group of window 2. -/
def group0 : Vec Ideal S1x512x128 .bf16 :=
  k0_pay8 i u (View.ld E (Rect.unit ![15, 0] ![512, 128] inb_S528x512_S512x128_15_0)) (View.ld w (Rect.unit ![0, 0, 0] ![1, 128, 128] inb_S4x128x128_S1x128x128_0_0_0)) (View.ld s (Rect.unit ![0, 0] ![1, 128] inb_S1x512_S1x128_0_0))

/-- What the body stores for the group of window 4. -/
def group1 : Vec Ideal S1x512x128 .bf16 :=
  k0_pay9 (k0_pay5 u) (k0_pay7 i) (View.ld E (Rect.unit ![15, 128] ![512, 128] inb_S528x512_S512x128_15_128)) (View.ld E (Rect.unit ![14, 128] ![512, 128] inb_S528x512_S512x128_14_128)) (View.ld E (Rect.unit ![13, 128] ![512, 128] inb_S528x512_S512x128_13_128)) (View.ld w (Rect.unit ![1, 0, 0] ![1, 128, 128] inb_S4x128x128_S1x128x128_1_0_0)) (View.ld s (Rect.unit ![0, 128] ![1, 128] inb_S1x512_S1x128_0_128))

/-- What the body stores for the group of window 8. -/
def group2 : Vec Ideal S1x512x128 .bf16 :=
  k0_pay12 (k0_pay7 i) (k0_pay10 (k0_pay5 u)) (k0_pay11 (k0_pay5 u) (View.ld E (Rect.unit ![15, 256] ![512, 128] inb_S528x512_S512x128_15_256)) (View.ld E (Rect.unit ![14, 256] ![512, 128] inb_S528x512_S512x128_14_256)) (View.ld E (Rect.unit ![13, 256] ![512, 128] inb_S528x512_S512x128_13_256))) (View.ld E (Rect.unit ![12, 256] ![512, 128] inb_S528x512_S512x128_12_256)) (View.ld E (Rect.unit ![11, 256] ![512, 128] inb_S528x512_S512x128_11_256)) (View.ld E (Rect.unit ![10, 256] ![512, 128] inb_S528x512_S512x128_10_256)) (View.ld E (Rect.unit ![9, 256] ![512, 128] inb_S528x512_S512x128_9_256)) (View.ld w (Rect.unit ![2, 0, 0] ![1, 128, 128] inb_S4x128x128_S1x128x128_2_0_0)) (View.ld s (Rect.unit ![0, 256] ![1, 128] inb_S1x512_S1x128_0_256))

/-- What the body stores for the group of window 16. -/
def group3 : Vec Ideal S1x512x128 .bf16 :=
  k0_pay1 (k0_pay15 (k0_pay7 i) (k0_pay13 (k0_pay5 u)) (k0_pay14 (k0_pay5 u) (View.ld E (Rect.unit ![15, 384] ![512, 128] inb_S528x512_S512x128_15_384)) (View.ld E (Rect.unit ![14, 384] ![512, 128] inb_S528x512_S512x128_14_384)) (View.ld E (Rect.unit ![13, 384] ![512, 128] inb_S528x512_S512x128_13_384))) (View.ld E (Rect.unit ![12, 384] ![512, 128] inb_S528x512_S512x128_12_384)) (View.ld E (Rect.unit ![11, 384] ![512, 128] inb_S528x512_S512x128_11_384)) (View.ld E (Rect.unit ![10, 384] ![512, 128] inb_S528x512_S512x128_10_384)) (View.ld E (Rect.unit ![9, 384] ![512, 128] inb_S528x512_S512x128_9_384)) (View.ld E (Rect.unit ![8, 384] ![512, 128] inb_S528x512_S512x128_8_384)) (View.ld E (Rect.unit ![7, 384] ![512, 128] inb_S528x512_S512x128_7_384)) (View.ld E (Rect.unit ![6, 384] ![512, 128] inb_S528x512_S512x128_6_384)) (View.ld E (Rect.unit ![5, 384] ![512, 128] inb_S528x512_S512x128_5_384)) (View.ld E (Rect.unit ![4, 384] ![512, 128] inb_S528x512_S512x128_4_384)) (View.ld E (Rect.unit ![3, 384] ![512, 128] inb_S528x512_S512x128_3_384)) (View.ld E (Rect.unit ![2, 384] ![512, 128] inb_S528x512_S512x128_2_384)) (View.ld E (Rect.unit ![1, 384] ![512, 128] inb_S528x512_S512x128_1_384))) (View.ld w (Rect.unit ![3, 0, 0] ![1, 128, 128] inb_S4x128x128_S1x128x128_3_0_0)) (View.ld s (Rect.unit ![0, 384] ![1, 128] inb_S1x512_S1x128_0_384))

variable (hE : ∀ r l, u (ix3 0 r l) = E (ix2 (tileRow r) l))
include hE

theorem group0_apply (r : Fin 512) (j : Fin 128) : group0 i E u w s (ix3 0 r j) = groupOut i E w s 0 2 0 (by decide) r j := by
  unfold group0
  pointwise [k0_pay8, k0_pay7, k0_pay5]
  simp only [hE, tileRow, groupOut, windowed, counted, posOf, Finset.sum_range_succ, Finset.sum_range_zero, zero_add, Nat.reduceSub, Nat.sub_zero]

theorem group1_apply (r : Fin 512) (j : Fin 128) : group1 i E u w s (ix3 0 r j) = groupOut i E w s 1 4 128 (by decide) r j := by
  unfold group1
  pointwise [k0_pay9, k0_pay7, k0_pay5]
  simp only [hE, tileRow, groupOut, windowed, counted, posOf, Finset.sum_range_succ, Finset.sum_range_zero, zero_add, Nat.reduceSub, Nat.sub_zero]

theorem group2_apply (r : Fin 512) (j : Fin 128) : group2 i E u w s (ix3 0 r j) = groupOut i E w s 2 8 256 (by decide) r j := by
  unfold group2
  pointwise [k0_pay12, k0_pay11, k0_pay10, k0_pay7, k0_pay5]
  simp only [hE, tileRow, groupOut, windowed, counted, posOf, Finset.sum_range_succ, Finset.sum_range_zero, zero_add, Nat.reduceSub, Nat.sub_zero]

theorem group3_apply (r : Fin 512) (j : Fin 128) : group3 i E u w s (ix3 0 r j) = groupOut i E w s 3 16 384 (by decide) r j := by
  unfold group3
  pointwise [k0_pay1, k0_pay15, k0_pay14, k0_pay13, k0_pay7, k0_pay5]
  simp only [hE, tileRow, groupOut, windowed, counted, posOf, Finset.sum_range_succ, Finset.sum_range_zero, zero_add, Nat.reduceSub, Nat.sub_zero]

/-- The pieces the body stores in its result's block. -/
def pieces : List (View.Piece (Elt Ideal) S1x512x512 .bf16) :=
  [⟨Rect.unit ![0, 0, 384] ![1, 512, 128] inb_S1x512x512_S1x512x128_0_0_384, group3 i E u w s⟩,
   ⟨Rect.unit ![0, 0, 256] ![1, 512, 128] inb_S1x512x512_S1x512x128_0_0_256, group2 i E u w s⟩,
   ⟨Rect.unit ![0, 0, 128] ![1, 512, 128] inb_S1x512x512_S1x512x128_0_0_128, group1 i E u w s⟩,
   ⟨Rect.unit ![0, 0, 0] ![1, 512, 128] inb_S1x512x512_S1x512x128_0_0_0, group0 i E u w s⟩]

omit hE in
/-- They fill it. -/
theorem pieces_cover (y : S1x512x512.Idx) : ∃ p ∈ pieces i E u w s, y ∈ p.1.set :=
  View.cover_of_tiledL _ ![1, 512, 128] (by sl_kernel_rfl) y

end

/-! ## What the body leaves -/

section
variable (c : Dev nD) (i : grid0.Coords) (arg2 : Memref sig .tc .vmem S1x512x512 .f32) (harg2 : arg2.IsWhole)
  (arg3 : Memref sig .tc .vmem S4x128x128 .bf16) (harg3 : arg3.IsWhole) (arg4 : Memref sig .tc .vmem S1x512 .f32) (harg4 : arg4.IsWhole)
  (arg5 : Memref sig .tc .vmem S1x512x512 .bf16) (harg5 : arg5.IsWhole) (arg6 : Memref sig .tc .vmem S1x16x512 .f32) (harg6 : arg6.IsWhole)
  (arg7 : Memref sig .tc .vmem S528x512 .f32) (harg7 : arg7.IsWhole)
  (x0 : Vec Ideal S1x512x512 .f32) (x1 : Vec Ideal S4x128x128 .bf16) (x2 : Vec Ideal S1x512 .f32) (xs0 : Vec Ideal S528x512 .f32)

/-- A load of a whole tile reads it. -/
theorem ld_tile (x : Vec Ideal S1x512x512 .f32) (inb) : View.ld x (Rect.unit (s := S1x512x512) ![0, 0, 0] ![1, 512, 512] inb) = x :=
  View.ld_unit_lit _ _ (by decide)

theorem out_first (hc0 : cond0_0 i) : out0_A_3 c i arg2 harg2 arg3 harg3 arg4 harg4 arg5 harg5 arg6 harg6 arg7 harg7 hc0 x0 x1 x2
    = View.canon (pieces i (ext (fun _ => 0) x0) x0 x1 x2) := by
  frame_open
  simp only [View.readAt_eq_ld, harg2.read_unread, harg3.read_unread, harg4.read_unread, ld_tile, load_first, View.read_writes_junk_eq_canon]
  rfl

theorem out_next (hc0 : ¬cond0_0 i) : out0_B_3 c i arg2 harg2 arg3 harg3 arg4 harg4 arg5 harg5 arg6 harg6 arg7 harg7 hc0 x0 x1 x2 xs0
    = View.canon (pieces i (ext xs0 x0) x0 x1 x2) := by
  frame_open
  simp only [View.readAt_eq_ld, harg2.read_unread, harg3.read_unread, harg4.read_unread, ld_tile, read_tile, harg7.read_unread, View.read_writes_junk_eq_canon]
  rfl

theorem pay2_apply (v : Vec Ideal S16x512 .f32) (r : Fin 16) (j : Fin 512) : k0_pay2 v (ix3 0 r j) = v (ix2 r j) := by
  pointwise [k0_pay2]

theorem pay3_apply (v : Vec Ideal S16x512 .f32) (r : Fin 16) (j : Fin 512) : k0_pay3 v (ix2 r j) = v (ix2 r j) := by
  pointwise [k0_pay3]

/-- The history's block is the tile's last 16 rows. -/
theorem hist_first (hc0 : cond0_0 i) (r : Fin 16) (j : Fin 512) :
    out0_A_4 c i arg2 harg2 arg3 harg3 arg4 harg4 arg5 harg5 arg6 harg6 arg7 harg7 hc0 x0 x1 x2 (ix3 0 r j) = x0 (ix3 0 ⟨496 + r.val, by omega⟩ j) := by
  frame_out
  exact (pay2_apply _ r j).trans (read_tail _ _ _ _ _ _ _)

theorem hist_next (hc0 : ¬cond0_0 i) (r : Fin 16) (j : Fin 512) :
    out0_B_4 c i arg2 harg2 arg3 harg3 arg4 harg4 arg5 harg5 arg6 harg6 arg7 harg7 hc0 x0 x1 x2 xs0 (ix3 0 r j)
      = x0 (ix3 0 ⟨496 + r.val, by omega⟩ j) := by
  frame_out
  exact (pay2_apply _ r j).trans (read_tail _ _ _ _ _ _ _)

/-- A row the body carries to the next tile. -/
theorem read_carried {sg : RefSig} (v : View sg .tc .vmem S528x512 .f32) (P : Vec Ideal S16x512 .f32) (inb) (L) (r : Fin 16) (j : Fin 512) :
    v.read (Elt Ideal) (v.writes (Elt Ideal) v.junk (⟨Rect.unit ![0, 0] ![16, 512] inb, P⟩ :: L)) (ix2 ⟨r.val, by omega⟩ j) = P (ix2 r j) :=
  View.read_writes_cons_rows_of_mem v v.junk inb P L _ (ix2 r j) rfl (show r.val = 0 + r.val by omega) rfl

theorem carried_first (hc0 : cond0_0 i) (r : Fin 16) (j : Fin 512) :
    sout0_A_0 c i arg2 harg2 arg3 harg3 arg4 harg4 arg5 harg5 arg6 harg6 arg7 harg7 hc0 x0 x1 x2 (ix2 ⟨r.val, by omega⟩ j)
      = x0 (ix3 0 ⟨496 + r.val, by omega⟩ j) := by
  frame_open
  simp only [View.readAt_eq_ld, harg2.read_unread, ld_tile]
  exact (read_carried _ _ _ _ r j).trans ((pay3_apply _ r j).trans (read_tail _ _ _ _ _ _ _))

theorem carried_next (hc0 : ¬cond0_0 i) (r : Fin 16) (j : Fin 512) :
    sout0_B_0 c i arg2 harg2 arg3 harg3 arg4 harg4 arg5 harg5 arg6 harg6 arg7 harg7 hc0 x0 x1 x2 xs0 (ix2 ⟨r.val, by omega⟩ j)
      = x0 (ix3 0 ⟨496 + r.val, by omega⟩ j) := by
  frame_open
  simp only [View.readAt_eq_ld, harg2.read_unread, ld_tile]
  exact (read_carried _ _ _ _ r j).trans ((pay3_apply _ r j).trans (read_tail _ _ _ _ _ _ _))

end

end Cert.Layer.Pool

end
-- ==== Proof.PoolArrays.lean ====
/-
  The arrays the pooling writes, from the arrays it is called with.
-/
module

public import proofs.«01_k».proof.Proof.PoolBody
public import Idealize.ShloMosaic.Lib.WordCmp

@[expose] public section

set_option maxRecDepth 16384
set_option backward.isDefEq.respectTransparency.types false

noncomputable section

namespace Cert.Layer.Pool

open Idealize.ShloMosaic Idealize.ShloMosaic.TcCoe Idealize.SL.Sem Idealize.ShloMosaic.Tactic
open Cert.Kernel5Ideal Cert.Kernel5Ideal.Gen

/-! ## The pooling -/

section
variable (u : S4x4096x512.Idx → EReal) (w : S4x128x128.Idx → EReal) (s : Fin 512 → EReal)

/-- An input some positions back, zero before the start. -/
def back (b : Fin 4) (p : Fin 4096) (l : Fin 512) (d : ℕ) : EReal :=
  if d ≤ p.val then u (ix3 b ⟨p.val - d, by omega⟩ l) else 0

/-- A feature of a group: the mean over its window less the input, behind the group's matrix, scaled. -/
def mixed (g : Fin 4) (n o : ℕ) (ho : o + 128 ≤ 512) (b : Fin 4) (p : Fin 4096) (j : Fin 128) : EReal :=
  (∑ x : Fin 128, (Ideal.div (∑ d ∈ Finset.range n, back u b p ⟨o + x.val, by omega⟩ d)
      (counted (BitVec.ofNat 32 p.val) (BitVec.ofNat 32 n)) - u (ix3 b p ⟨o + x.val, by omega⟩)) * w (ix3 g x j))
    * s ⟨o + j.val, by omega⟩

/-- A feature, by its group. -/
def feature (b : Fin 4) (p : Fin 4096) (l : Fin 512) : EReal :=
  mixed u w s ⟨l.val / 128, by omega⟩ (2 ^ (l.val / 128 + 1)) (128 * (l.val / 128)) (by omega) b p ⟨l.val % 128, by omega⟩

theorem feature_eq (g : Fin 4) (b : Fin 4) (p : Fin 4096) (j : Fin 128) : feature u w s b p ⟨128 * g.val + j.val, by omega⟩
    = mixed u w s g (2 ^ (g.val + 1)) (128 * g.val) (by omega) b p j := by
  have h : (128 * g.val + j.val) / 128 = g.val := by omega
  have h' : (128 * g.val + j.val) % 128 = j.val := by omega
  unfold feature
  simp only [h, h']
end

variable (m : (ℓ : Loc nD τ sig) → Buf (Elt Ideal) ℓ) (c : Dev nD)

/-- The blocks of the windows, at every point of the grid. -/
theorem pool_idx : ∀ t : Fin cfg0.N, win0_0.index t = ![t.val / 8, t.val % 8, 0]
    ∧ win0_1.index t = ![0, 0, 0] ∧ win0_2.index t = ![0, 0]
    ∧ win0_3.index t = ![t.val / 8, t.val % 8, 0]
    ∧ win0_4.index t = ![t.val / 8, 0, 0] :=
  (by decide +kernel : ∀ t : Fin grid0.N, _)

theorem tile_coord : ∀ t : Fin cfg0.N, (grid0.coords t 1).val = t.val % 8 := (by decide +kernel : ∀ t : Fin grid0.N, _)

theorem point_lt (t : Fin cfg0.N) : t.val < 32 := t.isLt

/-- The batch of a point of the grid. -/
def batchAt (t : Fin cfg0.N) : Fin 4 := ⟨t.val / 8, by have := point_lt t; omega⟩

/-- The position of a row of the tile of a point. -/
def rowAt (t : Fin cfg0.N) (r : Fin 512) : Fin 4096 := ⟨t.val % 8 * 512 + r.val, by omega⟩

theorem whole1 (t : Fin cfg0.N) : iblk m c 1 t = V m c main_v0 := by
  funext y
  blk_simp [iblk, pool_idx t]
  blk_ext [pool_idx t]

theorem whole2 (t : Fin cfg0.N) : iblk m c 2 t = V m c main_v1 := by
  funext y
  blk_simp [iblk, pool_idx t]
  blk_ext [pool_idx t]

theorem tile_apply (t : Fin cfg0.N) (r : Fin 512) (l : Fin 512) :
    iblk m c 0 t (ix3 0 r l) = V m c main_arg0 (ix3 (batchAt t) (rowAt t r) l) := by
  unfold batchAt rowAt
  blk_simp [iblk, pool_idx t]
  blk_ext [pool_idx t]

/-! ## What a tile finds of the one before -/

/-- The rows a point carries to the next are its tile's last. -/
theorem carried (t : Fin cfg0.N) (r : Fin 16) (j : Fin 512) :
    (outsAt0 m c t.val t.isLt).2.2 (ix2 ⟨r.val, by omega⟩ j) = iblk m c 0 t (ix3 0 ⟨496 + r.val, by omega⟩ j) := by
  by_cases h0 : t.val % 8 = 0
  · rw [outsAt0_A m c t h0]
    dsimp only
    exact carried_first c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) ((hcond0_0 t).mpr h0) r j
  · rw [outsAt0_B m c t h0]
    dsimp only
    exact carried_next c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) (outsAt0 m c (t.val - 1) (Nat.lt_of_le_of_lt (Nat.sub_le _ _) t.isLt)).2.2
      (fun h => h0 ((hcond0_0 t).mp h)) r j

/-- The rows before the tile of a point. -/
def before (t : Fin cfg0.N) : S528x512.Idx → EReal :=
  if t.val % 8 = 0 then fun _ => 0 else (outsAt0 m c (t.val - 1) (Nat.lt_of_le_of_lt (Nat.sub_le _ _) t.isLt)).2.2

/-- The inputs some positions back of a row of the tile. -/
theorem ext_back (t : Fin cfg0.N) (r l : Fin 512) (d : ℕ) (hd : d ≤ 16) :
    ext (before m c t) (iblk m c 0 t) (ix2 ⟨16 - d + r.val, by omega⟩ l) = back (V m c main_arg0) (batchAt t) (rowAt t r) l d := by
  have ht := point_lt t
  by_cases hr : d ≤ r.val
  · rw [ext_tile _ _ _ (show 16 ≤ 16 - d + r.val by omega), tile_apply]
    unfold back
    rw [if_pos (show d ≤ (rowAt t r).val by simp only [rowAt]; omega)]
    refine congrArg (fun p => V m c main_arg0 (ix3 (batchAt t) p l)) (Fin.ext ?_)
    simp only [rowAt]
    omega
  · have lt : 16 - d + r.val < 16 := by omega
    have e : ext (before m c t) (iblk m c 0 t) (ix2 ⟨16 - d + r.val, by omega⟩ l) = before m c t (ix2 ⟨16 - d + r.val, by omega⟩ l) :=
      if_pos lt
    rw [e]
    unfold before back
    by_cases h0 : t.val % 8 = 0
    · rw [if_pos h0, if_neg (show ¬ d ≤ (rowAt t r).val by simp only [rowAt]; omega)]
    · rw [if_neg h0, if_pos (show d ≤ (rowAt t r).val by simp only [rowAt]; omega)]
      refine (carried m c ⟨t.val - 1, Nat.lt_of_le_of_lt (Nat.sub_le _ _) t.isLt⟩ ⟨16 - d + r.val, lt⟩ l).trans ?_
      rw [tile_apply]
      refine congrArg₂ (fun b p => V m c main_arg0 (ix3 b p l)) (Fin.ext ?_) (Fin.ext ?_)
      · simp only [batchAt]; omega
      · simp only [rowAt]; omega

theorem posOf_eq (t : Fin cfg0.N) (r : Fin 512) : posOf (grid0.coords t) r = BitVec.ofNat 32 (rowAt t r).val := by
  unfold posOf rowAt
  rw [tile_coord t]
  show BitVec.ofNat 32 (t.val % 8) * BitVec.ofNat 32 512 + BitVec.ofNat 32 r.val = _
  rw [← BitVec.ofNat_mul, ← BitVec.ofNat_add]

/-- The scale, from the array the call takes. -/
def scaleAt (l : Fin 512) : EReal := V m c main_v1 (ix2 0 l)

theorem group_mixed (t : Fin cfg0.N) (g : Fin 4) (n o : ℕ) (hn : n ≤ 16) (ho) (r : Fin 512) (j : Fin 128) :
    groupOut (grid0.coords t) (ext (before m c t) (iblk m c 0 t)) (iblk m c 1 t) (iblk m c 2 t) g n o ho r j
      = mixed (V m c main_arg0) (V m c main_v0) (scaleAt m c) g n o ho (batchAt t) (rowAt t r) j := by
  rw [whole1, whole2]
  unfold groupOut mixed scaleAt windowed
  rw [posOf_eq]
  refine congrArg (· * _) (Finset.sum_congr rfl fun x _ => congrArg (· * _) ?_)
  refine congr (congrArg (fun a b : EReal => a - b) (congrArg (Ideal.div · _) (Finset.sum_congr rfl fun d hd => ?_))) ?_
  · exact ext_back m c t r _ d (by have := Finset.mem_range.mp hd; omega)
  · refine (ext_tile _ _ _ (show 16 ≤ 16 + r.val by omega) _).trans ((tile_apply m c t _ _).trans ?_)
    refine congrArg (fun p => V m c main_arg0 (ix3 (batchAt t) p _)) (Fin.ext ?_)
    simp only [rowAt]
    omega

/-- A group's piece of the result's block. -/
theorem piece_apply (t : Fin cfg0.N) (g : Fin 4) (o : ℕ) (inb) (ho : o = 128 * g.val) (v : S1x512x128.Idx → EReal)
    (hv : ∀ r j, v (ix3 0 r j) = mixed (V m c main_arg0) (V m c main_v0) (scaleAt m c) g (2 ^ (g.val + 1)) o (by omega) (batchAt t) (rowAt t r) j)
    (x : (Rect.unit (s := S1x512x512) ![0, 0, o] ![1, 512, 128] inb).shape.Idx) :
    v x = (fun y : S1x512x512.Idx => feature (V m c main_arg0) (V m c main_v0) (scaleAt m c) (batchAt t) (rowAt t (y 1)) (y 2))
      ((Rect.unit (s := S1x512x512) ![0, 0, o] ![1, 512, 128] inb).emb x) := by
  subst ho
  have hx : x = ix3 0 (x 1) (x 2) := by
    funext d
    fin_cases d
    · exact Subsingleton.elim (α := Fin 1) _ _
    · rfl
    · rfl
  refine (congrArg v hx).trans ((hv (x 1) (x 2)).trans ((feature_eq _ _ _ g (batchAt t) (rowAt t (x 1)) (x 2)).symm.trans ?_))
  refine congrArg₂ (fun r l => feature (V m c main_arg0) (V m c main_v0) (scaleAt m c) (batchAt t) (rowAt t r) l) (Fin.ext ?_) (Fin.ext ?_)
  · rw [Rect.emb_apply]; show (x 1).val = 0 + 1 * (x 1).val; omega
  · rw [Rect.emb_apply]; show 128 * g.val + (x 2).val = 128 * g.val + 1 * (x 2).val; omega

/-- The result's block at a point. -/
theorem pieces_apply (t : Fin cfg0.N) (y : S1x512x512.Idx) :
    View.canon (pieces (grid0.coords t) (ext (before m c t) (iblk m c 0 t)) (iblk m c 0 t) (iblk m c 1 t) (iblk m c 2 t)) y
      = feature (V m c main_arg0) (V m c main_v0) (scaleAt m c) (batchAt t) (rowAt t (y 1)) (y 2) := by
  refine View.canon_apply_of_pieces (Val := Elt Ideal) (S := S1x512x512) (e := .bf16)
    (fun y => feature (V m c main_arg0) (V m c main_v0) (scaleAt m c) (batchAt t) (rowAt t (y 1)) (y 2)) _ (fun p hp x => ?_) y
    (pieces_cover _ _ _ _ _ y)
  have hE : ∀ (r l : Fin 512), iblk m c 0 t (ix3 0 r l)
      = ext (before m c t) (iblk m c 0 t) (ix2 (tileRow r) l) := fun r l =>
    ((ext_tile (before m c t) (iblk m c 0 t) (tileRow r) (show 16 ≤ 16 + r.val by omega) l).trans
      (congrArg (fun r => iblk m c 0 t (ix3 0 r l)) (Fin.ext (by show 16 + r.val - 16 = r.val; omega)))).symm
  simp only [pieces, List.mem_cons, List.not_mem_nil, or_false] at hp
  rcases hp with rfl | rfl | rfl | rfl
  · exact piece_apply m c t 3 384 inb_S1x512x512_S1x512x128_0_0_384 rfl _ (fun r j => (group3_apply _ _ _ _ _ hE r j).trans (group_mixed m c t 3 16 384 (by decide) _ r j)) x
  · exact piece_apply m c t 2 256 inb_S1x512x512_S1x512x128_0_0_256 rfl _ (fun r j => (group2_apply _ _ _ _ _ hE r j).trans (group_mixed m c t 2 8 256 (by decide) _ r j)) x
  · exact piece_apply m c t 1 128 inb_S1x512x512_S1x512x128_0_0_128 rfl _ (fun r j => (group1_apply _ _ _ _ _ hE r j).trans (group_mixed m c t 1 4 128 (by decide) _ r j)) x
  · exact piece_apply m c t 0 0 inb_S1x512x512_S1x512x128_0_0_0 rfl _ (fun r j => (group0_apply _ _ _ _ _ hE r j).trans (group_mixed m c t 0 2 0 (by decide) _ r j)) x

/-- What a point leaves in the result's block. -/
theorem out_apply (t : Fin cfg0.N) (y : S1x512x512.Idx) : (outsAt0 m c t.val t.isLt).1 y
    = feature (V m c main_arg0) (V m c main_v0) (scaleAt m c) (batchAt t) (rowAt t (y 1)) (y 2) := by
  refine Eq.trans ?_ (pieces_apply m c t y)
  unfold before
  by_cases h0 : t.val % 8 = 0
  · rw [outsAt0_A m c t h0, if_pos h0]
    dsimp only
    rw [out_first c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) ((hcond0_0 t).mpr h0)]
  · rw [outsAt0_B m c t h0, if_neg h0]
    dsimp only
    rw [out_next c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) (outsAt0 m c (t.val - 1) (Nat.lt_of_le_of_lt (Nat.sub_le _ _) t.isLt)).2.2
      (fun h => h0 ((hcond0_0 t).mp h))]

/-- What a point leaves in the history's block. -/
theorem hist_apply (t : Fin cfg0.N) (r : Fin 16) (j : Fin 512) : (outsAt0 m c t.val t.isLt).2.1 (ix3 0 r j)
    = V m c main_arg0 (ix3 (batchAt t) (rowAt t ⟨496 + r.val, by omega⟩) j) := by
  refine Eq.trans ?_ (tile_apply m c t ⟨496 + r.val, by omega⟩ j)
  by_cases h0 : t.val % 8 = 0
  · rw [outsAt0_A m c t h0]
    dsimp only
    exact hist_first c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) ((hcond0_0 t).mpr h0) r j
  · rw [outsAt0_B m c t h0]
    dsimp only
    exact hist_next c (grid0.coords t) (ms0_0 t) (hs0_0 t) (ms0_1 t) (hs0_1 t) (ms0_2 t) (hs0_2 t) (ms0_3 t) (hs0_3 t) (ms0_4 t)
      (hs0_4 t) scM0_0 (Memref.isWhole_whole _) (iblk m c 0 t) (iblk m c 1 t) (iblk m c 2 t) (outsAt0 m c (t.val - 1) (Nat.lt_of_le_of_lt (Nat.sub_le _ _) t.isLt)).2.2
      (fun h => h0 ((hcond0_0 t).mp h)) r j

/-! ## The arrays -/

/-- The pooling's array. -/
theorem pool_arr : (dats m 0 c).arrAt 3 cfg0.N = fun i : S4x4096x512.Idx =>
    feature (V m c main_arg0) (V m c main_v0) (scaleAt m c) (i 0) (i 1) (i 2) := by
  refine (dats m 0 c).arrAt_eq_of_covers 3 _ (by decide +kernel) fun t hf y => ?_
  blk_simp
  rw [after0_3]
  refine (out_apply m c t y).trans ?_
  show feature _ _ _ _ _ _ = feature _ _ _ _ _ _
  refine congr (congrArg₂ (feature (V m c main_arg0) (V m c main_v0) (scaleAt m c)) (Fin.ext ?_) (Fin.ext ?_)) (Fin.ext ?_)
  · unfold batchAt
    blk_simp [pool_idx t]
  · unfold rowAt
    blk_simp [pool_idx t]
  · blk_simp [pool_idx t]

/-- The history's array: the last 16 inputs of each batch. -/
theorem hist_arr : (dats m 0 c).arrAt 4 cfg0.N = fun i : S4x16x512.Idx =>
    V m c main_arg0 (ix3 (i 0) ⟨4080 + (i 1).val, by have : (i 1).val < 16 := (i 1).isLt; omega⟩ (i 2)) := by
  refine (dats m 0 c).arrAt_eq_of_covers 4 _ (by decide +kernel) fun t hf y => ?_
  have ht := (flush0_4 t).mp hf
  blk_simp
  rw [after0_4]
  refine (Eq.trans (congrArg _ ?_) (hist_apply m c t (y 1) (y 2))).trans ?_
  · funext d; fin_cases d
    · exact Subsingleton.elim (α := Fin 1) _ _
    · rfl
    · rfl
  · unfold batchAt rowAt
    blk_simp [pool_idx t]
    blk_ext [pool_idx t]

end Cert.Layer.Pool

end
-- ==== Proof.PoolRun.lean ====
/-
  The pooling's run: its two results, as functions of the arguments.
-/
module

public import proofs.«01_k».proof.Proof.PoolArrays

@[expose] public section

set_option maxRecDepth 16384
set_option backward.isDefEq.respectTransparency.types false

noncomputable section

namespace Cert.Layer.Pool

open Idealize.ShloMosaic Idealize.ShloMosaic.TcCoe Idealize.SL.Sem Idealize.ShloMosaic.Tactic
open Cert.Kernel5Ideal Cert.Kernel5Ideal.Gen

/-! ## The results -/

/-- The pooling of every batch. -/
def poolOf (u : S4x4096x512.Idx → EReal) (w : S4x128x128.Idx → EReal) (s : S512.Idx → EReal) (i : S4x4096x512.Idx) : EReal :=
  feature u w (fun l => s (ix1 l)) (i 0) (i 1) (i 2)

/-- The last 15 inputs of every batch. -/
def lastOf (u : S4x4096x512.Idx → EReal) (i : S4x15x512.Idx) : EReal :=
  u (ix3 (i 0) ⟨4081 + (i 1).val, by have : (i 1).val < 15 := (i 1).isLt; omega⟩ (i 2))

/-! ## The host's operations around the call -/

/-- The scale as a row. -/
def hostScale (s : FVec Ideal S512 .f32) : FVec Ideal S1x512 .f32 := shapeCast S1x512 s shapeCasts_S512_S1x512

theorem hostScale_apply (s : FVec Ideal S512 .f32) (l : Fin 512) : hostScale s (ix2 0 l) = s (ix1 l) := by
  pointwise [hostScale]

/-- The last 15 of 16 rows. -/
def dropFirst (h : FVec Ideal S4x16x512 .f32) : FVec Ideal S4x15x512 .f32 :=
  extractStridedSlice S4x15x512 ![0, 1, 0] h slices_S4x16x512_S4x15x512_0_1_0

theorem dropFirst_apply (h : FVec Ideal S4x16x512 .f32) (b : Fin 4) (r : Fin 15) (l : Fin 512) :
    dropFirst h (ix3 b r l) = h (ix3 b ⟨1 + r.val, by omega⟩ l) := by
  pointwise [dropFirst]

variable (m : (ℓ : Loc nD τ sig) → Buf (Elt Ideal) ℓ) (c : Dev nD)

theorem e_arg0 : V m c main_arg0 = m ((c : Thread nD τ).loc main_arg0) := by
  dsimp only [V, V0, hostOps0, List.flatten, List.append]
  after_results
  try rfl

theorem e_v0 : V m c main_v0 = m ((c : Thread nD τ).loc main_arg1) := by
  dsimp only [V, V0, hostOps0, List.flatten, List.append]
  after_results
  try rfl

theorem e_v1 : V m c main_v1 = hostScale (m ((c : Thread nD τ).loc main_arg2)) := by
  dsimp only [V, V0, hostOps0, List.flatten, List.append]
  after_results
  try rfl

/-- A window's array, when the call has ended. -/
theorem after_arr (w : Fin cfg0.W) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr spec0 (by decide +kernel) c (V0 m c) _ w

theorem tail_hist : Pipeline.afterTail₀ cfgs (dats m) 0 (V0 m) [hostOps1] c main_v3 = dropFirst ((dats m 0 c).arrAt 4 cfg0.N) := by
  unfold Pipeline.afterTail₀
  dsimp only [hostOps1, List.flatten, List.append]
  after_results
  exact congrArg dropFirst (after_arr m c 4)

/-! ## The run -/

theorem pool_run_arr : (dats m 0 c).arrAt 3 cfg0.N
    = poolOf (m ((c : Thread nD τ).loc main_arg0)) (m ((c : Thread nD τ).loc main_arg1)) (m ((c : Thread nD τ).loc main_arg2)) := by
  rw [pool_arr]
  funext i
  have es : scaleAt m c = fun l => m ((c : Thread nD τ).loc main_arg2) (ix1 l) := by
    funext l
    unfold scaleAt
    rw [e_v1]
    exact hostScale_apply _ l
  rw [es, e_arg0, e_v0]
  rfl

theorem hist_run_arr : dropFirst ((dats m 0 c).arrAt 4 cfg0.N) = lastOf (m ((c : Thread nD τ).loc main_arg0)) := by
  rw [hist_arr, e_arg0]
  funext i
  refine (Eq.trans (congrArg _ ?_) (dropFirst_apply _ (i 0) (i 1) (i 2))).trans ?_
  · funext d; fin_cases d <;> rfl
  · unfold lastOf
    refine congrArg (fun p => m ((c : Thread nD τ).loc main_arg0) (ix3 (i 0) p (i 2))) (Fin.ext ?_)
    show 4080 + (1 + (i 1).val) = 4081 + (i 1).val
    omega

/-- The run, with the values of the two results. -/
theorem pool_run (ρ : Dev nD → PrngReg) :
    θ_run defs (onTc (τ := τ) (main (F := Ideal))) ⟨m, fun _ => 0, ρ⟩ (fun r => ∀ c : Dev nD,
      r.2.mem ((c.tc : Thread nD τ).loc main_v2_0)
        = poolOf (m ((c : Thread nD τ).loc main_arg0)) (m ((c : Thread nD τ).loc main_arg1)) (m ((c : Thread nD τ).loc main_arg2))
      ∧ r.2.mem ((c.tc : Thread nD τ).loc main_v3) = lastOf (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have out := fun w => (h c).1 w
  have rest := fun b hb hn => (h c).2 b (Pipeline.mem_restRefs_of b hb hn)
  exact ⟨(out 3).trans (pool_run_arr m c),
    (rest main_v3 (by decide) (by decide)).trans ((tail_hist m c).trans (hist_run_arr m c)),
    (out 0).trans (((dats m 0 c).arrAt_in 0 rfl _).trans (e_arg0 m c)),
    (rest main_arg1 (by decide) (by decide)).trans (W_main_arg1 m (dats m) c),
    (rest main_arg2 (by decide) (by decide)).trans (W_main_arg2 m (dats m) c)⟩

end Cert.Layer.Pool

end
-- ==== Proof.PoolRef.lean ====
/-
  The pooling's reference at one index.
-/
module

public import proofs.«01_k».proof.Proof.PoolRun
public import proofs.«01_k».proof.Proof.Gen.Reference5Ideal.Run
public import proofs.«01_k».proof.Proof.Gen.Reference5Ideal

@[expose] public section

set_option maxRecDepth 16384
set_option backward.isDefEq.respectTransparency.types false

noncomputable section

namespace Cert.Layer.PoolRef

open Idealize.ShloMosaic Idealize.ShloMosaic.TcCoe Idealize.SL.Sem Idealize.ShloMosaic.Tactic Cert.Layer.Pool
open Cert.Reference5Ideal Cert.Reference5Ideal.Gen

/-- The inputs behind 15 zero rows. -/
def padded (u : FVec Ideal S4x4096x512 .f32) : FVec Ideal S4x4111x512 .f32 :=
  concatenate S4x4111x512 1 [⟨S4x15x512, broadcastInDim S4x15x512 ![] bcast_S_S4x15x512 (constant S_ .f32 0x00000000#32)⟩, ⟨S4x4096x512, u⟩]
    concatenates_S4x15x512_S4x4096x512_S4x4111x512_d1

theorem padded_back (u : FVec Ideal S4x4096x512 .f32) (b : Fin 4) (p : Fin 4096) (l : Fin 512) (d : ℕ) (hd : d ≤ 15) :
    padded u (ix3 b ⟨15 - d + p.val, by omega⟩ l) = back u b p l d := by
  pointwise [padded, back]
  by_cases h : d ≤ p.val
  · rw [dif_neg (by omega), if_pos h]
    exact congrArg (fun r => u (ix3 b r l)) (Fin.ext (by show 15 - d + p.val - 15 = p.val - d; omega))
  · rw [dif_pos (by omega), if_neg h]

/-- The last 15 rows of the inputs. -/
theorem hist_ref (u : FVec Ideal S4x4096x512 .f32) :
    extractStridedSlice S4x15x512 ![0, 4096, 0] (padded u) slices_S4x4111x512_S4x15x512_0_4096_0 = lastOf u := by
  funext i
  pointwise [padded, lastOf]
  rw [dif_neg (by omega)]
  exact congrArg (fun r => u (ix3 (i 0) r (i 2))) (Fin.ext (by show 4096 + (i 1).val - 15 = 4081 + (i 1).val; omega))

theorem slices_shifted (d o : ℕ) (hd : d ≤ 15) (ho : o + 128 ≤ 512) : Shape.Slices S4x4111x512 ![0, d, o] S4x4096x128 :=
  ⟨rfl, fun a => by
    fin_cases a
    · show 0 + 4 ≤ 4; omega
    · show d + 4096 ≤ 4111; omega
    · show o + 128 ≤ 512; omega⟩

theorem slices_grouped (o : ℕ) (ho : o + 128 ≤ 512) : Shape.Slices S4x4096x512 ![0, 0, o] S4x4096x128 :=
  ⟨rfl, fun a => by
    fin_cases a
    · show 0 + 4 ≤ 4; omega
    · show 0 + 4096 ≤ 4096; omega
    · show o + 128 ≤ 512; omega⟩

/-- Features of one group. -/
def grouped (u : FVec Ideal S4x4096x512 .f32) (o : ℕ) (ho : o + 128 ≤ 512) : FVec Ideal S4x4096x128 .f32 :=
  extractStridedSlice S4x4096x128 ![0, 0, o] u (slices_grouped o ho)

/-- Features of one group, some positions back. -/
def shifted (u : FVec Ideal S4x4096x512 .f32) (d o : ℕ) (ho : o + 128 ≤ 512) : FVec Ideal S4x4096x128 .f32 :=
  extractStridedSlice S4x4096x128 ![0, 15 - d, o] (padded u) (slices_shifted (15 - d) o (Nat.sub_le _ _) ho)

/-- The sum of one group's features and of those up to some positions back. -/
def total (u : FVec Ideal S4x4096x512 .f32) (o : ℕ) (ho : o + 128 ≤ 512) : ℕ → FVec Ideal S4x4096x128 .f32
  | 0 => grouped u o ho
  | n + 1 => addf (total u o ho n) (shifted u (n + 1) o ho)

theorem grouped_apply (u : FVec Ideal S4x4096x512 .f32) (o : ℕ) (ho : o + 128 ≤ 512) (b : Fin 4) (p : Fin 4096) (j : Fin 128) :
    grouped u o ho (ix3 b p j) = u (ix3 b p ⟨o + j.val, by omega⟩) := by
  pointwise [grouped]

theorem shifted_apply (u : FVec Ideal S4x4096x512 .f32) (d o : ℕ) (hd : d ≤ 15) (ho : o + 128 ≤ 512) (b : Fin 4) (p : Fin 4096) (j : Fin 128) :
    shifted u d o ho (ix3 b p j) = back u b p ⟨o + j.val, by omega⟩ d := by
  refine Eq.trans ?_ (padded_back u b p ⟨o + j.val, by omega⟩ d hd)
  pointwise [shifted]

theorem total_apply (u : FVec Ideal S4x4096x512 .f32) (o : ℕ) (ho : o + 128 ≤ 512) (b : Fin 4) (p : Fin 4096) (j : Fin 128) :
    ∀ n, n ≤ 15 → total u o ho n (ix3 b p j) = ∑ d ∈ Finset.range (n + 1), back u b p ⟨o + j.val, by omega⟩ d
  | 0, _ => by
    rw [Finset.sum_range_one]
    refine (grouped_apply u o ho b p j).trans ?_
    unfold back
    rw [if_pos (Nat.zero_le _)]
    rfl
  | n + 1, hn => by
    rw [Finset.sum_range_succ, ← total_apply u o ho b p j n (by omega), ← shifted_apply u (n + 1) o hn ho b p j]
    rfl

/-- A group's window sums, by the rows that each window holds, less the inputs. -/
def lessMean (n : BitVec 32) (total x : FVec Ideal S4x4096x128 .f32) : FVec Ideal S4x4096x1x128 .f32 :=
  broadcastInDim S4x4096x1x128 ![0, 1, 3] bcast_S4x4096x128_S4x4096x1x128_0_1_3 (subf (Host.divf total (broadcastInDim S4x4096x128 ![0, 1, 2] bcast_S1x4096x1_S4x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 n))))))) x)

theorem lessMean_apply (n : BitVec 32) (total x : FVec Ideal S4x4096x128 .f32) (b : Fin 4) (p : Fin 4096) (j : Fin 128) :
    lessMean n total x (ix4 b p 0 j) = Ideal.div (total (ix3 b p j)) (counted (BitVec.ofNat 32 p.val) n) - x (ix3 b p j) := by
  pointwise [lessMean]
  rfl

/-- The groups' features behind their matrices, scaled. -/
def behind (w : FVec Ideal S4x128x128 .f32) (s : FVec Ideal S512 .f32) (x0 x1 x2 x3 : FVec Ideal S4x4096x1x128 .f32) : FVec Ideal S4x4096x512 .bf16 :=
  truncf .bf16 (mulf (shapeCast _ (transpose S4x4096x4x128 [2, 3, 0, 1] (Host.dotGeneral dot_S4x128x128_S4x4096x4x128_S4x128x4x4096_1_3_2_01_0_2 none w (concatenate S4x4096x4x128 2 [⟨S4x4096x1x128, x0⟩, ⟨S4x4096x1x128, x1⟩, ⟨S4x4096x1x128, x2⟩, ⟨S4x4096x1x128, x3⟩] concatenates_S4x4096x1x128_S4x4096x1x128_S4x4096x1x128_S4x4096x1x128_S4x4096x4x128_d2)) transposes_S4x128x4x4096_S4x4096x4x128_2_3_0_1) shapeCasts_S4x4096x4x128_S4x4096x512) (broadcastInDim S4x4096x512 ![0, 1, 2] bcast_S1x1x512_S4x4096x512_0_1_2 (broadcastInDim S1x1x512 ![2] bcast_S512_S1x1x512_2 s))) bitsLt_bf16_f32

theorem behind_apply (w : FVec Ideal S4x128x128 .f32) (s : FVec Ideal S512 .f32) (x0 x1 x2 x3 : FVec Ideal S4x4096x1x128 .f32)
    (b : Fin 4) (p : Fin 4096) (g : Fin 4) (j : Fin 128) :
    behind w s x0 x1 x2 x3 (ix3 b p ⟨128 * g.val + j.val, by omega⟩)
      = (∑ x : Fin 128, (![x0, x1, x2, x3] g) (ix4 b p 0 x) * w (ix3 g x j)) * s (ix1 ⟨128 * g.val + j.val, by omega⟩) := by
  pointwise [behind]
  refine congrArg (· * _) (Finset.sum_congr rfl fun x _ => (mul_comm _ _).trans (congrArg (· * _) ?_))
  fin_cases g <;> rfl

/-- One group's features less their means. -/
def group (u : FVec Ideal S4x4096x512 .f32) (n : ℕ) (o : ℕ) (ho : o + 128 ≤ 512) : FVec Ideal S4x4096x1x128 .f32 :=
  lessMean (BitVec.ofNat 32 (n + 1)) (total u o ho n) (grouped u o ho)

theorem group_apply (u : FVec Ideal S4x4096x512 .f32) (n o : ℕ) (hn : n ≤ 15) (ho : o + 128 ≤ 512) (b : Fin 4) (p : Fin 4096) (j : Fin 128) :
    group u n o ho (ix4 b p 0 j) = Ideal.div (∑ d ∈ Finset.range (n + 1), back u b p ⟨o + j.val, by omega⟩ d)
      (counted (BitVec.ofNat 32 p.val) (BitVec.ofNat 32 (n + 1))) - u (ix3 b p ⟨o + j.val, by omega⟩) :=
  (lessMean_apply _ _ _ b p j).trans (congrArg₂ (fun a x => Ideal.div a _ - x) (total_apply u o ho b p j n hn) (grouped_apply u o ho b p j))

/-- The reference's pooling. -/
def pooling (u : FVec Ideal S4x4096x512 .f32) (w : FVec Ideal S4x128x128 .f32) (s : FVec Ideal S512 .f32) : FVec Ideal S4x4096x512 .bf16 :=
  behind w s (group u 1 0 (by decide)) (group u 3 128 (by decide)) (group u 7 256 (by decide)) (group u 15 384 (by decide))

theorem groups_apply (u : FVec Ideal S4x4096x512 .f32) (g : Fin 4) (b : Fin 4) (p : Fin 4096) (j : Fin 128) :
    (![group u 1 0 (by decide), group u 3 128 (by decide), group u 7 256 (by decide), group u 15 384 (by decide)] g) (ix4 b p 0 j)
      = Ideal.div (∑ d ∈ Finset.range (2 ^ (g.val + 1)), back u b p ⟨128 * g.val + j.val, by omega⟩ d)
        (counted (BitVec.ofNat 32 p.val) (BitVec.ofNat 32 (2 ^ (g.val + 1)))) - u (ix3 b p ⟨128 * g.val + j.val, by omega⟩) := by
  fin_cases g
  · exact group_apply u 1 0 (by decide) (by decide) b p j
  · exact group_apply u 3 128 (by decide) (by decide) b p j
  · exact group_apply u 7 256 (by decide) (by decide) b p j
  · exact group_apply u 15 384 (by decide) (by decide) b p j

theorem pooling_eq (u : FVec Ideal S4x4096x512 .f32) (w : FVec Ideal S4x128x128 .f32) (s : FVec Ideal S512 .f32) :
    pooling u w s = poolOf u w s := by
  funext i
  obtain ⟨g, j, hg⟩ : ∃ (g : Fin 4) (j : Fin 128), i 2 = (⟨128 * g.val + j.val, by omega⟩ : Fin 512) := by
    have h : (i 2).val < 512 := (i 2).isLt
    exact ⟨⟨(i 2).val / 128, by omega⟩, ⟨(i 2).val % 128, by omega⟩, Fin.ext (by show (i 2).val = 128 * ((i 2).val / 128) + (i 2).val % 128; omega)⟩
  have hi : i = ix3 (i 0) (i 1) ⟨128 * g.val + j.val, by omega⟩ := by
    rw [← hg]
    funext d; fin_cases d <;> rfl
  unfold poolOf
  rw [hg, feature_eq]
  refine (congrArg _ hi).trans ((behind_apply w s _ _ _ _ (i 0) (i 1) g j).trans ?_)
  unfold mixed
  exact congrArg (· * _) (Finset.sum_congr rfl fun x _ => congrArg (· * _) (groups_apply u g (i 0) (i 1) x))

variable (m : (ℓ : Loc nD τ sig) → Buf (Elt Ideal) ℓ) (c : Dev nD)

/-- The reference's first result. -/
theorem res_eq : Value.res_main_v110 m c = pooling (m ((c.tc : Thread nD τ).loc main_arg0)) (m ((c.tc : Thread nD τ).loc main_arg1))
    (m ((c.tc : Thread nD τ).loc main_arg2)) := rfl

end Cert.Layer.PoolRef

end
-- ==== Proof.PoolValue.lean ====
/-
  The pooling's certificate: the kernel and the reference end with the same two results.
-/
module

public import proofs.«01_k».proof.Defs
public import proofs.«01_k».proof.Proof.PoolRef

@[expose] public section

set_option backward.isDefEq.respectTransparency.types false

noncomputable section

namespace Cert.Layer

open Idealize.ShloMosaic Idealize.SL.Sem

/-- The reference's run, as the claims state it. -/
theorem pool_ref_frame : Cert.quiescent_Reference5Ideal (hReference5Ideal := Cert.Reference5Ideal.Gen.facts) := fun m g _ =>
  (θ_run _ _ _).mono (fun _ h => ⟨fun c => (h c).2.2, Idealize.ShloMosaic.sem_eq_zero_of_no_sems (by decide) _⟩) (Cert.Reference5Ideal.Value.run m g)

theorem pool_value : Cert.algebraic_Kernel5Ideal_Reference5Ideal (hKernel5Ideal := Cert.Kernel5Ideal.Gen.facts)
    (hReference5Ideal := Cert.Reference5Ideal.Gen.facts) := by
  intro m g m' g' _ agree
  refine ⟨fun c => _, fun c => _, Pool.pool_run m g, ?_⟩
  refine (θ_run _ _ _).mono (fun r h c => ?_) (Cert.Reference5Ideal.Value.run m' g')
  obtain ⟨e0, e1, e2⟩ := agree c
  obtain ⟨h0, h1, rest⟩ := h c
  refine ⟨h0.trans ?_, h1.trans ?_, rest⟩
  · rw [PoolRef.res_eq, e0, e1, e2]
    exact PoolRef.pooling_eq _ _ _
  · rw [e0]
    exact PoolRef.hist_ref _

end Cert.Layer

end
-- ==== Proof.lean ====
/-
  The certificate: the prompt's attention, the merge of the two branches, and the projections of the prompts and of the
  samples, and the prompts' pooling.

  The attention is two calls: the first appends to each head's queries and keys the decays as further features, the
  second takes the softmax blockwise, with a running maximum and running sums. The reference takes the softmax of the
  whole row. Both are `Attn.attend`: the average of the values up to the query's position, weighted by the exponentials
  of the scores. `Online` is the running softmax over any list of scores; `Payloads`, `Trip` and `Block` are the second
  call's body; `BlockValue` and `Attend` its result array; `Augment` and `Arrays` the first call's; `Entry` the host's
  preparation; `Run` the run; `RefValue` and `RefAttend` the reference.

  The merge is one call, row by row: `Rows` is its mathematics on one row; `MergePayloads` the body, `MergeArrays` the
  result arrays, `MergeEntry` the host's preparation, `MergeRef` the reference and `MergeValue` the claim.

  The prompts' projection is one call, row by row: `ProjectRows` is its mathematics on one row; `ProjectPayloads` the body,
  `ProjectArrays` the result arrays, `ProjectEntry` the host's preparation, `ProjectRun` the run with the host's
  operations after the call, `ProjectRef` the reference and `ProjectValue` the claim. `Finite` is the preconditions.

  The samples' projection is the same body without its transposes: `SamplePayloads` says so, `SampleArrays` to
  `SampleValue` are its result arrays, preparation, run, reference and claim.

  The prompts' pooling is one call, tile by tile, each tile leaving its last rows to the next: `PoolBody` is the body,
  `PoolArrays` what is carried and the result arrays, `PoolRun` the run with the host's operations, `PoolRef` the reference
  and `PoolValue` the claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Run
public import proofs.«01_k».proof.Proof.RefAttend
public import proofs.«01_k».proof.Proof.MergeValue
public import proofs.«01_k».proof.Proof.Finite
public import proofs.«01_k».proof.Proof.ProjectValue
public import proofs.«01_k».proof.Proof.SampleValue
public import proofs.«01_k».proof.Proof.PoolValue
public import Idealize.ShloMosaic.Adequacy
public import Idealize.ShloMosaic.Init

@[expose] public section

set_option backward.isDefEq.respectTransparency.types false

noncomputable section

namespace Cert.Proof

open Idealize.ShloMosaic Idealize.SL.Sem Cert.Attn Cert.Finite

/-- The precondition's side conditions. -/
theorem pre_facts : Cert.Pre_finite.Facts := ⟨by decide, by decide, by decide, by decide⟩

/-- What the precondition says of the arguments. -/
theorem finite (q k v : Cert.KernelIdeal.S4x4096x8x64.Idx → EReal) (C : Cert.KernelIdeal.S4x4096x8.Idx → EReal)
    (h : @Cert.Pre_finite.fn pre_facts Ideal _ q k v C = fun _ => 1#1) :
    (∀ i, ∃ x : ℝ, q i = x) ∧ (∀ i, ∃ x : ℝ, k i = x) ∧ ∀ i, ∃ x : ℝ, C i = x := by
  have h' : ∀ (i0 : Fin 4) (i1 : Fin 4096) (i2 : Fin 8) (i3 : Fin 64),
      IntOp.andi (IntOp.andi (small (q (ix4 i0 i1 i2 i3))) (small (k (ix4 i0 i1 i2 i3)))) (small (C (ix3 i0 i1 i2))) = 1#1 := by
    intro i0 i1 i2 i3
    refine Eq.trans ?_ (congrFun h (ix4 i0 i1 i2 i3))
    symm
    pointwise [Cert.Pre_finite.fn]
    rfl
  refine ⟨fun i => ?_, fun i => ?_, fun i => ?_⟩
  · have e : i = ix4 (i 0) (i 1) (i 2) (i 3) := by funext d; fin_cases d <;> rfl
    rw [e]
    exact real_of_small (and_ones (and_ones (h' (i 0) (i 1) (i 2) (i 3))).1).1
  · have e : i = ix4 (i 0) (i 1) (i 2) (i 3) := by funext d; fin_cases d <;> rfl
    rw [e]
    exact real_of_small (and_ones (and_ones (h' (i 0) (i 1) (i 2) (i 3))).1).2
  · have e : i = ix3 (i 0) (i 1) (i 2) := by funext d; fin_cases d <;> rfl
    rw [e]
    exact real_of_small (and_ones (h' (i 0) (i 1) (i 2) 0)).2

/-- Equal arguments give equal results. -/
theorem ref_congr {q q' k k' v v' : FVec Ideal Cert.ReferenceIdeal.S4x4096x8x64 .f32} {C C' : FVec Ideal Cert.ReferenceIdeal.S4x4096x8 .f32}
    (eq : q = q') (ek : k = k') (ev : v = v') (eC : C = C') :
    Ref.average (Ref.probs (Ref.weights (Ref.logits q k C))) v = Ref.average (Ref.probs (Ref.weights (Ref.logits q' k' C'))) v' := by
  subst eq ek ev eC
  rfl

/-- The reference's run, as the claims state it. -/
theorem ref_frame : Cert.quiescent_ReferenceIdeal (hReferenceIdeal := Cert.ReferenceIdeal.Gen.facts) := fun m g _ =>
  (θ_run _ _ _).mono (fun _ h => ⟨fun c => (h c).2, Idealize.ShloMosaic.sem_eq_zero_of_no_sems (by decide) _⟩) (Cert.ReferenceIdeal.Value.run m g)

theorem value : Cert.algebraic_KernelIdeal_ReferenceIdeal_pre_finite (hKernelIdeal := Cert.KernelIdeal.Gen.facts)
    (hReferenceIdeal := Cert.ReferenceIdeal.Gen.facts) (hPre_finite := pre_facts) := by
  intro m g m' g' pre agree
  have fin := fun c => finite _ _ _ _ (pre c)
  have hq : ∀ (c : Dev Cert.KernelIdeal.nD) i, ∃ x : ℝ, flat (m ((c.tc : Thread _ _).loc Cert.KernelIdeal.main_arg0)) i * scale = x := fun c i => by
    obtain ⟨x, hx⟩ := (fin c).1 (ix4 (i 0) (i 1) (headOf (i 2)) ⟨(i 2).val % 64, by omega⟩)
    exact ⟨x * (1 / 8), by rw [Ref.scale_eq, EReal.coe_mul, ← hx]; rfl⟩
  refine ⟨fun c => attend (fun i => flat (m ((c.tc : Thread _ _).loc Cert.KernelIdeal.main_arg0)) i * scale)
    (flat (m ((c.tc : Thread _ _).loc Cert.KernelIdeal.main_arg1))) (m ((c.tc : Thread _ _).loc Cert.KernelIdeal.main_arg3))
    (flat (m ((c.tc : Thread _ _).loc Cert.KernelIdeal.main_arg2))), ?_, ?_⟩
  · refine (θ_run _ _ _).mono (fun r h c => ⟨(h c).1.trans ?_, (h c).2⟩) (Cert.Attn.kernel_run m g)
    exact kernel_value m g c (hq c) (fun i => (fin c).2.1 _) _ rfl (fin c).2.2
  · refine (θ_run _ _ _).mono (fun r h c => ⟨(h c).1.trans ?_, (h c).2⟩) (Cert.ReferenceIdeal.Value.run m' g')
    rw [Ref.res_eq]
    obtain ⟨e0, e1, e2, e3⟩ := agree c
    exact (ref_congr e0 e1 e2 e3).trans (Ref.ref_value _ _ _ _ (fin c).1 (fin c).2.1 (fin c).2.2)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts, rows_facts, samples_facts,
  fun m g _ => Cert.Kernel.Gen.frame m g,
  fun m g _ => Cert.KernelIdeal.Gen.frame m g,
  fun m g _ => Cert.KernelIdeal.Gen.frame m g,
  ref_frame, fun m g _ => ref_frame m g trivial,
  fun m g _ => Cert.Kernel2.Gen.frame m g,
  fun m g _ => Cert.Kernel2Ideal.Gen.frame m g,
  Cert.Layer.merge_ref_frame,
  fun m g _ => Cert.Kernel3.Gen.frame m g,
  fun m g _ => Cert.Kernel3Ideal.Gen.frame m g,
  fun m g _ => Cert.Kernel3Ideal.Gen.frame m g,
  Cert.Layer.project_ref_frame, fun m g _ => Cert.Layer.project_ref_frame m g trivial,
  fun m g _ => Cert.Kernel4.Gen.frame m g,
  fun m g _ => Cert.Kernel4Ideal.Gen.frame m g,
  fun m g _ => Cert.Kernel4Ideal.Gen.frame m g,
  Cert.Layer.sample_ref_frame, fun m g _ => Cert.Layer.sample_ref_frame m g trivial,
  fun m g _ => Cert.Kernel5.Gen.frame m g,
  fun m g _ => Cert.Kernel5Ideal.Gen.frame m g,
  Cert.Layer.pool_ref_frame,
  trivial, value, trivial, Cert.Layer.merge_value, trivial, Cert.Layer.project_value,
  trivial, Cert.Layer.sample_value, trivial, Cert.Layer.pool_value⟩

end Cert.Proof

end
